-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .bf16 0xCE6E#16 ⊥
  ∧ IdealRules.named_const.Statement Cert.KernelIdeal.κ "log2e" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_table : Cert.Pre_in_table.Facts) (hPre_pre : Cert.Pre_pre.Facts),
    quiescent_Kernel (hKernel := hKernel) (hPre_in_table := hPre_in_table)
    ∧ quiescent_KernelIdeal (hKernelIdeal := hKernelIdeal) (hPre_in_table := hPre_in_table)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_in_table.lean ====
abbrev S1024x10 : Shape := ⟨2, ![1024, 10]⟩
abbrev S100000x64 : Shape := ⟨2, ![100000, 64]⟩
abbrev S100000 : Shape := ⟨1, ![100000]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel

variable [Facts]

def fn {F : FTy → Type} [FloatOps F] (main_arg0 : IVec S1024x10 32) (main_arg1 : FVec F S100000x64 .f32) (main_arg2 : FVec F S100000x64 .f32) (main_arg3 : FVec F S100000 .f32) : IVec S_ 1 :=
  let main_c : IVec S_ 32 := constantI S_ 32 0#32
  let main_v0 : IVec S1024x10 32 := broadcastInDim S1024x10 ![] bcast_S_S1024x10 main_c
  let main_v1 : IVec S1024x10 1 := cmpi .sge main_arg0 main_v0
  let main_c_0 : IVec S_ 32 := constantI S_ 32 100000#32
  let main_v2 : IVec S1024x10 32 := broadcastInDim S1024x10 ![] bcast_S_S1024x10 main_c_0
  let main_v3 : IVec S1024x10 1 := cmpi .slt main_arg0 main_v2
  let main_v4 : IVec S1024x10 1 := andi main_v1 main_v3
  let main_c_1 : IVec S_ 1 := constantI S_ 1 1#1
  let main_v5 : IVec S_ 1 := (fun x v => Host.reduce IntOp.andi x v reducesTo_S1024x10_S_d0_1 h_S_) main_v4 main_c_1
  main_v5
-- ==== Pre_pre.lean ====
abbrev S1024x10 : Shape := ⟨2, ![1024, 10]⟩
abbrev S100000x64 : Shape := ⟨2, ![100000, 64]⟩
abbrev S100000 : Shape := ⟨1, ![100000]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : IVec S1024x10 32) (main_arg1 : FVec F S100000x64 .f32) (main_arg2 : FVec F S100000x64 .f32) (main_arg3 : FVec F S100000 .f32) : IVec S_ 1 :=
  let main_c : IVec S_ 32 := constantI S_ 32 0#32
  let main_v0 : IVec S1024x10 32 := broadcastInDim S1024x10 ![] bcast_S_S1024x10 main_c
  let main_v1 : IVec S1024x10 1 := cmpi .sge main_arg0 main_v0
  let main_c_0 : IVec S_ 32 := constantI S_ 32 100000#32
  let main_v2 : IVec S1024x10 32 := broadcastInDim S1024x10 ![] bcast_S_S1024x10 main_c_0
  let main_v3 : IVec S1024x10 1 := cmpi .slt main_arg0 main_v2
  let main_v4 : IVec S1024x10 1 := andi main_v1 main_v3
  let main_c_1 : IVec S_ 1 := constantI S_ 1 1#1
  let main_v5 : IVec S_ 1 := (fun x v => Host.reduce IntOp.andi x v reducesTo_S1024x10_S_d0_1 h_S_) main_v4 main_c_1
  let main_v6 : FVec F S100000x64 .f32 := Host.absf main_arg1
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : IVec S_ 1 := andi main_v5 main_v9
  let main_v11 : FVec F S100000x64 .f32 := Host.absf main_arg2
  let main_cst_3 : FVec F S_ .f32 := constant S_ .f32 0x7F800000#32
  let main_v12 : FVec F S100000x64 .f32 := broadcastInDim S100000x64 ![] bcast_S_S100000x64 main_cst_3
  let main_v13 : IVec S100000x64 1 := cmpf .olt main_v11 main_v12
  let main_c_4 : IVec S_ 1 := constantI S_ 1 1#1
  let main_v14 : IVec S_ 1 := (fun x v => Host.reduce IntOp.andi x v reducesTo_S100000x64_S_d0_1 h_S_) main_v13 main_c_4
  let main_v15 : IVec S_ 1 := andi main_v10 main_v14
  main_v15
-- ==== Kernel.lean ====
abbrev S1024x10 : Shape := ⟨2, ![1024, 10]⟩
abbrev S100000x64 : Shape := ⟨2, ![100000, 64]⟩
abbrev S100000 : Shape := ⟨1, ![100000]⟩
abbrev S1x10240 : Shape := ⟨2, ![1, 10240]⟩
abbrev S50000x128 : Shape := ⟨2, ![50000, 128]⟩
abbrev S10240x128 : Shape := ⟨2, ![10240, 128]⟩
abbrev S1x128 : Shape := ⟨2, ![1, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x16 : Shape := ⟨2, ![1, 16]⟩
abbrev S16 : Shape := ⟨1, ![16]⟩
abbrev S1x128x128 : Shape := ⟨3, ![1, 128, 128]⟩
abbrev S128x128 : Shape := ⟨2, ![128, 128]⟩
abbrev S128 : Shape := ⟨1, ![128]⟩
abbrev S1024x1280 : Shape := ⟨2, ![1024, 1280]⟩
abbrev S100000x1 : Shape := ⟨2, ![100000, 1]⟩
abbrev S100000x65 : Shape := ⟨2, ![100000, 65]⟩
abbrev S102400x128 : Shape := ⟨2, ![102400, 128]⟩
abbrev S2400 : Shape := ⟨1, ![2400]⟩
abbrev S8192x64 : Shape := ⟨2, ![8192, 64]⟩
abbrev S8192 : Shape := ⟨1, ![8192]⟩
abbrev S1x8192 : Shape := ⟨2, ![1, 8192]⟩
abbrev S1x1 : Shape := ⟨2, ![1, 1]⟩
abbrev S102400x1 : Shape := ⟨2, ![102400, 1]⟩
abbrev S1x102400x1 : Shape := ⟨3, ![1, 102400, 1]⟩
abbrev S1x1x1 : Shape := ⟨3, ![1, 1, 1]⟩
abbrev S128x102400 : Shape := ⟨2, ![128, 102400]⟩
abbrev S1024x128 : Shape := ⟨2, ![1024, 128]⟩
abbrev S1024x1 : Shape := ⟨2, ![1024, 1]⟩
abbrev S1024x64 : Shape := ⟨2, ![1024, 64]⟩
abbrev S1024 : Shape := ⟨1, ![1024]⟩
abbrev S1024x102400 : Shape := ⟨2, ![1024, 102400]⟩
abbrev S128x4096 : Shape := ⟨2, ![128, 4096]⟩
abbrev S1024x4096 : Shape := ⟨2, ![1024, 4096]⟩
abbrev S1024x100000 : Shape := ⟨2, ![1024, 100000]⟩

abbrev nBuf : Table → Nat
  | .hbm => 31
  | .local .tc .vmem => 16
  | .local .scVector .vmem => 3
  | _ => 0

abbrev bufTy : (tb : Table) → Fin (nBuf tb) → BufTy
  | .hbm, ⟨0, _⟩ => ⟨S1024x10, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S1x10240, .i32⟩
  | .hbm, ⟨5, _⟩ => ⟨S50000x128, .f32⟩
  | .hbm, ⟨6, _⟩ => ⟨S10240x128, .f32⟩
  | .hbm, ⟨7, _⟩ => ⟨S1024x1280, .f32⟩
  | .hbm, ⟨8, _⟩ => ⟨S100000x1, .f32⟩
  | .hbm, ⟨9, _⟩ => ⟨S100000x65, .f32⟩
  | .hbm, ⟨10, _⟩ => ⟨S100000x65, .bf16⟩
  | .hbm, ⟨11, _⟩ => ⟨S_, .i32⟩
  | .hbm, ⟨12, _⟩ => ⟨S_, .bf16⟩
  | .hbm, ⟨13, _⟩ => ⟨S102400x128, .bf16⟩
  | .hbm, ⟨14, _⟩ => ⟨S2400, .bf16⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S102400x128, .bf16⟩
  | .hbm, ⟨21, _⟩ => ⟨S1x128, .f32⟩
  | .hbm, ⟨22, _⟩ => ⟨S128x102400, .bf16⟩
  | .hbm, ⟨23, _⟩ => ⟨S1024x128, .bf16⟩
  | .hbm, ⟨24, _⟩ => ⟨S1024x1, .f32⟩
  | .hbm, ⟨25, _⟩ => ⟨S1024x102400, .bf16⟩
  | .hbm, ⟨26, _⟩ => ⟨S1024x1, .f32⟩
  | .hbm, ⟨27, _⟩ => ⟨S1024x100000, .bf16⟩
  | .hbm, ⟨28, _⟩ => ⟨S1024x100000, .f32⟩
  | .hbm, ⟨29, _⟩ => ⟨S1024x100000, .f32⟩
  | .hbm, ⟨30, _⟩ => ⟨S1024x100000, .f32⟩
  | .local .tc .vmem, ⟨0, _⟩ => ⟨S2400, .bf16⟩
  | .local .tc .vmem, ⟨1, _⟩ => ⟨S102400x128, .bf16⟩
  | .local .tc .vmem, ⟨2, _⟩ => ⟨S1x128, .f32⟩
  | .local .tc .vmem, ⟨3, _⟩ => ⟨S1x128, .f32⟩
  | .local .tc .vmem, ⟨4, _⟩ => ⟨S1024x1280, .f32⟩
  | .local .tc .vmem, ⟨5, _⟩ => ⟨S1024x10, .i32⟩
  | .local .tc .vmem, ⟨6, _⟩ => ⟨S1024x128, .bf16⟩
  | .local .tc .vmem, ⟨7, _⟩ => ⟨S1024x1, .f32⟩
  | .local .tc .vmem, ⟨8, _⟩ => ⟨S1024x128, .bf16⟩
  | .local .tc .vmem, ⟨9, _⟩ => ⟨S1024x1, .f32⟩
  | .local .tc .vmem, ⟨10, _⟩ => ⟨S128x4096, .bf16⟩
  | .local .tc .vmem, ⟨11, _⟩ => ⟨S128x4096, .bf16⟩
  | .local .tc .vmem, ⟨12, _⟩ => ⟨S1024x4096, .bf16⟩
  | .local .tc .vmem, ⟨13, _⟩ => ⟨S1024x4096, .bf16⟩
  | .local .tc .vmem, ⟨14, _⟩ => ⟨S1024x1, .f32⟩
  | .local .tc .vmem, ⟨15, _⟩ => ⟨S1024x128, .f32⟩
  | .local .scVector .vmem, ⟨0, _⟩ => ⟨S1x128, .i32⟩
  | .local .scVector .vmem, ⟨1, _⟩ => ⟨S2x1x128, .i32⟩
  | .local .scVector .vmem, ⟨2, _⟩ => ⟨S2x128x128, .f32⟩
  | _, _ => ⟨S1024x10, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v1_scv : Ref sig .scVector := ⟨.hbm, 5, rfl⟩
abbrev main_v0_scv : Ref sig .scVector := ⟨.hbm, 4, rfl⟩
abbrev main_v2_scv : Ref sig .scVector := ⟨.hbm, 6, rfl⟩
abbrev cc1_stg0_0 : Ref sig .tc := ⟨.vmem, 0, rfl⟩
abbrev cc2_stg0_0 : Ref sig .tc := ⟨.vmem, 1, rfl⟩
abbrev cc2_stg1_0 : Ref sig .tc := ⟨.vmem, 2, rfl⟩
abbrev cc3_stg0_0 : Ref sig .tc := ⟨.vmem, 3, rfl⟩
abbrev cc3_stg1_0 : Ref sig .tc := ⟨.vmem, 4, rfl⟩
abbrev cc3_stg2_0 : Ref sig .tc := ⟨.vmem, 5, rfl⟩
abbrev cc3_stg3_0 : Ref sig .tc := ⟨.vmem, 6, rfl⟩
abbrev cc3_stg4_0 : Ref sig .tc := ⟨.vmem, 7, rfl⟩
abbrev cc4_stg0_0 : Ref sig .tc := ⟨.vmem, 8, rfl⟩
abbrev cc4_stg1_0 : Ref sig .tc := ⟨.vmem, 9, rfl⟩
abbrev cc4_stg2_0 : Ref sig .tc := ⟨.vmem, 10, rfl⟩
abbrev cc4_stg2_1 : Ref sig .tc := ⟨.vmem, 11, rfl⟩
abbrev cc4_stg3_0 : Ref sig .tc := ⟨.vmem, 12, rfl⟩
abbrev cc4_stg3_1 : Ref sig .tc := ⟨.vmem, 13, rfl⟩
abbrev cc4_stg4_0 : Ref sig .tc := ⟨.vmem, 14, rfl⟩
abbrev cc4_scratch0 : Ref sig .tc := ⟨.vmem, 15, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_sem0_0 : DmaSem sig := 6
abbrev cc2_sem0_0 : DmaSem sig := 7
abbrev cc2_sem1_0 : DmaSem sig := 8
abbrev cc3_sem0_0 : DmaSem sig := 9
abbrev cc3_sem1_0 : DmaSem sig := 10
abbrev cc3_sem2_0 : DmaSem sig := 11
abbrev cc3_sem3_0 : DmaSem sig := 12
abbrev cc3_sem4_0 : DmaSem sig := 13
abbrev cc4_sem0_0 : DmaSem sig := 14
abbrev cc4_sem1_0 : DmaSem sig := 15
abbrev cc4_sem2_0 : DmaSem sig := 16
abbrev cc4_sem2_1 : DmaSem sig := 17
abbrev cc4_sem3_0 : DmaSem sig := 18
abbrev cc4_sem3_1 : DmaSem sig := 19
abbrev cc4_sem4_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_58_r0 : BitVec 32 := 2#32
  let v80_r0 : BitVec 32 := Scalar.remui c0_i32_25_r0 c2_i32_58_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k0_off3 : Fin 1 → Nat :=
  let c0_i32_25_r0 : BitVec 32 := 0#32
  let c2_i32_58_r0 : BitVec 32 := 2#32
  let v80_r0 : BitVec 32 := Scalar.remui c0_i32_25_r0 c2_i32_58_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg7_r0 : BitVec 32) : Fin 3 → Nat :=
  let c2_i32_106_r0 : BitVec 32 := 2#32
  let v168_r0 : BitVec 32 := Scalar.remui arg7_r0 c2_i32_106_r0
  let c0_i32_107_r0 : BitVec 32 := 0#32
  let c0_i32_108_r0 : BitVec 32 := 0#32
  ![v168_r0.toNat, 0, 0]
def k0_cond3 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k0_t1
  let c1_i32_58_r0 : BitVec 32 := 1#32
  let v80_r0 : BitVec 32 := Scalar.muli c1_i32_58_r0 v5
  let c2_i32_71_r0 : BitVec 32 := 2#32
  let v102_r0 : BitVec 32 := Scalar.subi v80_r0 c2_i32_71_r0
  let c1_i32_72_r0 : BitVec 32 := 1#32
  let v103_r0 : BitVec 32 := Scalar.addi v102_r0 c1_i32_72_r0
  let v104_r0 : BitVec 1 := Scalar.cmpi .sge arg6_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg11_r0 : BitVec 32) : Fin 2 → Nat :=
  let c0_i32_109_r0 : BitVec 32 := 0#32
  let c128_i32_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_r0 v95_r0
  ![0, v169_r0.toNat]
def k0_off6 (arg7_r0 : BitVec 32) : Fin 1 → Nat :=
  let c2_i32_106_r0 : BitVec 32 := 2#32
  let v168_r0 : BitVec 32 := Scalar.remui arg7_r0 c2_i32_106_r0
  ![v168_r0.toNat]
def k0_off7 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k0_cond4 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k0_t1
  let c0_i32_59_r0 : BitVec 32 := 0#32
  let v81_r0 : BitVec 1 := Scalar.cmpi .eq arg6_r0 c0_i32_59_r0
  let v120_r0 : BitVec 1 := Scalar.ori v119_r0 v81_r0
  let c0_i32_81_r0 : BitVec 32 := 0#32
  let v121_r0 : BitVec 1 := Scalar.cmpi .sge arg6_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg11_r0 : BitVec 32) : Fin 2 → Nat :=
  let c0_i32_109_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_r0 v84_r0
  ![0, v168_r0.toNat]
def k0_off9 (arg8_r0 : BitVec 32) : Fin 1 → Nat :=
  let c2_i32_106_r0 : BitVec 32 := 2#32
  let v169_r0 : BitVec 32 := Scalar.remui arg8_r0 c2_i32_106_r0
  ![v169_r0.toNat]
@[reducible] def k0_t2_loop : Scf.Loop 32 :=
  let c0_i32_87_r0 : BitVec 32 := 0#32
  let c8_i32_r0 : BitVec 32 := 8#32
  let v133_r0 : BitVec 32 := Scalar.addi c0_i32_87_r0 c8_i32_r0
  let c1_i32_88_r0 : BitVec 32 := 1#32
  ⟨c0_i32_87_r0, v133_r0, c1_i32_88_r0⟩
def k0_off10 (arg8_r0 : BitVec 32) : Fin 3 → Nat :=
  let c2_i32_85_r0 : BitVec 32 := 2#32
  let v131_r0 : BitVec 32 := Scalar.remui arg8_r0 c2_i32_85_r0
  let c0_i32_109_r0 : BitVec 32 := 0#32
  let c0_i32_110_r0 : BitVec 32 := 0#32
  ![v131_r0.toNat, 0, 0]

def k0_chk2 (i : grid0.Coords) (arg8_r0 : BitVec 32) : Prop :=
  (∀ (k0_h1 : k0_cond1 i = 1#1), ∀ a, (k0_off10 arg8_r0) a + S1x1x128.size a ≤ S2x1x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x1x128.size a ≤ S2x1x128.size a := fun i arg8_r0 k0_hw2 k0_h1 => k0_hw2 k0_h1

def k0_off11 (k0_t2 : Fin k0_t2_loop.trips) : Fin 2 → Nat :=
  let c0_i32_108_r0 : BitVec 32 := 0#32
  let v172_r0 : Index := Scalar.indexCast c0_i32_108_r0
  let c0_i32_107_r0 : BitVec 32 := 0#32
  let c0_i32_87_r0 : BitVec 32 := 0#32
  let c1_i32_88_r0 : BitVec 32 := 1#32
  let arg12_r0 : BitVec 32 := Scf.iv c0_i32_87_r0 c1_i32_88_r0 k0_t2
  let c16_i32_106_r0 : BitVec 32 := 16#32
  let v168_r0 : BitVec 32 := Scalar.muli arg12_r0 c16_i32_106_r0
  let v169_r0 : BitVec 32 := Scalar.addi c0_i32_107_r0 v168_r0
  let v173_r0 : Index := Scalar.indexCast v169_r0
  ![0, v173_r0.toNat]
def k0_off12 (arg9_r0 : BitVec 32) : Fin 3 → Nat :=
  let c2_i32_86_r0 : BitVec 32 := 2#32
  let v132_r0 : BitVec 32 := Scalar.remui arg9_r0 c2_i32_86_r0
  let c0_i32_106_r1 : BitVec 32 := 0#32
  let c0_i32_107_r1 : BitVec 32 := 0#32
  ![v132_r0.toNat, 0, 0]

def k0_chk3 (i : grid0.Coords) (arg9_r0 : BitVec 32) : Prop :=
  (∀ (k0_h1 : k0_cond1 i = 1#1), ∀ a, (k0_off12 arg9_r0) a + S1x128x128.size a ≤ S2x128x128.size a)
theorem k0_off12_inb : ∀ (i : grid0.Coords) (arg9_r0 : BitVec 32) (k0_hw3 : k0_chk3 i arg9_r0), ∀ (k0_h1 : k0_cond1 i = 1#1), ∀ a, (k0_off12 arg9_r0) a + S1x128x128.size a ≤ S2x128x128.size a := fun i arg9_r0 k0_hw3 k0_h1 => k0_hw3 k0_h1

def k0_off13 (arg9_r0 : BitVec 32) : Fin 3 → Nat :=
  let c2_i32_106_r0 : BitVec 32 := 2#32
  let v168_r0 : BitVec 32 := Scalar.remui arg9_r0 c2_i32_106_r0
  let c0_i32_107_r0 : BitVec 32 := 0#32
  let c0_i32_108_r0 : BitVec 32 := 0#32
  ![v168_r0.toNat, 0, 0]
def k0_cond7 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_92_r0 : BitVec 32 := 0#32
  let v142_r0 : BitVec 1 := Scalar.cmpi .ne v141_r0 c0_i32_92_r0
  v142_r0

def k0_off14 (i : grid0.Coords) (arg11_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_r0 v84_r0
  let c0_i32_109_r0 : BitVec 32 := 0#32
  ![v169_r0.toNat, 0]
def k0_off15 (arg9_r0 : BitVec 32) : Fin 1 → Nat :=
  let c2_i32_106_r0 : BitVec 32 := 2#32
  let v168_r0 : BitVec 32 := Scalar.remui arg9_r0 c2_i32_106_r0
  ![v168_r0.toNat]
def k0_off16 (arg10_r0 : BitVec 32) : Fin 3 → Nat :=
  let c2_i32_106_r0 : BitVec 32 := 2#32
  let v168_r0 : BitVec 32 := Scalar.remui arg10_r0 c2_i32_106_r0
  let c0_i32_107_r0 : BitVec 32 := 0#32
  let c0_i32_108_r0 : BitVec 32 := 0#32
  ![v168_r0.toNat, 0, 0]
def k0_cond9 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k0_t1
  let c0_i32_59_r0 : BitVec 32 := 0#32
  let v81_r0 : BitVec 1 := Scalar.cmpi .eq arg6_r0 c0_i32_59_r0
  let true_98_r0 : BitVec 1 := 1#1
  let v153_r0 : BitVec 1 := Scalar.xori v81_r0 true_98_r0
  let v154_r0 : BitVec 1 := Scalar.andi v152_r0 v153_r0
  let v155_r0 : BitVec 32 := Scalar.extui v154_r0
  let c0_i32_99_r0 : BitVec 32 := 0#32
  let v156_r0 : BitVec 1 := Scalar.cmpi .ne v155_r0 c0_i32_99_r0
  v156_r0

def k0_off17 (i : grid0.Coords) (arg11_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_r0 v90_r0
  let c0_i32_109_r0 : BitVec 32 := 0#32
  ![v169_r0.toNat, 0]
def k0_off18 (arg10_r0 : BitVec 32) : Fin 1 → Nat :=
  let c2_i32_106_r0 : BitVec 32 := 2#32
  let v168_r0 : BitVec 32 := Scalar.remui arg10_r0 c2_i32_106_r0
  ![v168_r0.toNat]

def k0_chk1 (i : grid0.Coords) (k0_t1 : Fin (k0_t1_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h3 : k0_cond3 i k0_t1 arg11_r0 = 1#1), ∀ a, (k0_off4 arg7_r0) a + S1x1x128.size a ≤ S2x1x128.size a) ∧
  (∀ (k0_h1 : k0_cond1 i = 1#1), ∀ (k0_h3 : k0_cond3 i k0_t1 arg11_r0 = 1#1), ∀ a, (k0_off5 i arg11_r0) a + S1x128.size a ≤ S1x10240.size a) ∧
  (∀ (k0_h1 : k0_cond1 i = 1#1), ∀ (k0_h3 : k0_cond3 i k0_t1 arg11_r0 = 1#1), ∀ a, (k0_off6 arg7_r0) a + S1.size a ≤ S2.size a) ∧
  (∀ (k0_h1 : k0_cond1 i = 1#1), ∀ (k0_h4 : k0_cond4 i k0_t1 arg11_r0 = 1#1), ∀ a, (k0_off7 arg8_r0) a + S1x1x128.size a ≤ S2x1x128.size a) ∧
  (∀ (k0_h1 : k0_cond1 i = 1#1), ∀ (k0_h4 : k0_cond4 i k0_t1 arg11_r0 = 1#1), ∀ a, (k0_off8 i arg11_r0) a + S1x128.size a ≤ S1x10240.size a) ∧
  (∀ (k0_h1 : k0_cond1 i = 1#1), ∀ (k0_h4 : k0_cond4 i k0_t1 arg11_r0 = 1#1), ∀ a, (k0_off9 arg8_r0) a + S1.size a ≤ S2.size a) ∧
  (∀ (k0_h1 : k0_cond1 i = 1#1), ∀ (k0_h7 : k0_cond7 i k0_t1 arg11_r0 = 1#1), ∀ a, (k0_off13 arg9_r0) a + S1x128x128.size a ≤ S2x128x128.size a) ∧
  (∀ (k0_h1 : k0_cond1 i = 1#1), ∀ (k0_h7 : k0_cond7 i k0_t1 arg11_r0 = 1#1), ∀ a, (k0_off14 i arg11_r0) a + S128x128.size a ≤ S10240x128.size a) ∧
  (∀ (k0_h1 : k0_cond1 i = 1#1), ∀ (k0_h7 : k0_cond7 i k0_t1 arg11_r0 = 1#1), ∀ a, (k0_off15 arg9_r0) a + S1.size a ≤ S2.size a) ∧
  (∀ (k0_h1 : k0_cond1 i = 1#1), ∀ (k0_h9 : k0_cond9 i k0_t1 arg11_r0 = 1#1), ∀ a, (k0_off16 arg10_r0) a + S1x128x128.size a ≤ S2x128x128.size a) ∧
  (∀ (k0_h1 : k0_cond1 i = 1#1), ∀ (k0_h9 : k0_cond9 i k0_t1 arg11_r0 = 1#1), ∀ a, (k0_off17 i arg11_r0) a + S128x128.size a ≤ S10240x128.size a) ∧
  (∀ (k0_h1 : k0_cond1 i = 1#1), ∀ (k0_h9 : k0_cond9 i k0_t1 arg11_r0 = 1#1), ∀ a, (k0_off18 arg10_r0) a + S1.size a ≤ S2.size a)
theorem k0_off4_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off4 arg7_r0) a + S1x1x128.size a ≤ S2x1x128.size a := fun i k0_t1 arg7_r0 arg8_r0 arg9_r0 arg10_r0 arg11_r0 k0_hw1 k0_h1 k0_h3 => k0_hw1.1 k0_h1 k0_h3
theorem k0_off5_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off5 i arg11_r0) a + S1x128.size a ≤ S1x10240.size a := fun i k0_t1 arg7_r0 arg8_r0 arg9_r0 arg10_r0 arg11_r0 k0_hw1 k0_h1 k0_h3 => k0_hw1.2.1 k0_h1 k0_h3
theorem k0_off6_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off6 arg7_r0) a + S1.size a ≤ S2.size a := fun i k0_t1 arg7_r0 arg8_r0 arg9_r0 arg10_r0 arg11_r0 k0_hw1 k0_h1 k0_h3 => k0_hw1.2.2.1 k0_h1 k0_h3
theorem k0_off7_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off7 arg8_r0) a + S1x1x128.size a ≤ S2x1x128.size a := fun i k0_t1 arg7_r0 arg8_r0 arg9_r0 arg10_r0 arg11_r0 k0_hw1 k0_h1 k0_h4 => k0_hw1.2.2.2.1 k0_h1 k0_h4
theorem k0_off8_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off8 i arg11_r0) a + S1x128.size a ≤ S1x10240.size a := fun i k0_t1 arg7_r0 arg8_r0 arg9_r0 arg10_r0 arg11_r0 k0_hw1 k0_h1 k0_h4 => k0_hw1.2.2.2.2.1 k0_h1 k0_h4
theorem k0_off9_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off9 arg8_r0) a + S1.size a ≤ S2.size a := fun i k0_t1 arg7_r0 arg8_r0 arg9_r0 arg10_r0 arg11_r0 k0_hw1 k0_h1 k0_h4 => k0_hw1.2.2.2.2.2.1 k0_h1 k0_h4
theorem k0_off13_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off13 arg9_r0) a + S1x128x128.size a ≤ S2x128x128.size a := fun i k0_t1 arg7_r0 arg8_r0 arg9_r0 arg10_r0 arg11_r0 k0_hw1 k0_h1 k0_h7 => k0_hw1.2.2.2.2.2.2.1 k0_h1 k0_h7
theorem k0_off14_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off14 i arg11_r0) a + S128x128.size a ≤ S10240x128.size a := fun i k0_t1 arg7_r0 arg8_r0 arg9_r0 arg10_r0 arg11_r0 k0_hw1 k0_h1 k0_h7 => k0_hw1.2.2.2.2.2.2.2.1 k0_h1 k0_h7
theorem k0_off15_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off15 arg9_r0) a + S1.size a ≤ S2.size a := fun i k0_t1 arg7_r0 arg8_r0 arg9_r0 arg10_r0 arg11_r0 k0_hw1 k0_h1 k0_h7 => k0_hw1.2.2.2.2.2.2.2.2.1 k0_h1 k0_h7
theorem k0_off16_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off16 arg10_r0) a + S1x128x128.size a ≤ S2x128x128.size a := fun i k0_t1 arg7_r0 arg8_r0 arg9_r0 arg10_r0 arg11_r0 k0_hw1 k0_h1 k0_h9 => k0_hw1.2.2.2.2.2.2.2.2.2.1 k0_h1 k0_h9
theorem k0_off17_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off17 i arg11_r0) a + S128x128.size a ≤ S10240x128.size a := fun i k0_t1 arg7_r0 arg8_r0 arg9_r0 arg10_r0 arg11_r0 k0_hw1 k0_h1 k0_h9 => k0_hw1.2.2.2.2.2.2.2.2.2.2.1 k0_h1 k0_h9
theorem k0_off18_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off18 arg10_r0) a + S1.size a ≤ S2.size a := fun i k0_t1 arg7_r0 arg8_r0 arg9_r0 arg10_r0 arg11_r0 k0_hw1 k0_h1 k0_h9 => k0_hw1.2.2.2.2.2.2.2.2.2.2.2 k0_h1 k0_h9

@[reducible] def k0_t3_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off19 (arg7_r0 : BitVec 32) : Fin 3 → Nat :=
  let c2_i32_106_r0 : BitVec 32 := 2#32
  let v168_r0 : BitVec 32 := Scalar.remui arg7_r0 c2_i32_106_r0
  let c0_i32_107_r0 : BitVec 32 := 0#32
  let c0_i32_108_r0 : BitVec 32 := 0#32
  ![v168_r0.toNat, 0, 0]
def k0_cond10 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c1_i32_58_r0 : BitVec 32 := 1#32
  let v80_r0 : BitVec 32 := Scalar.muli c1_i32_58_r0 v5
  let c2_i32_71_r0 : BitVec 32 := 2#32
  let v102_r0 : BitVec 32 := Scalar.subi v80_r0 c2_i32_71_r0
  let c1_i32_72_r0 : BitVec 32 := 1#32
  let v103_r0 : BitVec 32 := Scalar.addi v102_r0 c1_i32_72_r0
  let v104_r0 : BitVec 1 := Scalar.cmpi .sge arg6_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off20 (i : grid0.Coords) (arg11_r0 : BitVec 32) : Fin 2 → Nat :=
  let c0_i32_109_r0 : BitVec 32 := 0#32
  let c128_i32_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_r0 v95_r0
  ![0, v169_r0.toNat]
def k0_off21 (arg7_r0 : BitVec 32) : Fin 1 → Nat :=
  let c2_i32_106_r0 : BitVec 32 := 2#32
  let v168_r0 : BitVec 32 := Scalar.remui arg7_r0 c2_i32_106_r0
  ![v168_r0.toNat]
def k0_off22 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k0_cond11 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c0_i32_59_r0 : BitVec 32 := 0#32
  let v81_r0 : BitVec 1 := Scalar.cmpi .eq arg6_r0 c0_i32_59_r0
  let v120_r0 : BitVec 1 := Scalar.ori v119_r0 v81_r0
  let c0_i32_81_r0 : BitVec 32 := 0#32
  let v121_r0 : BitVec 1 := Scalar.cmpi .sge arg6_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off23 (i : grid0.Coords) (arg11_r0 : BitVec 32) : Fin 2 → Nat :=
  let c0_i32_109_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_r0 v84_r0
  ![0, v168_r0.toNat]
def k0_off24 (arg8_r0 : BitVec 32) : Fin 1 → Nat :=
  let c2_i32_106_r0 : BitVec 32 := 2#32
  let v169_r0 : BitVec 32 := Scalar.remui arg8_r0 c2_i32_106_r0
  ![v169_r0.toNat]
@[reducible] def k0_t4_loop : Scf.Loop 32 :=
  let c0_i32_87_r0 : BitVec 32 := 0#32
  let c8_i32_r0 : BitVec 32 := 8#32
  let v133_r0 : BitVec 32 := Scalar.addi c0_i32_87_r0 c8_i32_r0
  let c1_i32_88_r0 : BitVec 32 := 1#32
  ⟨c0_i32_87_r0, v133_r0, c1_i32_88_r0⟩
def k0_off25 (arg8_r0 : BitVec 32) : Fin 3 → Nat :=
  let c2_i32_85_r0 : BitVec 32 := 2#32
  let v131_r0 : BitVec 32 := Scalar.remui arg8_r0 c2_i32_85_r0
  let c0_i32_109_r0 : BitVec 32 := 0#32
  let c0_i32_110_r0 : BitVec 32 := 0#32
  ![v131_r0.toNat, 0, 0]

def k0_chk5 (i : grid0.Coords) (k0_t3 : Fin (k0_t3_loop i).trips) (arg8_r0 : BitVec 32) : Prop :=
  (∀ (k0_h1 : k0_cond1 i = 1#1), ∀ a, (k0_off25 arg8_r0) a + S1x1x128.size a ≤ S2x1x128.size a)
theorem k0_off25_inb : ∀ (i : grid0.Coords) (k0_t3 : Fin (k0_t3_loop i).trips) (arg8_r0 : BitVec 32) (k0_hw5 : k0_chk5 i k0_t3 arg8_r0), ∀ (k0_h1 : k0_cond1 i = 1#1), ∀ a, (k0_off25 arg8_r0) a + S1x1x128.size a ≤ S2x1x128.size a := fun i k0_t3 arg8_r0 k0_hw5 k0_h1 => k0_hw5 k0_h1

def k0_off26 (k0_t4 : Fin k0_t4_loop.trips) : Fin 2 → Nat :=
  let c0_i32_108_r0 : BitVec 32 := 0#32
  let v172_r0 : Index := Scalar.indexCast c0_i32_108_r0
  let c0_i32_107_r0 : BitVec 32 := 0#32
  let c0_i32_87_r0 : BitVec 32 := 0#32
  let c1_i32_88_r0 : BitVec 32 := 1#32
  let arg12_r0 : BitVec 32 := Scf.iv c0_i32_87_r0 c1_i32_88_r0 k0_t4
  let c16_i32_106_r0 : BitVec 32 := 16#32
  let v168_r0 : BitVec 32 := Scalar.muli arg12_r0 c16_i32_106_r0
  let v169_r0 : BitVec 32 := Scalar.addi c0_i32_107_r0 v168_r0
  let v173_r0 : Index := Scalar.indexCast v169_r0
  ![0, v173_r0.toNat]
def k0_off27 (arg9_r0 : BitVec 32) : Fin 3 → Nat :=
  let c2_i32_86_r0 : BitVec 32 := 2#32
  let v132_r0 : BitVec 32 := Scalar.remui arg9_r0 c2_i32_86_r0
  let c0_i32_106_r2 : BitVec 32 := 0#32
  let c0_i32_107_r2 : BitVec 32 := 0#32
  ![v132_r0.toNat, 0, 0]

def k0_chk6 (i : grid0.Coords) (k0_t3 : Fin (k0_t3_loop i).trips) (arg9_r0 : BitVec 32) : Prop :=
  (∀ (k0_h1 : k0_cond1 i = 1#1), ∀ a, (k0_off27 arg9_r0) a + S1x128x128.size a ≤ S2x128x128.size a)
theorem k0_off27_inb : ∀ (i : grid0.Coords) (k0_t3 : Fin (k0_t3_loop i).trips) (arg9_r0 : BitVec 32) (k0_hw6 : k0_chk6 i k0_t3 arg9_r0), ∀ (k0_h1 : k0_cond1 i = 1#1), ∀ a, (k0_off27 arg9_r0) a + S1x128x128.size a ≤ S2x128x128.size a := fun i k0_t3 arg9_r0 k0_hw6 k0_h1 => k0_hw6 k0_h1

def k0_off28 (arg9_r0 : BitVec 32) : Fin 3 → Nat :=
  let c2_i32_106_r0 : BitVec 32 := 2#32
  let v168_r0 : BitVec 32 := Scalar.remui arg9_r0 c2_i32_106_r0
  let c0_i32_107_r0 : BitVec 32 := 0#32
  let c0_i32_108_r0 : BitVec 32 := 0#32
  ![v168_r0.toNat, 0, 0]
def k0_cond14 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_92_r0 : BitVec 32 := 0#32
  let v142_r0 : BitVec 1 := Scalar.cmpi .ne v141_r0 c0_i32_92_r0
  v142_r0

def k0_off29 (i : grid0.Coords) (arg11_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_r0 v84_r0
  let c0_i32_109_r0 : BitVec 32 := 0#32
  ![v169_r0.toNat, 0]
def k0_off30 (arg9_r0 : BitVec 32) : Fin 1 → Nat :=
  let c2_i32_106_r0 : BitVec 32 := 2#32
  let v168_r0 : BitVec 32 := Scalar.remui arg9_r0 c2_i32_106_r0
  ![v168_r0.toNat]
def k0_off31 (arg10_r0 : BitVec 32) : Fin 3 → Nat :=
  let c2_i32_106_r0 : BitVec 32 := 2#32
  let v168_r0 : BitVec 32 := Scalar.remui arg10_r0 c2_i32_106_r0
  let c0_i32_107_r0 : BitVec 32 := 0#32
  let c0_i32_108_r0 : BitVec 32 := 0#32
  ![v168_r0.toNat, 0, 0]
def k0_cond16 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c0_i32_59_r0 : BitVec 32 := 0#32
  let v81_r0 : BitVec 1 := Scalar.cmpi .eq arg6_r0 c0_i32_59_r0
  let true_98_r0 : BitVec 1 := 1#1
  let v153_r0 : BitVec 1 := Scalar.xori v81_r0 true_98_r0
  let v154_r0 : BitVec 1 := Scalar.andi v152_r0 v153_r0
  let v155_r0 : BitVec 32 := Scalar.extui v154_r0
  let c0_i32_99_r0 : BitVec 32 := 0#32
  let v156_r0 : BitVec 1 := Scalar.cmpi .ne v155_r0 c0_i32_99_r0
  v156_r0

def k0_off32 (i : grid0.Coords) (arg11_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_r0 v90_r0
  let c0_i32_109_r0 : BitVec 32 := 0#32
  ![v169_r0.toNat, 0]
def k0_off33 (arg10_r0 : BitVec 32) : Fin 1 → Nat :=
  let c2_i32_106_r0 : BitVec 32 := 2#32
  let v168_r0 : BitVec 32 := Scalar.remui arg10_r0 c2_i32_106_r0
  ![v168_r0.toNat]

def k0_chk4 (i : grid0.Coords) (k0_t3 : Fin (k0_t3_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h10 : k0_cond10 i k0_t3 arg11_r0 = 1#1), ∀ a, (k0_off19 arg7_r0) a + S1x1x128.size a ≤ S2x1x128.size a) ∧
  (∀ (k0_h1 : k0_cond1 i = 1#1), ∀ (k0_h10 : k0_cond10 i k0_t3 arg11_r0 = 1#1), ∀ a, (k0_off20 i arg11_r0) a + S1x128.size a ≤ S1x10240.size a) ∧
  (∀ (k0_h1 : k0_cond1 i = 1#1), ∀ (k0_h10 : k0_cond10 i k0_t3 arg11_r0 = 1#1), ∀ a, (k0_off21 arg7_r0) a + S1.size a ≤ S2.size a) ∧
  (∀ (k0_h1 : k0_cond1 i = 1#1), ∀ (k0_h11 : k0_cond11 i k0_t3 arg11_r0 = 1#1), ∀ a, (k0_off22 arg8_r0) a + S1x1x128.size a ≤ S2x1x128.size a) ∧
  (∀ (k0_h1 : k0_cond1 i = 1#1), ∀ (k0_h11 : k0_cond11 i k0_t3 arg11_r0 = 1#1), ∀ a, (k0_off23 i arg11_r0) a + S1x128.size a ≤ S1x10240.size a) ∧
  (∀ (k0_h1 : k0_cond1 i = 1#1), ∀ (k0_h11 : k0_cond11 i k0_t3 arg11_r0 = 1#1), ∀ a, (k0_off24 arg8_r0) a + S1.size a ≤ S2.size a) ∧
  (∀ (k0_h1 : k0_cond1 i = 1#1), ∀ (k0_h14 : k0_cond14 i k0_t3 arg11_r0 = 1#1), ∀ a, (k0_off28 arg9_r0) a + S1x128x128.size a ≤ S2x128x128.size a) ∧
  (∀ (k0_h1 : k0_cond1 i = 1#1), ∀ (k0_h14 : k0_cond14 i k0_t3 arg11_r0 = 1#1), ∀ a, (k0_off29 i arg11_r0) a + S128x128.size a ≤ S10240x128.size a) ∧
  (∀ (k0_h1 : k0_cond1 i = 1#1), ∀ (k0_h14 : k0_cond14 i k0_t3 arg11_r0 = 1#1), ∀ a, (k0_off30 arg9_r0) a + S1.size a ≤ S2.size a) ∧
  (∀ (k0_h1 : k0_cond1 i = 1#1), ∀ (k0_h16 : k0_cond16 i k0_t3 arg11_r0 = 1#1), ∀ a, (k0_off31 arg10_r0) a + S1x128x128.size a ≤ S2x128x128.size a) ∧
  (∀ (k0_h1 : k0_cond1 i = 1#1), ∀ (k0_h16 : k0_cond16 i k0_t3 arg11_r0 = 1#1), ∀ a, (k0_off32 i arg11_r0) a + S128x128.size a ≤ S10240x128.size a) ∧
  (∀ (k0_h1 : k0_cond1 i = 1#1), ∀ (k0_h16 : k0_cond16 i k0_t3 arg11_r0 = 1#1), ∀ a, (k0_off33 arg10_r0) a + S1.size a ≤ S2.size a)
theorem k0_off19_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off19 arg7_r0) a + S1x1x128.size a ≤ S2x1x128.size a := fun i k0_t3 arg7_r0 arg8_r0 arg9_r0 arg10_r0 arg11_r0 k0_hw4 k0_h1 k0_h10 => k0_hw4.1 k0_h1 k0_h10
theorem k0_off20_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off20 i arg11_r0) a + S1x128.size a ≤ S1x10240.size a := fun i k0_t3 arg7_r0 arg8_r0 arg9_r0 arg10_r0 arg11_r0 k0_hw4 k0_h1 k0_h10 => k0_hw4.2.1 k0_h1 k0_h10
theorem k0_off21_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off21 arg7_r0) a + S1.size a ≤ S2.size a := fun i k0_t3 arg7_r0 arg8_r0 arg9_r0 arg10_r0 arg11_r0 k0_hw4 k0_h1 k0_h10 => k0_hw4.2.2.1 k0_h1 k0_h10
theorem k0_off22_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off22 arg8_r0) a + S1x1x128.size a ≤ S2x1x128.size a := fun i k0_t3 arg7_r0 arg8_r0 arg9_r0 arg10_r0 arg11_r0 k0_hw4 k0_h1 k0_h11 => k0_hw4.2.2.2.1 k0_h1 k0_h11
theorem k0_off23_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off23 i arg11_r0) a + S1x128.size a ≤ S1x10240.size a := fun i k0_t3 arg7_r0 arg8_r0 arg9_r0 arg10_r0 arg11_r0 k0_hw4 k0_h1 k0_h11 => k0_hw4.2.2.2.2.1 k0_h1 k0_h11
theorem k0_off24_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off24 arg8_r0) a + S1.size a ≤ S2.size a := fun i k0_t3 arg7_r0 arg8_r0 arg9_r0 arg10_r0 arg11_r0 k0_hw4 k0_h1 k0_h11 => k0_hw4.2.2.2.2.2.1 k0_h1 k0_h11
theorem k0_off28_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off28 arg9_r0) a + S1x128x128.size a ≤ S2x128x128.size a := fun i k0_t3 arg7_r0 arg8_r0 arg9_r0 arg10_r0 arg11_r0 k0_hw4 k0_h1 k0_h14 => k0_hw4.2.2.2.2.2.2.1 k0_h1 k0_h14
theorem k0_off29_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off29 i arg11_r0) a + S128x128.size a ≤ S10240x128.size a := fun i k0_t3 arg7_r0 arg8_r0 arg9_r0 arg10_r0 arg11_r0 k0_hw4 k0_h1 k0_h14 => k0_hw4.2.2.2.2.2.2.2.1 k0_h1 k0_h14
theorem k0_off30_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off30 arg9_r0) a + S1.size a ≤ S2.size a := fun i k0_t3 arg7_r0 arg8_r0 arg9_r0 arg10_r0 arg11_r0 k0_hw4 k0_h1 k0_h14 => k0_hw4.2.2.2.2.2.2.2.2.1 k0_h1 k0_h14
theorem k0_off31_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off31 arg10_r0) a + S1x128x128.size a ≤ S2x128x128.size a := fun i k0_t3 arg7_r0 arg8_r0 arg9_r0 arg10_r0 arg11_r0 k0_hw4 k0_h1 k0_h16 => k0_hw4.2.2.2.2.2.2.2.2.2.1 k0_h1 k0_h16
theorem k0_off32_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off32 i arg11_r0) a + S128x128.size a ≤ S10240x128.size a := fun i k0_t3 arg7_r0 arg8_r0 arg9_r0 arg10_r0 arg11_r0 k0_hw4 k0_h1 k0_h16 => k0_hw4.2.2.2.2.2.2.2.2.2.2.1 k0_h1 k0_h16
theorem k0_off33_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off33 arg10_r0) a + S1.size a ≤ S2.size a := fun i k0_t3 arg7_r0 arg8_r0 arg9_r0 arg10_r0 arg11_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off34 (v48_3_r0 : BitVec 32) : Fin 3 → Nat :=
  let c2_i32_58_r0 : BitVec 32 := 2#32
  let v80_r0 : BitVec 32 := Scalar.remui v48_3_r0 c2_i32_58_r0
  let c0_i32_59_r0 : BitVec 32 := 0#32
  let c0_i32_60_r0 : BitVec 32 := 0#32
  ![v80_r0.toNat, 0, 0]

def k0_off35 (i : grid0.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c3_i32 : BitVec 32 := 3#32
  let c2_i32 : BitVec 32 := 2#32
  let v5 : BitVec 32 := Scalar.select v4 c3_i32 c2_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c2_i32_2 : BitVec 32 := 2#32
  let v8 : BitVec 32 := Scalar.muli v3 c2_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off35 i v48_4_r0) a + S128x128.size a ≤ S10240x128.size a)
theorem k0_off35_inb : ∀ (i : grid0.Coords) (v48_4_r0 : BitVec 32) (k0_hw8 : k0_chk8 i v48_4_r0), ∀ (k0_h1 : k0_cond1 i = 1#1), ∀ (k0_h18 : k0_cond18 i = 1#1), ∀ a, (k0_off35 i v48_4_r0) a + S128x128.size a ≤ S10240x128.size a := fun i v48_4_r0 k0_hw8 k0_h1 k0_h18 => k0_hw8 k0_h1 k0_h18

def k0_off36 (v48_3_r0 : BitVec 32) : Fin 1 → Nat :=
  let c2_i32_58_r0 : BitVec 32 := 2#32
  let v80_r0 : BitVec 32 := Scalar.remui v48_3_r0 c2_i32_58_r0
  ![v80_r0.toNat]
def k0_off37 (v48_3_r0 : BitVec 32) : Fin 3 → Nat :=
  let c2_i32_58_r0 : BitVec 32 := 2#32
  let v80_r0 : BitVec 32 := Scalar.remui v48_3_r0 c2_i32_58_r0
  let c0_i32_63_r0 : BitVec 32 := 0#32
  let c0_i32_64_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off34 v48_3_r0) a + S1x128x128.size a ≤ S2x128x128.size a) ∧
  (∀ (k0_h1 : k0_cond1 i = 1#1), ∀ (k0_h18 : k0_cond18 i = 1#1), ∀ a, (k0_off36 v48_3_r0) a + S1.size a ≤ S2.size a) ∧
  (∀ (k0_h1 : k0_cond1 i = 1#1), ∀ (k0_h18 : k0_cond18 i = 1#1), ∀ a, (k0_off37 v48_3_r0) a + S1x128x128.size a ≤ S2x128x128.size a)
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1x128x128.size a ≤ S2x128x128.size a := fun i v48_3_r0 k0_hw7 k0_h1 k0_h18 => k0_hw7.1 k0_h1 k0_h18
theorem k0_off36_inb : ∀ (i : grid0.Coords) (v48_3_r0 : BitVec 32) (k0_hw7 : k0_chk7 i v48_3_r0), ∀ (k0_h1 : k0_cond1 i = 1#1), ∀ (k0_h18 : k0_cond18 i = 1#1), ∀ a, (k0_off36 v48_3_r0) a + S1.size a ≤ S2.size a := fun i v48_3_r0 k0_hw7 k0_h1 k0_h18 => k0_hw7.2.1 k0_h1 k0_h18
theorem k0_off37_inb : ∀ (i : grid0.Coords) (v48_3_r0 : BitVec 32) (k0_hw7 : k0_chk7 i v48_3_r0), ∀ (k0_h1 : k0_cond1 i = 1#1), ∀ (k0_h18 : k0_cond18 i = 1#1), ∀ a, (k0_off37 v48_3_r0) a + S1x128x128.size a ≤ S2x128x128.size a := fun i v48_3_r0 k0_hw7 k0_h1 k0_h18 => k0_hw7.2.2 k0_h1 k0_h18

abbrev grid1 : Pipeline.Grid := .none

abbrev stage1_0 : Fin 1 → Memref sig .tc .vmem S2400 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev grid2 : Pipeline.Grid := .none

abbrev stage2_0 : Fin 1 → Memref sig .tc .vmem S102400x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := .none

abbrev stage3_0 : Fin 1 → Memref sig .tc .vmem S1x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1280 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x10 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1024x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v85 : BitVec 1 := Scalar.cmpi .eq arg0 c24_i32
  let v86 : BitVec 32 := Scalar.extui v85
  let c0_i32_13 : BitVec 32 := 0#32
  let v87 : BitVec 1 := Scalar.cmpi .ne v86 c0_i32_13
  v87

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S128x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1024x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S1024x10 : Shape := ⟨2, ![1024, 10]⟩
abbrev S100000x64 : Shape := ⟨2, ![100000, 64]⟩
abbrev S100000 : Shape := ⟨1, ![100000]⟩
abbrev S_ : Shape := ⟨0, ![]⟩
abbrev S1024x10x1 : Shape := ⟨3, ![1024, 10, 1]⟩
abbrev S1 : Shape := ⟨1, ![1]⟩
abbrev S1x1x1 : Shape := ⟨3, ![1, 1, 1]⟩
abbrev S1024x10x64 : Shape := ⟨3, ![1024, 10, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 49
  | .vmem => 0
  | .smem => 0
  | _ => 0

abbrev bufTy : (tb : Table) → Fin (tcTables nBuf tb) → BufTy
  | .hbm, ⟨0, _⟩ => ⟨S1024x10, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x10, .i32⟩
  | .hbm, ⟨6, _⟩ => ⟨S1024x10, .i1⟩
  | .hbm, ⟨7, _⟩ => ⟨S_, .i32⟩
  | .hbm, ⟨8, _⟩ => ⟨S1024x10, .i32⟩
  | .hbm, ⟨9, _⟩ => ⟨S1024x10, .i32⟩
  | .hbm, ⟨10, _⟩ => ⟨S1024x10, .i32⟩
  | .hbm, ⟨11, _⟩ => ⟨S1024x10x1, .i32⟩
  | .hbm, ⟨12, _⟩ => ⟨S1, .i32⟩
  | .hbm, ⟨13, _⟩ => ⟨S_, .i32⟩
  | .hbm, ⟨14, _⟩ => ⟨S1024x10x1, .i32⟩
  | .hbm, ⟨15, _⟩ => ⟨S1024x10x1, .i1⟩
  | .hbm, ⟨16, _⟩ => ⟨S1x1x1, .i32⟩
  | .hbm, ⟨17, _⟩ => ⟨S1024x10x1, .i32⟩
  | .hbm, ⟨18, _⟩ => ⟨S1024x10x1, .i1⟩
  | .hbm, ⟨19, _⟩ => ⟨S1024x10x1, .i1⟩
  | .hbm, ⟨20, _⟩ => ⟨S_, .i1⟩
  | .hbm, ⟨21, _⟩ => ⟨S1024x10, .i1⟩
  | .hbm, ⟨22, _⟩ => ⟨S1024x10x64, .f32⟩
  | .hbm, ⟨23, _⟩ => ⟨S1024x10x64, .i1⟩
  | .hbm, ⟨24, _⟩ => ⟨S_, .f32⟩
  | .hbm, ⟨25, _⟩ => ⟨S1024x10x64, .f32⟩
  | .hbm, ⟨26, _⟩ => ⟨S1024x10x64, .f32⟩
  | .hbm, ⟨27, _⟩ => ⟨S_, .f32⟩
  | .hbm, ⟨28, _⟩ => ⟨S1024x64, .f32⟩
  | .hbm, ⟨29, _⟩ => ⟨S64x100000, .f32⟩
  | .hbm, ⟨30, _⟩ => ⟨S1024x100000, .f32⟩
  | .hbm, ⟨31, _⟩ => ⟨S1x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x100000, .f32⟩
  | .hbm, ⟨41, _⟩ => ⟨S1024x100000, .f32⟩
  | .hbm, ⟨42, _⟩ => ⟨S1024x100000, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x1, .f32⟩
  | .hbm, ⟨47, _⟩ => ⟨S1024x100000, .f32⟩
  | .hbm, ⟨48, _⟩ => ⟨S1024x100000, .f32⟩
  | _, _ => ⟨S1024x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v7 : Ref sig .tc := ⟨.hbm, 48, rfl⟩

abbrev nD : Nat := 1
abbrev τ : Topo := Topo.v7x

variable {F : FTy → Type} [FloatOps F]
-- ==== Proof.Words.lean ====
/-
  The words of the gather's pipeline: how many steps a tile runs, which step it starts at, and what the five
  words its loop carries are before trip `k`. Every guard and every offset of the loop is settled here, once, by
  evaluating it at all 32 tiles and all trips.
-/
module

public import proofs.«01_k».proof.Proof.Gen.KernelIdeal

@[expose] public section

namespace Cert.Proof.Words

open Cert.KernelIdeal Cert.KernelIdeal.Gen
open Idealize.ShloMosaic

/-- The tile's number: core times sixteen plus subcore. -/
abbrev tid (i : grid0.Coords) : ℕ := (i 0).val * 16 + (i 1).val

/-- The steps a tile runs: three on the first sixteen tiles, two on the others. -/
abbrev nSteps (i : grid0.Coords) : ℕ := (k0_t1_loop i).trips

/-- The first window of a tile. -/
abbrev base (i : grid0.Coords) : ℕ := if tid i < 16 then 3 * tid i else 2 * tid i + 16

/-- The same three numbers as the program computes them: steps, first window, steps again. -/
abbrev n3 (i : grid0.Coords) : BitVec 32 :=
  Scalar.addi (Scalar.addi 0#32 (Scalar.muli (BitVec.ofNat 32 (i 1).val) 1#32)) (Scalar.muli (BitVec.ofNat 32 (i 0).val) 16#32)
abbrev n5 (i : grid0.Coords) : BitVec 32 := Scalar.select (Scalar.cmpi .slt (n3 i) 16#32) 3#32 2#32
abbrev n10 (i : grid0.Coords) : BitVec 32 :=
  Scalar.select (Scalar.cmpi .slt (n3 i) 16#32) (Scalar.muli (n3 i) (n5 i)) (Scalar.addi (Scalar.muli (n3 i) 2#32) 16#32)
abbrev n11 (i : grid0.Coords) : BitVec 32 := Scalar.muli 1#32 (n5 i)

theorem nSteps_eq : ∀ i : grid0.Coords, nSteps i = if tid i < 16 then 3 else 2 := by decide +kernel
theorem nSteps_pos : ∀ i : grid0.Coords, 2 ≤ nSteps i := by decide +kernel
theorem window_lt : ∀ i : grid0.Coords, base i + nSteps i ≤ 80 := by decide +kernel
theorem noRest : ∀ i : grid0.Coords, (k0_t3_loop i).trips = 0 := by decide +kernel

/-- The carried words before trip `k`: inputs started, inputs awaited, outputs started, outputs awaited, local step. -/
abbrev w7 (i : grid0.Coords) (k : ℕ) : BitVec 32 := BitVec.ofNat 32 (if k < nSteps i then k + 1 else k)
abbrev w8 (k : ℕ) : BitVec 32 := BitVec.ofNat 32 k
abbrev w10 (k : ℕ) : BitVec 32 := BitVec.ofNat 32 (k - 1)
abbrev w11 (i : grid0.Coords) (k : ℕ) : BitVec 32 := BitVec.ofNat 32 (if k < nSteps i then k else 0)

abbrev words (i : grid0.Coords) (k : ℕ) : BitVec 32 × BitVec 32 × BitVec 32 × BitVec 32 × BitVec 32 :=
  (w7 i k, w8 k, w8 k, w10 k, w11 i k)

theorem cond1 : ∀ i : grid0.Coords, k0_cond1 i = 1#1 := by decide +kernel
theorem cond2 : ∀ i : grid0.Coords, k0_cond2 i = 1#1 := by decide +kernel
theorem cond3 : ∀ (i : grid0.Coords) (k : Fin (k0_t1_loop i).trips),
    k0_cond3 i k (w11 i k) = 1#1 ↔ k.val + 1 < nSteps i := by decide +kernel
theorem cond4 : ∀ (i : grid0.Coords) (k : Fin (k0_t1_loop i).trips), k0_cond4 i k (w11 i k) = 1#1 := by decide +kernel
theorem cond7 : ∀ (i : grid0.Coords) (k : Fin (k0_t1_loop i).trips), k0_cond7 i k (w11 i k) = 1#1 := by decide +kernel
theorem cond9 : ∀ (i : grid0.Coords) (k : Fin (k0_t1_loop i).trips), k0_cond9 i k (w11 i k) = 1#1 ↔ 0 < k.val := by decide +kernel
theorem cond18 : ∀ i : grid0.Coords, k0_cond18 i = 1#1 := by decide +kernel

theorem chk1 : ∀ (i : grid0.Coords) (k : Fin (k0_t1_loop i).trips),
    k0_chk1 i k (w7 i k) (w8 k) (w8 k) (w10 k) (w11 i k) := by decide +kernel
theorem chk2 : ∀ (i : grid0.Coords) (k : Fin (k0_t1_loop i).trips), k0_chk2 i (w8 k) := by decide +kernel
theorem chk3 : ∀ (i : grid0.Coords) (k : Fin (k0_t1_loop i).trips), k0_chk3 i (w8 k) := by decide +kernel
theorem chk7 : ∀ i : grid0.Coords, k0_chk7 i (w10 (nSteps i)) := by decide +kernel
theorem chk8 : ∀ i : grid0.Coords, k0_chk8 i (w11 i (nSteps i)) := by decide +kernel

/-! ## Offsets: which slot, which window -/

theorem off2 : ∀ i : grid0.Coords, k0_off2 i = ![0, 128 * base i] := by decide +kernel
theorem off4 : ∀ (i : grid0.Coords) (k : Fin (k0_t1_loop i).trips), k0_off4 (w7 i k) = ![(k.val + 1) % 2, 0, 0] := by decide +kernel
theorem off5 : ∀ (i : grid0.Coords) (k : Fin (k0_t1_loop i).trips), k.val + 1 < nSteps i →
    k0_off5 i (w11 i k) = ![0, 128 * (base i + (k.val + 1))] := by decide +kernel
theorem off6 : ∀ (i : grid0.Coords) (k : Fin (k0_t1_loop i).trips), k0_off6 (w7 i k) = ![(k.val + 1) % 2] := by decide +kernel
theorem off7 : ∀ (i : grid0.Coords) (k : Fin (k0_t1_loop i).trips), k0_off7 (w8 k) = ![k.val % 2, 0, 0] := by decide +kernel
theorem off8 : ∀ (i : grid0.Coords) (k : Fin (k0_t1_loop i).trips), k0_off8 i (w11 i k) = ![0, 128 * (base i + k.val)] := by decide +kernel
theorem off9 : ∀ (i : grid0.Coords) (k : Fin (k0_t1_loop i).trips), k0_off9 (w8 k) = ![k.val % 2] := by decide +kernel
theorem off10 : ∀ (i : grid0.Coords) (k : Fin (k0_t1_loop i).trips), k0_off10 (w8 k) = ![k.val % 2, 0, 0] := by decide +kernel
theorem off12 : ∀ (i : grid0.Coords) (k : Fin (k0_t1_loop i).trips), k0_off12 (w8 k) = ![k.val % 2, 0, 0] := by decide +kernel
theorem off13 : ∀ (i : grid0.Coords) (k : Fin (k0_t1_loop i).trips), k0_off13 (w8 k) = ![k.val % 2, 0, 0] := by decide +kernel
theorem off14 : ∀ (i : grid0.Coords) (k : Fin (k0_t1_loop i).trips), k0_off14 i (w11 i k) = ![128 * (base i + k.val), 0] := by decide +kernel
theorem off15 : ∀ (i : grid0.Coords) (k : Fin (k0_t1_loop i).trips), k0_off15 (w8 k) = ![k.val % 2] := by decide +kernel
theorem off16 : ∀ (i : grid0.Coords) (k : Fin (k0_t1_loop i).trips), k0_off16 (w10 k) = ![(k.val - 1) % 2, 0, 0] := by decide +kernel
theorem off17 : ∀ (i : grid0.Coords) (k : Fin (k0_t1_loop i).trips), 0 < k.val →
    k0_off17 i (w11 i k) = ![128 * (base i + (k.val - 1)), 0] := by decide +kernel
theorem off18 : ∀ (i : grid0.Coords) (k : Fin (k0_t1_loop i).trips), k0_off18 (w10 k) = ![(k.val - 1) % 2] := by decide +kernel
theorem off35 : ∀ i : grid0.Coords, k0_off35 i (w11 i (nSteps i)) = ![128 * (base i + (nSteps i - 1)), 0] := by decide +kernel
theorem off36 : ∀ i : grid0.Coords, k0_off36 (w10 (nSteps i)) = ![(nSteps i - 1) % 2] := by decide +kernel
theorem off37 : ∀ i : grid0.Coords, k0_off37 (w10 (nSteps i)) = ![(nSteps i - 1) % 2, 0, 0] := by decide +kernel

end Cert.Proof.Words

end
-- ==== Proof.Slots.lean ====
/-
  The places the gather's pipeline moves between: the two input slots and the two output slots of a tile, their
  semaphores, the 80 windows of the index list and of the gathered rows, and what holding each of them free, in
  flight or full means. The rules at the end run one copy, one wait or one gather between those places.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ValueIdxCore
public import Idealize.ShloMosaic.Lib.WritesUnit
public import Idealize.ShloMosaic.Lib.VecWindow
public import Idealize.ShloMosaic.Lib.Tactic

@[expose] public section

noncomputable section

namespace Cert.Proof.Slots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.ValueIdx (ix2 eq_ix2)
open Cert.Proof.Words

variable {F : FTy → Type} {U : Type} [URA U] [CountersIn U]

local notation "𝕄" => MT nD τ sig (HIx 1) (Elt F) ℕ U ℕ

/-! ## Buffers -/

abbrev eV : Memref sig Kind.scVector Space.hbm S50000x128 EltTy.f32 := Memref.whole main_v1_scv
abbrev xV : Memref sig Kind.scVector Space.hbm S1x10240 EltTy.i32 := Memref.whole main_v0_scv
abbrev oV : Memref sig Kind.scVector Space.hbm S10240x128 EltTy.f32 := Memref.whole main_v2_scv
abbrev sV : Memref sig Kind.scVector Space.vmem S1x128 EltTy.i32 := Memref.whole cc0_scratch0
abbrev iB : Memref sig Kind.scVector Space.vmem S2x1x128 EltTy.i32 := Memref.whole cc0_scoped0
abbrev oB : Memref sig Kind.scVector Space.vmem S2x128x128 EltTy.f32 := Memref.whole cc0_scoped2

abbrev xLoc (d : Dev nD) : Loc nD τ sig := (SparseCore.T d).loc main_v0
abbrev eLoc (d : Dev nD) : Loc nD τ sig := (SparseCore.T d).loc main_v1
abbrev oLoc (d : Dev nD) : Loc nD τ sig := (SparseCore.T d).loc main_v2

/-- The thread of the tile at coordinates `L`. -/
abbrev thr (d : Dev nD) (L : grid0.Coords) : Thread nD τ := V d ((L 0).castLE hcore0) ((L 1).castLE hsub0)

/-! ## Slots and windows -/

theorem inSlot_inb (p : Fin 2) : ∀ a, (![p.val, 0, 0] : Fin 3 → ℕ) a + S1x1x128.size a ≤ S2x1x128.size a := by
  revert p; decide
theorem outSlot_inb (p : Fin 2) : ∀ a, (![p.val, 0, 0] : Fin 3 → ℕ) a + S1x128x128.size a ≤ S2x128x128.size a := by
  revert p; decide
theorem sem_inb (p : Fin 2) : ∀ a, (![p.val] : Fin 1 → ℕ) a + S1.size a ≤ S2.size a := by
  revert p; decide
theorem winX_inb (n : Fin 80) : ∀ a, (![0, 128 * n.val] : Fin 2 → ℕ) a + S1x128.size a ≤ S1x10240.size a := by
  intro a; have := n.isLt
  match a with
  | ⟨0, _⟩ => show 0 + 1 ≤ 1; omega
  | ⟨1, _⟩ => show 128 * n.val + 128 ≤ 10240; omega
theorem winO_inb (n : Fin 80) : ∀ a, (![128 * n.val, 0] : Fin 2 → ℕ) a + S128x128.size a ≤ S10240x128.size a := by
  intro a; have := n.isLt
  match a with
  | ⟨0, _⟩ => show 128 * n.val + 128 ≤ 10240; omega
  | ⟨1, _⟩ => show 0 + 128 ≤ 128; omega

/-- Input slot `p`: 128 index words. -/
def inSlot (p : Fin 2) : Memref sig Kind.scVector Space.vmem S1x128 EltTy.i32 :=
  (iB.slice (Rect.unit (s := S2x1x128) ![p.val, 0, 0] S1x1x128.size (inSlot_inb p)) (fun _ => rfl)).squeeze S1x128 squeezes_S1x1x128_S1x128
/-- Output slot `p`: 128 gathered rows. -/
def outSlot (p : Fin 2) : Memref sig Kind.scVector Space.vmem S128x128 EltTy.f32 :=
  (oB.slice (Rect.unit (s := S2x128x128) ![p.val, 0, 0] S1x128x128.size (outSlot_inb p)) (fun _ => rfl)).squeeze S128x128 squeezes_S1x128x128_S128x128
/-- The semaphores of the slots. -/
def semIn (p : Fin 2) : DmaSem sig :=
  ((cc0_scoped1.slice (Rect.unit (s := S2) ![p.val] S1.size (sem_inb p))).squeeze S_ squeezes_S1_S_).sem
def semOut (p : Fin 2) : DmaSem sig :=
  ((cc0_scoped3.slice (Rect.unit (s := S2) ![p.val] S1.size (sem_inb p))).squeeze S_ squeezes_S1_S_).sem
/-- Window `n` of the index list, of the gathered rows. -/
def winX (n : Fin 80) : Memref sig Kind.scVector Space.hbm S1x128 EltTy.i32 :=
  xV.slice (Rect.unit (s := S1x10240) ![0, 128 * n.val] S1x128.size (winX_inb n)) (fun _ => rfl)
def winO (n : Fin 80) : Memref sig Kind.scVector Space.hbm S128x128 EltTy.f32 :=
  oV.slice (Rect.unit (s := S10240x128) ![128 * n.val, 0] S128x128.size (winO_inb n)) (fun _ => rfl)

theorem inSlot_of {off : Fin 3 → ℕ} (p : Fin 2) (e : off = ![p.val, 0, 0]) (h : ∀ a, off a + S1x1x128.size a ≤ S2x1x128.size a) :
    (iB.slice (Rect.unit (s := S2x1x128) off S1x1x128.size h) (fun _ => rfl)).squeeze S1x128 squeezes_S1x1x128_S1x128 = inSlot p := by
  subst e; rfl
theorem outSlot_of {off : Fin 3 → ℕ} (p : Fin 2) (e : off = ![p.val, 0, 0]) (h : ∀ a, off a + S1x128x128.size a ≤ S2x128x128.size a) :
    (oB.slice (Rect.unit (s := S2x128x128) off S1x128x128.size h) (fun _ => rfl)).squeeze S128x128 squeezes_S1x128x128_S128x128 = outSlot p := by
  subst e; rfl
theorem semIn_of {off : Fin 1 → ℕ} (p : Fin 2) (e : off = ![p.val]) (h : ∀ a, off a + S1.size a ≤ S2.size a) :
    ((cc0_scoped1.slice (Rect.unit (s := S2) off S1.size h)).squeeze S_ squeezes_S1_S_).sem = semIn p := by
  subst e; rfl
theorem semOut_of {off : Fin 1 → ℕ} (p : Fin 2) (e : off = ![p.val]) (h : ∀ a, off a + S1.size a ≤ S2.size a) :
    ((cc0_scoped3.slice (Rect.unit (s := S2) off S1.size h)).squeeze S_ squeezes_S1_S_).sem = semOut p := by
  subst e; rfl
theorem winX_of {off : Fin 2 → ℕ} (n : Fin 80) (e : off = ![0, 128 * n.val]) (h : ∀ a, off a + S1x128.size a ≤ S1x10240.size a) :
    xV.slice (Rect.unit (s := S1x10240) off S1x128.size h) (fun _ => rfl) = winX n := by
  subst e; rfl
theorem winO_of {off : Fin 2 → ℕ} (n : Fin 80) (e : off = ![128 * n.val, 0]) (h : ∀ a, off a + S128x128.size a ≤ S10240x128.size a) :
    oV.slice (Rect.unit (s := S10240x128) off S128x128.size h) (fun _ => rfl) = winO n := by
  subst e; rfl

/-! ## Values -/

/-- The row of the table an index word names: half the word. -/
def rowOf (w : BitVec 32) : Fin 50000 := ⟨(w >>> 1).toNat % 50000, Nat.mod_lt _ (by decide)⟩

/-- The gathered rows: row `r` is the table's row that word `r` of the list names. -/
def G (xf : S1x10240.Idx → BitVec 32) (ef : S50000x128.Idx → Elt F .f32) : S10240x128.Idx → Elt F .f32 :=
  fun y => ef (ix2 (rowOf (xf (ix2 (0 : Fin 1) (y 0)))) (y 1))

/-- What the index scratch holds once window `n` is halved. -/
def halved (xf : S1x10240.Idx → BitVec 32) (n : Fin 80) : S1x128.Idx → BitVec 32 :=
  fun y => (winX n).view.read (Elt F) xf y >>> 1

/-- Window `n` of the gathered rows. -/
def rowsAt (xf : S1x10240.Idx → BitVec 32) (ef : S50000x128.Idx → Elt F .f32) (n : Fin 80) : S128x128.Idx → Elt F .f32 :=
  fun y => (winO n).view.read (Elt F) (G xf ef) y

/-! ## What it is to hold a slot -/

section States

variable (d : Dev nD) (L : grid0.Coords) (q : PosShare TreeShare)
variable (xf : Buf (Elt F) (xLoc d)) (ef : Buf (Elt F) (eLoc d))

/-- The half of the tile's share of the index list that slot `p` reads through. -/
def half (p : Fin 2) : PosShare TreeShare := if p = 0 then q.left else q.right

/-- Input slot `p` at rest, at any contents. -/
def inFree (p : Fin 2) : sProp 𝕄 :=
  iprop((∃ f, (inSlot p).view.loc (thr d L) ↦[(inSlot p).view.set]{fullShare} f) ∗ (xLoc d ↦{half q p} xf)
    ∗ semVal (thr d L, .dma (semIn p)) 0)
/-- What the copy of window `n` into slot `p` delivers. -/
def inPay (p : Fin 2) (n : Fin 80) : sProp 𝕄 :=
  iprop((∃ f, ⌜(inSlot p).view.read (Elt F) f = (winX n).view.read (Elt F) xf⌝
    ∗ (inSlot p).view.loc (thr d L) ↦[(inSlot p).view.set]{fullShare} f) ∗ (xLoc d ↦{half q p} xf))
/-- The copy of window `n` into slot `p` is under way. -/
def inBusy (p : Fin 2) (n : Fin 80) : sProp 𝕄 :=
  Flight countersEmb (thr d L) (.dma (semIn p)) (default : HIx 1) (inSlot p).view.dmaCredit (inPay d L q xf p n)
/-- Slot `p` holds window `n`. -/
def inFull (p : Fin 2) (n : Fin 80) : sProp 𝕄 :=
  iprop(inPay d L q xf p n ∗ semVal (thr d L, .dma (semIn p)) 0)

/-- Window `n` of the result at any contents, and at the gathered rows. -/
def todo (n : Fin 80) : sProp 𝕄 := iprop(∃ f, oLoc d ↦[(winO n).view.set]{fullShare} f)
def done (n : Fin 80) : sProp 𝕄 := iprop(oLoc d ↦[(winO n).view.set]{fullShare} (G xf ef : Buf (Elt F) (oLoc d)))

/-- Output slot `p` at rest. -/
def outFree (p : Fin 2) : sProp 𝕄 :=
  iprop((∃ f, (outSlot p).view.loc (thr d L) ↦[(outSlot p).view.set]{fullShare} f) ∗ semVal (thr d L, .dma (semOut p)) 0)
/-- Output slot `p` at the rows of window `n`. -/
def outFull (p : Fin 2) (n : Fin 80) : sProp 𝕄 :=
  iprop((∃ f, ⌜(outSlot p).view.read (Elt F) f = rowsAt xf ef n⌝
    ∗ (outSlot p).view.loc (thr d L) ↦[(outSlot p).view.set]{fullShare} f) ∗ semVal (thr d L, .dma (semOut p)) 0)
/-- The copy of the rows of window `n` out of slot `p` is under way. -/
def outBusy (p : Fin 2) (n : Fin 80) : sProp 𝕄 :=
  Flight countersEmb (thr d L) (.dma (semOut p)) (default : HIx 1) (winO n).view.dmaCredit
    iprop(done d xf ef n ∗ ∃ f, (outSlot p).view.loc (thr d L) ↦[(outSlot p).view.set]{fullShare} f)

/-- What the tile owes, with no wait recorded but those it came with and its own. -/
def owing (O : CellTallies nD τ sig (HIx 1)) (W : Waits sig (HIx 1)) : sProp 𝕄 :=
  iprop(∃ W', ⌜∀ p ∈ W', p ∈ W ∨ p.2 = none⌝ ∗ owes (thr d L) O W')

theorem waited {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

variable {Λ : Labels} {defs : Defs nD τ sig (Elt F) Λ} (𝒱 : Variants) (bd : Option 𝒱.V)
variable {α : Type} {O : CellTallies nD τ sig (HIx 1)} {W : Waits sig (HIx 1)}

/-- What an input copy leaves is what it is said to deliver. -/
theorem inPay_intro (p : Fin 2) (n : Fin 80) (f : Buf (Elt F) ((inSlot p).view.loc (thr d L))) :
    iprop(((inSlot p).view.loc (thr d L) ↦[(inSlot p).view.set]{fullShare}
        ((inSlot p).view.write (Elt F) f ((ReadAs.same : ReadAs (Elt F) _ _ _ _).apply ((winX n).view.read (Elt F) xf)) Finset.univ))
      ∗ (winX n).view.loc (thr d L) ↦{half q p} xf)
      ⊢ inPay (U := U) d L q xf p n := by
  unfold inPay
  iintro ⟨Hd, Hx⟩
  isplitl [Hd]
  · iexists _
    isplitr
    swap; · iexact Hd
    ipureintro
    exact View.read_write_univ _ _
  · iexact Hx

/-- What an output copy leaves is what it is said to deliver. -/
theorem outPay_intro (p : Fin 2) (n : Fin 80) (f : Buf (Elt F) ((outSlot p).view.loc (thr d L))) (g : Buf (Elt F) (oLoc d))
    (hf : (outSlot p).view.read (Elt F) f = rowsAt xf ef n) :
    iprop(((winO n).view.loc (thr d L) ↦[(winO n).view.set]{fullShare}
        ((winO n).view.write (Elt F) g ((ReadAs.same : ReadAs (Elt F) _ _ _ _).apply ((outSlot p).view.read (Elt F) f)) Finset.univ))
      ∗ (outSlot p).view.loc (thr d L) ↦[(outSlot p).view.set]{fullShare} f)
      ⊢ (iprop(done d xf ef n ∗ ∃ f, (outSlot p).view.loc (thr d L) ↦[(outSlot p).view.set]{fullShare} f) : sProp 𝕄) := by
  have e : ((winO n).view.loc (thr d L) ↦[(winO n).view.set]{fullShare}
        ((winO n).view.write (Elt F) g ((ReadAs.same : ReadAs (Elt F) _ _ _ _).apply ((outSlot p).view.read (Elt F) f)) Finset.univ) : sProp 𝕄)
      = oLoc d ↦[(winO n).view.set]{fullShare} (G xf ef : Buf (Elt F) (oLoc d)) := by
    refine pointsTo_congr fun i hi => ?_
    obtain ⟨y, -, rfl⟩ := Finset.mem_map.mp hi
    refine (View.write_emb_of_mem (v := (winO n).view) g _ (Finset.mem_univ y)).trans ?_
    exact congrFun hf y
  unfold done
  iintro ⟨Hd, Hs⟩
  isplitl [Hd]
  · iapply (Entails.of_eq e); iexact Hd
  · iexists _; iexact Hs

/-- A window's copy into a free slot starts. -/
theorem wp_issueIn {Q : α → sProp 𝕄} (p : Fin 2) (n : Fin 80)
    {src : Memref sig (thr d L).2.kind .hbm S1x128 .i32} {dst : Memref sig (thr d L).2.kind .vmem S1x128 .i32} {sm : DmaSem sig}
    (hs : src = winX n) (hd : dst = inSlot p) (hm : sm = semIn p)
    {h1 : src.view.WordExact} {h2 : dst.view.WordExact} {h3 : DmaTarget.Typed (nD := nD) .hbm (.dma sm) (.here dst)}
    {k : PUnit → Prog (TpuEff nD τ sig (Elt F) Λ (thr d L).2) α} :
    inFree (U := U) d L q xf p
      ⊢ iprop((inBusy d L q xf p n -∗ wp frame (wpE defs 𝒱 (thr d L) bd) Set.univ (k ⟨⟩) Q)
        -∗ wp frame (wpE defs 𝒱 (thr d L) bd) Set.univ (.op (.enqueueDma src (.here dst) (.dma sm) h1 h2 h3) k) Q) := by
  subst hs hd hm
  unfold inFree inBusy
  iintro ⟨⟨%f, Hd⟩, Hx, Hv⟩ Hk
  iapply (Transfers.wp_dmaFromWhole countersEmb 𝒱 (thr d L) bd (q := half q p) (fs := xf) (fd := f)
    (default : HIx 1) (inSlot p).view.dmaCredit rfl ((inSlot p).view.dmaCredit_pos (show 0 < S1x128.numel by decide)) subset_rfl) $$ [Hx Hd Hv]
  · isplitl [Hx]; · iexact Hx
    isplitl [Hd]; · iexact Hd
    iexact Hv
  iintro Hf
  iapply Hk
  iapply (Transfers.Flight_mono countersEmb (thr d L) (inPay_intro d L q xf p n f))
  iexact Hf

/-- The wait for a window's copy. -/
theorem wp_waitIn {Q : α → sProp 𝕄} (p : Fin 2) (n : Fin 80)
    {src : Memref sig (thr d L).2.kind .hbm S1x128 .i32} {dst : Memref sig (thr d L).2.kind .vmem S1x128 .i32} {sm : DmaSem sig}
    (hd : dst = inSlot p) (hm : sm = semIn p)
    {h1 : src.view.WordExact} {h2 : dst.view.WordExact}
    {k : PUnit → Prog (TpuEff nD τ sig (Elt F) Λ (thr d L).2) α} :
    iprop(MayWaits (thr d L) (default : HIx 1) O ∗ inBusy (U := U) d L q xf p n ∗ owing d L O W)
      ⊢ iprop((iprop(inFull d L q xf p n ∗ owing d L O W) -∗ wp frame (wpE defs 𝒱 (thr d L) bd) Set.univ (k ⟨⟩) Q)
        -∗ wp frame (wpE defs 𝒱 (thr d L) bd) Set.univ (.op (.waitDma2 sm src dst h1 h2) k) Q) := by
  subst hd hm
  unfold inBusy inFull owing
  iintro ⟨Hmw, Hf, %W', %hW, HO⟩ Hk
  iapply (Transfers.wp_waitLocalO countersEmb 𝒱 (thr d L) bd (default : HIx 1) rfl) $$ [Hf HO Hmw]
  · isplitl [Hf]; · iexact Hf
    isplitl [HO]; · iexact HO
    iapply (MayWaits.elim (SemLoc.dma (semIn p))) $$ Hmw
  iintro ⟨HD, Hv, HO⟩
  iapply Hk
  isplitl [HD Hv]
  · isplitl [HD] <;> iassumption
  iexists _
  isplitr
  swap; · iexact HO
  ipureintro; exact waited _ hW

/-- A full output slot's copy out starts. -/
theorem wp_issueOut {Q : α → sProp 𝕄} (p : Fin 2) (n : Fin 80)
    {src : Memref sig (thr d L).2.kind .vmem S128x128 .f32} {dst : Memref sig (thr d L).2.kind .hbm S128x128 .f32} {sm : DmaSem sig}
    (hs : src = outSlot p) (hd : dst = winO n) (hm : sm = semOut p)
    {h1 : src.view.WordExact} {h2 : dst.view.WordExact} {h3 : DmaTarget.Typed (nD := nD) .vmem (.dma sm) (.here dst)}
    {k : PUnit → Prog (TpuEff nD τ sig (Elt F) Λ (thr d L).2) α} :
    iprop(outFull (U := U) d L xf ef p n ∗ todo d n)
      ⊢ iprop((outBusy d L xf ef p n -∗ wp frame (wpE defs 𝒱 (thr d L) bd) Set.univ (k ⟨⟩) Q)
        -∗ wp frame (wpE defs 𝒱 (thr d L) bd) Set.univ (.op (.enqueueDma src (.here dst) (.dma sm) h1 h2 h3) k) Q) := by
  subst hs hd hm
  unfold outFull outBusy todo
  iintro ⟨⟨⟨%f, %hf, Hs⟩, Hv⟩, %g, Hd⟩ Hk
  iapply (Transfers.wp_dmaLocal countersEmb 𝒱 (thr d L) bd (q := fullShare) (fs := f) (fd := g)
    (default : HIx 1) (winO n).view.dmaCredit rfl ((winO n).view.dmaCredit_pos (show 0 < S128x128.numel by decide)) subset_rfl) $$ [Hs Hd Hv]
  · isplitl [Hs]; · iexact Hs
    isplitl [Hd]; · iexact Hd
    iexact Hv
  iintro Hf
  iapply Hk
  iapply (Transfers.Flight_mono countersEmb (thr d L) (outPay_intro d L xf ef p n f g hf))
  iexact Hf

/-- The wait for a copy out. -/
theorem wp_waitOut {Q : α → sProp 𝕄} (p : Fin 2) (n : Fin 80)
    {src : Memref sig (thr d L).2.kind .vmem S128x128 .f32} {dst : Memref sig (thr d L).2.kind .hbm S128x128 .f32} {sm : DmaSem sig}
    (hd : dst = winO n) (hm : sm = semOut p)
    {h1 : src.view.WordExact} {h2 : dst.view.WordExact}
    {k : PUnit → Prog (TpuEff nD τ sig (Elt F) Λ (thr d L).2) α} :
    iprop(MayWaits (thr d L) (default : HIx 1) O ∗ outBusy (U := U) d L xf ef p n ∗ owing d L O W)
      ⊢ iprop((iprop(outFree d L p ∗ done d xf ef n ∗ owing d L O W) -∗ wp frame (wpE defs 𝒱 (thr d L) bd) Set.univ (k ⟨⟩) Q)
        -∗ wp frame (wpE defs 𝒱 (thr d L) bd) Set.univ (.op (.waitDma2 sm src dst h1 h2) k) Q) := by
  subst hd hm
  unfold outBusy outFree owing
  iintro ⟨Hmw, Hf, %W', %hW, HO⟩ Hk
  iapply (Transfers.wp_waitLocalO countersEmb 𝒱 (thr d L) bd (default : HIx 1) rfl) $$ [Hf HO Hmw]
  · isplitl [Hf]; · iexact Hf
    isplitl [HO]; · iexact HO
    iapply (MayWaits.elim (SemLoc.dma (semOut p))) $$ Hmw
  iintro ⟨⟨Hdn, Hs⟩, Hv, HO⟩
  iapply Hk
  isplitl [Hs Hv]
  · isplitl [Hs] <;> iassumption
  isplitl [Hdn]; · iexact Hdn
  iexists _
  isplitr
  swap; · iexact HO
  ipureintro; exact waited _ hW

end States

end Cert.Proof.Slots

end
-- ==== Proof.Gather.lean ====
/-
  One window's work inside a tile: the loop that halves the 128 index words of a slot into the scratch, and the
  gather of the 128 rows those halves name.
-/
module

public import proofs.«01_k».proof.Proof.Slots
public import proofs.«01_k».proof.Proof.Gen.KernelIdeal.Skeleton

@[expose] public section

noncomputable section

namespace Cert.Proof.Slots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.ValueIdx (ix2 eq_ix2)
open Cert.Proof.Words

variable {F : FTy → Type} [FloatOps F] [Named F] {U : Type} [URA U] [CountersIn U]

local notation "𝕄" => MT nD τ sig (HIx 1) (Elt F) ℕ U ℕ

/-! ## Reading the places -/

/-- The scratch as the list of 128 offsets, and the whole table, as the gather addresses them. -/
abbrev offL : Memref sig Kind.scVector Space.vmem S128 EltTy.i32 :=
  (sV.slice (Rect.unit (s := S1x128) ![0, 0] S1x128.size inb_S1x128_S1x128_0_0) (fun _ => rfl)).squeeze S128 squeezes_S1x128_S128
abbrev eAll : Memref sig Kind.scVector Space.hbm S50000x128 EltTy.f32 :=
  eV.slice (Rect.unit (s := S50000x128) ![0, 0] S50000x128.size inb_S50000x128_S50000x128_0_0) (fun _ => rfl)

theorem winX_read (xf : S1x10240.Idx → Elt F .i32) (n : Fin 80) (y : S1x128.Idx) (r : Fin 10240) (hr : r.val = 128 * n.val + (y 1).val) :
    (winX n).view.read (Elt F) xf y = xf (ix2 (0 : Fin 1) r) := by
  show xf ((Rect.unit (s := S1x10240) ![0, 128 * n.val] S1x128.size (winX_inb n)).emb y) = _
  refine congrArg xf (funext fun a => Fin.ext ?_)
  match a with
  | ⟨0, _⟩ => show 0 + 1 * (y 0).val = 0; have : (y 0).val < 1 := (y 0).isLt; omega
  | ⟨1, _⟩ => show 128 * n.val + 1 * (y 1).val = r.val; omega

theorem winO_read (g : S10240x128.Idx → Elt F .f32) (n : Fin 80) (y : S128x128.Idx) (r : Fin 10240) (hr : r.val = 128 * n.val + (y 0).val) :
    (winO n).view.read (Elt F) g y = g (ix2 r (y 1)) := by
  show g ((Rect.unit (s := S10240x128) ![128 * n.val, 0] S128x128.size (winO_inb n)).emb y) = _
  refine congrArg g (funext fun a => Fin.ext ?_)
  match a with
  | ⟨0, _⟩ => show 128 * n.val + 1 * (y 0).val = r.val; omega
  | ⟨1, _⟩ => show 0 + 1 * (y 1).val = (y 1).val; omega

theorem offL_read (f : S1x128.Idx → Elt F .i32) (x : S128.Idx) : offL.view.read (Elt F) f x = f (ix2 (0 : Fin 1) (x 0)) := by
  rw [Memref.read_squeeze_full sV inb_S1x128_S1x128_0_0]
  show f _ = _
  refine congrArg f (Shape.reshapeEquiv_eq_of_rowMajor _ ?_)
  rw [Shape.rowMajor_val_two, Shape.rowMajor_val_one]
  show 0 * 128 + (x 0).val = (x 0).val
  omega

theorem eAll_read (ef : S50000x128.Idx → Elt F .f32) (y : S50000x128.Idx) : eAll.view.read (Elt F) ef y = ef y := by
  show ef ((Rect.unit (s := S50000x128) ![0, 0] S50000x128.size inb_S50000x128_S50000x128_0_0).emb y) = _
  rw [Rect.emb_unit_full inb_S50000x128_S50000x128_0_0]

/-- Half a word below 100000 is below 50000. -/
theorem half_lt {w : BitVec 32} (h : w.toNat < 100000) : (w >>> 1).toNat < 50000 := by
  rw [BitVec.toNat_ushiftRight, Nat.shiftRight_eq_div_pow]; omega

theorem halved_eq (xf : S1x10240.Idx → BitVec 32) (n : Fin 80) (y : S1x128.Idx) (r : Fin 10240) (hr : r.val = 128 * n.val + (y 1).val) :
    halved (F := F) xf n y = xf (ix2 (0 : Fin 1) r) >>> 1 := by
  unfold halved
  exact congrArg (fun w : BitVec 32 => w >>> 1) (winX_read (F := F) xf n y r hr)

theorem offs_lt (xf : S1x10240.Idx → BitVec 32) (hx : ∀ j, (xf j).toNat < 100000) (n : Fin 80) (x : S128.Idx) :
    (offL.view.read (Elt F) (halved (F := F) xf n) x).toNat < S50000x128.size gathers_S50000x128_S128x128.axis := by
  have hb : 128 * n.val + (x 0).val < 10240 := by
    have := n.isLt
    have : (x 0).val < 128 := (x 0).isLt
    omega
  rw [offL_read, halved_eq xf n _ ⟨_, hb⟩ rfl]
  exact half_lt (hx _)

/-- What the gather delivers is the window of the gathered rows. -/
theorem payload_eq (xf : S1x10240.Idx → BitVec 32) (ef : S50000x128.Idx → Elt F .f32) (hx : ∀ j, (xf j).toNat < 100000) (n : Fin 80)
    (hin : ∀ x : S128.Idx, (offL.view.read (Elt F) (halved (F := F) xf n) x).toNat < S50000x128.size gathers_S50000x128_S128x128.axis) :
    SparseCore.gatherPayload gathers_S50000x128_S128x128 (eAll.view.read (Elt F) ef)
      (SparseCore.rows (offL.view.read (Elt F) (halved (F := F) xf n)) (rfl : S128.numel = S128x128.size gathers_S50000x128_S128x128.axis') hin)
      = rowsAt xf ef n := by
  funext y
  have hb : 128 * n.val + (y 0).val < 10240 := by
    have := n.isLt
    have : (y 0).val < 128 := (y 0).isLt
    omega
  have hk : ((S128.rowMajor.symm ((y 0).cast (rfl : S128.numel = 128).symm)) 0).val = (y 0).val := by
    have := Shape.rowMajor_val_one (S128.rowMajor.symm ((y 0).cast (rfl : S128.numel = 128).symm))
    rw [Equiv.apply_symm_apply] at this
    exact this.symm
  unfold rowsAt
  rw [winO_read _ n y ⟨_, hb⟩ rfl]
  unfold SparseCore.gatherPayload G
  rw [eAll_read]
  refine congrArg ef (funext fun a => Fin.ext ?_)
  match a with
  | ⟨0, _⟩ =>
    show (offL.view.read (Elt F) (halved (F := F) xf n) (S128.rowMajor.symm ((y 0).cast _))).toNat = (xf (ix2 (0 : Fin 1) ⟨128 * n.val + (y 0).val, hb⟩) >>> 1).toNat % 50000
    rw [offL_read, halved_eq xf n _ ⟨_, hb⟩ (by show 128 * n.val + (y 0).val = 128 * n.val + _; exact congrArg (128 * n.val + ·) hk.symm),
      Nat.mod_eq_of_lt (half_lt (hx _))]
  | ⟨1, _⟩ => rfl

/-- The stored words are the loaded ones halved. -/
theorem pay1_apply (v : S1x16.Idx → Elt F .i32) (x : S1x16.Idx) : k0_pay1 (F := F) v x = (v x : BitVec 32) >>> 1 := by
  show IntOp.shrui .vector (v (Shape.reshapeEquiv _ (Shape.reshapeEquiv _ x)) : BitVec 32) 1#32 = _
  rw [Shape.reshapeEquiv_reshapeEquiv, Shape.reshapeEquiv_self]
  rfl

/-! ## The steps -/

section Steps

variable (d : Dev nD) (L : grid0.Coords) (q : PosShare TreeShare)
variable (xf : Buf (Elt F) (xLoc d)) (ef : Buf (Elt F) (eLoc d))
variable {Λ : Labels} {defs : Defs nD τ sig (Elt F) Λ} (𝒱 : Variants) (bd : Option 𝒱.V)
variable {α : Type} {O : CellTallies nD τ sig (HIx 1)} {W : Waits sig (HIx 1)}

/-- The scratch at contents `f`. -/
def scr (f : S1x128.Idx → Elt F .i32) : sProp 𝕄 := sV.view.loc (thr d L) ↦{fullShare} f

/-- The scratch before trip `t` of the halving loop: its first `16 * t` words are halves of the window's. -/
def scrUpTo (n : Fin 80) (t : ℕ) : sProp 𝕄 :=
  iprop(∃ f : S1x128.Idx → Elt F .i32, ⌜∀ y : S1x128.Idx, (y 1).val < 16 * t → f y = halved (F := F) xf n y⌝ ∗ scr d L f)

/-- One trip of the halving loop moves the frontier by sixteen words. -/
theorem scrUpTo_step (p : Fin 2) (n : Fin 80) (t : ℕ) (ht : t < 8) (f f' : S1x128.Idx → Elt F .i32) {off : Fin 2 → ℕ} (hoff : off = ![0, 16 * t])
    (inb : ∀ a, off a + S1x16.size a ≤ S1x128.size a)
    (g : Buf (Elt F) ((inSlot p).view.loc (thr d L))) (hg : (inSlot p).view.read (Elt F) g = (winX n).view.read (Elt F) xf)
    (hf : ∀ y : S1x128.Idx, (y 1).val < 16 * t → f y = halved (F := F) xf n y)
    (hf' : f' = (sV.access (Rect.unit (s := S1x128) off S1x16.size inb)).write (Elt F) f
      (k0_pay1 (F := F) ((inSlot p).view.readAt (Elt F) (Rect.unit (s := S1x128) off S1x16.size inb).toLoadRect g)) Finset.univ) :
    ∀ y : S1x128.Idx, (y 1).val < 16 * (t + 1) → f' y = halved (F := F) xf n y := by
  subst hoff
  intro y hy
  by_cases h : (y 1).val < 16 * t
  · rw [hf', ← hf y h]
    refine View.write_of_not_mem (v := sV.access (Rect.unit (s := S1x128) ![0, 16 * t] S1x16.size inb)) f _ Finset.univ fun hm => ?_
    obtain ⟨z, -, hz⟩ := Finset.mem_map.mp hm
    have : 16 * t + 1 * (z 1).val = (y 1).val := congrArg (fun j : S1x128.Idx => (j 1).val) hz
    omega
  · have hz : (y 1).val - 16 * t < 16 := by omega
    have hyz : (Rect.unit (s := S1x128) ![0, 16 * t] S1x16.size inb).emb (ix2 (0 : Fin 1) (⟨(y 1).val - 16 * t, hz⟩ : Fin 16)) = y := by
      funext a; apply Fin.ext
      match a with
      | ⟨0, _⟩ => show 0 + 1 * 0 = (y 0).val; have : (y 0).val < 1 := (y 0).isLt; omega
      | ⟨1, _⟩ => show 16 * t + 1 * ((y 1).val - 16 * t) = (y 1).val; omega
    rw [hf']
    conv_lhs => rw [← hyz]
    refine (View.write_emb_of_mem (v := sV.access (Rect.unit (s := S1x128) ![0, 16 * t] S1x16.size inb)) f _ (Finset.mem_univ _)).trans ?_
    rw [pay1_apply]
    show (inSlot p).view.read (Elt F) g _ >>> 1 = _
    unfold halved
    rw [hg]
    exact congrArg (fun j : S1x128.Idx => ((winX n).view.read (Elt F) xf j : BitVec 32) >>> 1) hyz

/-- The halving loop: the scratch ends holding the halves of the slot's window. -/
theorem wp_halve {Q : α → sProp 𝕄} {𝒱₀ : Variants} {bd₀ : Option 𝒱₀.V} {D : Defs nD τ sig (Elt F) Λ₀} (p : Fin 2) (n : Fin 80)
    {h1 : k0_cond1 L = 1#1} {t : Fin (k0_t1_loop L).trips} {a7 a8 a9 a10 a11 : BitVec 32}
    {c3 : k0_chk3 L a9} {c2 : k0_chk2 L a8} {c1 : k0_chk1 L t a7 a8 a9 a10 a11}
    {a6 b80 : BitVec 32} {b81 b83 : BitVec 1} {b84 b90 b95 : BitVec 32} {b113 : BitVec 1} {b2 : BitVec 32}
    (h8 : k0_off10 a8 = ![p.val, 0, 0])
    {k : Unit → Prog (TpuEff nD τ sig (Elt F) Λ₀ (thr d L).2) α} :
    iprop(inFull (U := U) d L q xf p n ∗ ∃ f, scr d L f)
      ⊢ iprop((iprop(inFull d L q xf p n ∗ scr d L (halved (F := F) xf n)) -∗ wp frame (wpE D 𝒱₀ (thr d L) bd₀) Set.univ (k ⟨⟩) Q)
        -∗ wp frame (wpE D 𝒱₀ (thr d L) bd₀) Set.univ
          (Scf.Loop.for k0_t2_loop (k0_t2_ok L h1) ⟨⟩
            (k0_t2_body L eV (Memref.isWhole_whole _) xV (Memref.isWhole_whole _) oV (Memref.isWhole_whole _) sV (Memref.isWhole_whole _)
              iB (Memref.isWhole_whole _) cc0_scoped1 oB (Memref.isWhole_whole _) cc0_scoped3 cc0_scoped4 cc0_scoped5
              h1 t a7 a8 a9 a10 a11 c3 c2 c1 a6 b80 b81 b83 b84 b90 b95 b113 b2) >>= k) Q) := by
  iintro ⟨HI, %f, Hs⟩ Hk
  iapply (Scf.wp_for_bind frame (wpE D 𝒱₀ (thr d L) bd₀) Set.univ _ _ _ _ _ _
    (fun t _ => iprop(inFull (U := U) d L q xf p n ∗ scrUpTo d L xf n t)) ?_) $$ [HI Hs]
  · intro j _
    unfold k0_t2_body scrUpTo
    simp only [inSlot_of p h8]
    iintro ⟨HI, %f, %hf, Hs⟩
    unfold inFull inPay scr
    icases HI with ⟨⟨⟨%g, %hg, Hi⟩, Hx⟩, Hv⟩
    simp only [Prog.bind_lift, Prog.pure_eq_ret]
    iapply (wp_load 𝒱₀ (thr d L) bd₀ Set.univ (m := inSlot p) (S := (inSlot p).view.set) (Finset.map_subset_map.mpr (Finset.subset_univ _))) $$ Hi
    iintro Hi
    iapply (wp_load 𝒱₀ (thr d L) bd₀ Set.univ (m := sV) (S := Finset.univ) (Finset.subset_univ _)) $$ Hs
    iintro Hs
    iapply (wp_store 𝒱₀ (thr d L) bd₀ Set.univ (m := sV) (r := Rect.unit (s := S1x128) (k0_off11 j) S1x16.size (k0_off11_inb L j h1)) (S := Finset.univ) (f := f) (Finset.subset_univ _)) $$ Hs
    iintro Hs
    iapply (le_wp_ret _ _ _ _ _)
    isplitl [Hi Hx Hv]
    · isplitl [Hi Hx]
      · isplitl [Hi]
        · iexists g
          isplitr
          swap; · iexact Hi
          ipureintro; exact hg
        · iexact Hx
      · iexact Hv
    · iexists _
      isplitr
      swap; · iexact Hs
      ipureintro
      exact scrUpTo_step d L xf p n j.val (Nat.lt_of_lt_of_eq j.isLt (show Scf.trips k0_t2_loop.lb k0_t2_loop.ub k0_t2_loop.st = 8 by decide)) f _ (k0_off11_eq j) (k0_off11_inb L j h1) g hg hf rfl
  · isplitl [HI]; · iexact HI
    unfold scrUpTo
    iexists f
    isplitr
    swap; · iexact Hs
    ipureintro
    intro y hy; omega
  · iintro %_ ⟨HI, HS⟩
    iapply Hk
    isplitl [HI]; · iexact HI
    unfold scrUpTo
    icases HS with ⟨%f, %hf, Hs⟩
    have e : f = halved (F := F) xf n := funext fun y => hf y (by
      have : (y 1).val < 128 := (y 1).isLt
      have : Scf.trips k0_t2_loop.lb k0_t2_loop.ub k0_t2_loop.st = 8 := by decide
      omega)
    subst e
    iexact Hs

/-- The credit a whole gather of 128 rows brings is the slot's. -/
theorem gather_credit (p : Fin 2) :
    ∑ j, ((outSlot p).slice (S128x128.rowRect gathers_S50000x128_S128x128.axis' j) (S128x128.stride_rowRect gathers_S50000x128_S128x128.axis' j)).view.dmaCredit
      = (outSlot p).view.dmaCredit := by
  revert p; decide +kernel

/-- The gather and its wait: the slot ends holding the rows that the scratch's halves name. -/
theorem wp_gather {Q : α → sProp 𝕄} (p : Fin 2) (n : Fin 80) (hx : ∀ j, (xf j : BitVec 32).toNat < 100000)
    {dst dst' : Memref sig (thr d L).2.kind .vmem S128x128 .f32} (hd : dst = outSlot p) (hd' : dst' = outSlot p) {sm : DmaSem sig}
    {hp : (thr d L).2.kind = .scVector} {h1 : (eAll).view.WordExact} {he : EltTy.f32.bits = 32} {hsp : Space.hbm = .hbm ∨ Space.hbm = .shared}
    {hr : S50000x128.StreamRows 0} {h2 : (eAll).view.WordExact} {h3 : dst'.view.WordExact}
    {k : PUnit → Prog (TpuEff nD τ sig (Elt F) Λ (thr d L).2) α} :
    iprop(MayWaits (thr d L) (default : HIx 1) O ∗ outFree (U := U) d L p ∗ (eLoc d ↦{q} ef) ∗ scr d L (halved (F := F) xf n)
        ∗ semVal (thr d L, .dma sm) 0 ∗ owing d L O W)
      ⊢ iprop((iprop(outFull d L xf ef p n ∗ (eLoc d ↦{q} ef) ∗ scr d L (halved (F := F) xf n)
            ∗ semVal (thr d L, .dma sm) 0 ∗ owing d L O W) -∗ wp frame (wpE defs 𝒱 (thr d L) bd) Set.univ (k ⟨⟩) Q)
        -∗ wp frame (wpE defs 𝒱 (thr d L) bd) Set.univ
          (SparseCore.enqueueIndirectGather hp eAll dst gathers_S50000x128_S128x128 offL (rfl : S128.numel = S128x128.size gathers_S50000x128_S128x128.axis') sm h1 he hsp hr >>= fun _ =>
            SparseCore.waitIndirectGather sm eAll dst' h2 h3 >>= k) Q) := by
  subst hd hd'
  unfold outFree outFull scr owing
  have hs : (offL).view.set = Finset.univ := by
    show ((sV.view.slice (Rect.unit (s := S1x128) ![0, 0] S1x128.size inb_S1x128_S1x128_0_0)).reshape S128 squeezes_S1x128_S128.numel_eq).set = _
    rw [View.set_reshape]
    exact Finset.eq_univ_of_forall fun y => Finset.mem_map.mpr ⟨y, Finset.mem_univ _,
      show (Rect.unit (s := S1x128) ![0, 0] S1x128.size inb_S1x128_S1x128_0_0).emb y = y from Rect.emb_unit_full _ _⟩
  have hes : (eAll).view.set = Finset.univ := by
    exact Finset.eq_univ_of_forall fun y => Finset.mem_map.mpr ⟨y, Finset.mem_univ _,
      show (Rect.unit (s := S50000x128) ![0, 0] S50000x128.size inb_S50000x128_S50000x128_0_0).emb y = y from Rect.emb_unit_full _ _⟩
  iintro ⟨Hmw, ⟨⟨%f, Hd⟩, Hv⟩, He, Hs, Hg, %W', %hW, HO⟩ Hk
  iapply (SparseCore.wp_indirectGatherLocal countersEmb 𝒱 (thr d L) bd (src := eAll) (dst := outSlot p) (offs := offL) (hg := gathers_S50000x128_S128x128)
    (q := q) (qo := fullShare) (fs := ef) (fd := f) (fo := halved (F := F) xf n)
    (default : HIx 1) (outSlot p).view.dmaCredit (gather_credit p) (by decide) (offs_lt xf hx n)) $$ [Hd He Hs Hg]
  · rw [hs, hes]
    isplitl [He]; · iexact He
    isplitl [Hd]; · iexact Hd
    isplitl [Hs]; · iexact Hs
    iexact Hg
  iintro Hf
  rw [SparseCore.waitIndirectGather_bind (thr d L)]
  iapply (Transfers.wp_waitLocalO countersEmb 𝒱 (thr d L) bd (default : HIx 1) rfl) $$ [Hf HO Hmw]
  · isplitl [Hf]; · iexact Hf
    isplitl [HO]; · iexact HO
    iapply (MayWaits.elim (SemLoc.dma sm)) $$ Hmw
  rw [hs, hes]
  iintro ⟨⟨Hd, He, Hs⟩, Hg, HO⟩
  iapply Hk
  isplitl [Hd Hv]
  · isplitl [Hd]
    · iexists _
      isplitr
      swap; · iexact Hd
      ipureintro
      exact (View.read_write_univ _ _).trans (payload_eq xf ef hx n (offs_lt xf hx n))
    · iexact Hv
  isplitl [He]; · iexact He
  isplitl [Hs]; · iexact Hs
  isplitl [Hg]; · iexact Hg
  iexists _
  isplitr
  swap; · iexact HO
  ipureintro; exact waited _ hW

end Steps

end Cert.Proof.Slots

end
-- ==== Proof.Trip.lean ====
/-
  One trip of a tile's pipeline: the next window's copy in starts, this window's is awaited, its words are halved,
  its rows gathered, the copy out starts and the previous one is awaited.
-/
module

public import proofs.«01_k».proof.Proof.Gather

@[expose] public section

noncomputable section

namespace Cert.Proof.Slots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Cert.Proof.Words

variable {F : FTy → Type} [FloatOps F] [Named F] {U : Type} [URA U] [CountersIn U]

local notation "𝕄" => MT nD τ sig (HIx 1) (Elt F) ℕ U ℕ

/-- The slot of step `k`, and the window of a tile's step `k`. -/
def slot (k : ℕ) : Fin 2 := ⟨k % 2, Nat.mod_lt _ (by decide)⟩
def win (L : grid0.Coords) (k : ℕ) : Fin 80 := ⟨(base L + k) % 80, Nat.mod_lt _ (by decide)⟩

theorem win_val (L : grid0.Coords) (k : ℕ) (hk : k < nSteps L) : (win L k).val = base L + k :=
  Nat.mod_eq_of_lt (by have := window_lt L; omega)

theorem slot_succ (k : ℕ) (hk : 0 < k) : slot (k + 1) = slot (k - 1) := Fin.ext (by show (k + 1) % 2 = (k - 1) % 2; omega)
theorem slot_add_two (k : ℕ) : slot (k + 1 + 1) = slot k := Fin.ext (by show (k + 1 + 1) % 2 = k % 2; omega)

section Trip

variable (d : Dev nD) (L : grid0.Coords) (q r : PosShare TreeShare)
variable (xf : Buf (Elt F) (xLoc d)) (ef : Buf (Elt F) (eLoc d))
variable (O : CellTallies nD τ sig (HIx 1)) (W : Waits sig (HIx 1))

/-- The input slot of step `k` before it is awaited: its window is under way, if there is such a step. -/
def inSt (k : ℕ) : sProp 𝕄 := if k < nSteps L then inBusy d L q xf (slot k) (win L k) else inFree d L q xf (slot k)
/-- The other output slot before trip `k`: the previous window's rows are on their way out of it. -/
def outPrev (k : ℕ) : sProp 𝕄 := if 0 < k then outBusy d L xf ef (slot (k - 1)) (win L (k - 1)) else outFree d L (slot 1)
/-- The result's windows of this tile before trip `k`, but for the one on its way. -/
def rowsSt (k : ℕ) : sProp 𝕄 :=
  iprop(bigSep (Finset.Ico k (nSteps L)) (fun j => todo d (win L j)) ∗ bigSep (Finset.range (k - 1)) (fun j => done d xf ef (win L j)))

/-- What the tile holds before trip `k` besides the carried words. -/
def tripSt (k : ℕ) : sProp 𝕄 :=
  iprop(MayWaits (thr d L) (default : HIx 1) O ∗ inSt d L q xf k ∗ inFree d L q xf (slot (k + 1)) ∗ outPrev d L xf ef k ∗ outFree d L (slot k)
    ∗ rowsSt d L xf ef k ∗ (eLoc d ↦{r} ef) ∗ (∃ f, scr d L f) ∗ semVal (thr d L, .dma cc0_scoped4.sem) 0 ∗ owing d L O W)

/-- The guarded start of the next window's copy. -/
theorem wp_nextIn {Λ : Labels} {D : Defs nD τ sig (Elt F) Λ} (𝒱 : Variants) (bd : Option 𝒱.V) {α : Type} {Q : α → sProp 𝕄} (k : Fin (k0_t1_loop L).trips)
    {i4 : k0_cond3 L k (w11 L k) = 1#1 → ∀ a, k0_off4 (w7 L k) a + S1x1x128.size a ≤ S2x1x128.size a}
    {i5 : k0_cond3 L k (w11 L k) = 1#1 → ∀ a, k0_off5 L (w11 L k) a + S1x128.size a ≤ S1x10240.size a}
    {i6 : k0_cond3 L k (w11 L k) = 1#1 → ∀ a, k0_off6 (w7 L k) a + S1.size a ≤ S2.size a}
    {e1 : ∀ h, (xV.slice (Rect.unit (s := S1x10240) (k0_off5 L (w11 L k)) S1x128.size (i5 h)) (fun _ => rfl)).view.WordExact}
    {e2 : ∀ h, ((iB.slice (Rect.unit (s := S2x1x128) (k0_off4 (w7 L k)) S1x1x128.size (i4 h)) (fun _ => rfl)).squeeze S1x128 squeezes_S1x1x128_S1x128).view.WordExact}
    {e3 : ∀ h, DmaTarget.Typed (nD := nD) (τ := τ) (p := (thr d L).2) .hbm (.dma ((cc0_scoped1.slice (Rect.unit (s := S2) (k0_off6 (w7 L k)) S1.size (i6 h))).squeeze S_ squeezes_S1_S_).sem)
      (.here ((iB.slice (Rect.unit (s := S2x1x128) (k0_off4 (w7 L k)) S1x1x128.size (i4 h)) (fun _ => rfl)).squeeze S1x128 squeezes_S1x1x128_S1x128
        : Memref sig (thr d L).2.kind .vmem S1x128 .i32))}
    {K : Prog (TpuEff nD τ sig (Elt F) Λ (thr d L).2) α} :
    inFree (U := U) d L q xf (slot (k.val + 1))
      ⊢ iprop((inSt d L q xf (k.val + 1) -∗ wp frame (wpE D 𝒱 (thr d L) bd) Set.univ K Q)
        -∗ wp frame (wpE D 𝒱 (thr d L) bd) Set.univ
          (if h : k0_cond3 L k (w11 L k) = 1#1 then
            .op (.enqueueDma (xV.slice (Rect.unit (s := S1x10240) (k0_off5 L (w11 L k)) S1x128.size (i5 h)) (fun _ => rfl))
              (.here ((iB.slice (Rect.unit (s := S2x1x128) (k0_off4 (w7 L k)) S1x1x128.size (i4 h)) (fun _ => rfl)).squeeze S1x128 squeezes_S1x1x128_S1x128))
              (.dma ((cc0_scoped1.slice (Rect.unit (s := S2) (k0_off6 (w7 L k)) S1.size (i6 h))).squeeze S_ squeezes_S1_S_).sem) (e1 h) (e2 h) (e3 h)) fun _ => K
          else K) Q) := by
  unfold inSt
  by_cases h : k0_cond3 L k (w11 L k) = 1#1
  · have hk := (cond3 L k).mp h
    rw [dif_pos h, if_pos hk]
    exact wp_issueIn (U := U) (k := fun _ => K) d L q xf 𝒱 bd (slot (k.val + 1)) (win L (k.val + 1)) (winX_of _ ((off5 L k hk).trans (by rw [win_val L _ hk])) _)
      (inSlot_of _ (off4 L k) _) (semIn_of _ (off6 L k) _)
  · rw [dif_neg h, if_neg fun hk => h ((cond3 L k).mpr hk)]
    iintro H Hk
    iapply Hk; iexact H

theorem done_push (k : ℕ) (hk : 0 < k) :
    iprop(done (U := U) d xf ef (win L (k - 1)) ∗ bigSep (Finset.range (k - 1)) (fun j => done d xf ef (win L j)))
      ⊢ bigSep (Finset.range k) (fun j => done d xf ef (win L j)) := by
  rw [show Finset.range k = insert (k - 1) (Finset.range (k - 1)) by
    rw [← Finset.range_add_one]; congr 1; omega, bigSep_insert Finset.notMem_range_self]
  exact .rfl

theorem todo_pop (k : ℕ) (hk : k < nSteps L) :
    bigSep (Finset.Ico k (nSteps L)) (fun j => todo (U := U) d (win L j))
      ⊢ iprop(todo (U := U) (F := F) d (win L k) ∗ bigSep (Finset.Ico (k + 1) (nSteps L)) (fun j => todo d (win L j))) := by
  rw [show Finset.Ico k (nSteps L) = insert k (Finset.Ico (k + 1) (nSteps L)) by ext j; simp; omega, bigSep_insert (by simp)]
  exact .rfl

/-- The guarded wait for the previous window's copy out. -/
theorem wp_prevOut {Λ : Labels} {D : Defs nD τ sig (Elt F) Λ} (𝒱 : Variants) (bd : Option 𝒱.V) {α : Type} {Q : α → sProp 𝕄} (k : Fin (k0_t1_loop L).trips)
    {i16 : k0_cond9 L k (w11 L k) = 1#1 → ∀ a, k0_off16 (w10 k) a + S1x128x128.size a ≤ S2x128x128.size a}
    {i17 : k0_cond9 L k (w11 L k) = 1#1 → ∀ a, k0_off17 L (w11 L k) a + S128x128.size a ≤ S10240x128.size a}
    {i18 : k0_cond9 L k (w11 L k) = 1#1 → ∀ a, k0_off18 (w10 k) a + S1.size a ≤ S2.size a}
    {e1 : ∀ h, ((oB.slice (Rect.unit (s := S2x128x128) (k0_off16 (w10 k)) S1x128x128.size (i16 h)) (fun _ => rfl)).squeeze S128x128 squeezes_S1x128x128_S128x128).view.WordExact}
    {e2 : ∀ h, (oV.slice (Rect.unit (s := S10240x128) (k0_off17 L (w11 L k)) S128x128.size (i17 h)) (fun _ => rfl)).view.WordExact}
    {K : Prog (TpuEff nD τ sig (Elt F) Λ (thr d L).2) α} :
    iprop(MayWaits (thr d L) (default : HIx 1) O ∗ outPrev (U := U) d L xf ef k ∗ bigSep (Finset.range (k.val - 1)) (fun j => done d xf ef (win L j)) ∗ owing d L O W)
      ⊢ iprop((iprop(outFree d L (slot (k.val + 1)) ∗ bigSep (Finset.range k.val) (fun j => done d xf ef (win L j)) ∗ owing d L O W)
          -∗ wp frame (wpE D 𝒱 (thr d L) bd) Set.univ K Q)
        -∗ wp frame (wpE D 𝒱 (thr d L) bd) Set.univ
          (if h : k0_cond9 L k (w11 L k) = 1#1 then
            .op (.waitDma2 ((cc0_scoped3.slice (Rect.unit (s := S2) (k0_off18 (w10 k)) S1.size (i18 h))).squeeze S_ squeezes_S1_S_).sem
              ((oB.slice (Rect.unit (s := S2x128x128) (k0_off16 (w10 k)) S1x128x128.size (i16 h)) (fun _ => rfl)).squeeze S128x128 squeezes_S1x128x128_S128x128)
              (oV.slice (Rect.unit (s := S10240x128) (k0_off17 L (w11 L k)) S128x128.size (i17 h)) (fun _ => rfl)) (e1 h) (e2 h)) fun _ => K
          else K) Q) := by
  unfold outPrev
  have hN : k.val < nSteps L := k.isLt
  by_cases h : k0_cond9 L k (w11 L k) = 1#1
  · have hk := (cond9 L k).mp h
    rw [dif_pos h, if_pos hk]
    iintro ⟨Hmw, Hp, Hd, HO⟩ Hk
    iapply (wp_waitOut d L xf ef 𝒱 bd (slot (k.val - 1)) (win L (k.val - 1)) (winO_of _ ((off17 L k hk).trans (by rw [win_val L _ (by omega)])) _)
      (semOut_of _ (off18 L k) _)) $$ [Hmw Hp HO]
    · isplitl [Hmw]; · iexact Hmw
      isplitl [Hp] <;> iassumption
    iintro ⟨Hf, Hn, HO⟩
    iapply Hk
    isplitl [Hf]; · rw [slot_succ _ hk]; iexact Hf
    isplitr [HO]
    · iapply (done_push d L xf ef k hk)
      isplitl [Hn] <;> iassumption
    · iexact HO
  · have hk : k.val = 0 := by
      by_contra hk; exact h ((cond9 L k).mpr (by omega))
    rw [dif_neg h, if_neg (by omega)]
    iintro ⟨Hmw, Hp, Hd, HO⟩ Hk
    iapply Hk
    rw [hk]
    isplitl [Hp]; · iexact Hp
    isplitl [Hd] <;> iassumption

theorem tripSt_eq (k : ℕ) (hk : k < nSteps L) : tripSt (U := U) d L q r xf ef O W k
    = iprop(MayWaits (thr d L) (default : HIx 1) O ∗ inBusy d L q xf (slot k) (win L k) ∗ inFree d L q xf (slot (k + 1)) ∗ outPrev d L xf ef k ∗ outFree d L (slot k)
    ∗ (bigSep (Finset.Ico k (nSteps L)) (fun j => todo d (win L j)) ∗ bigSep (Finset.range (k - 1)) (fun j => done d xf ef (win L j)))
    ∗ (eLoc d ↦{r} ef) ∗ (∃ f, scr d L f) ∗ semVal (thr d L, .dma cc0_scoped4.sem) 0 ∗ owing d L O W) := by
  unfold tripSt rowsSt inSt
  rw [if_pos hk]

/-- Trip `k` takes the state before it to the state before the next one. -/
theorem trip_step {𝒱₀ : Variants} {bd₀ : Option 𝒱₀.V} {D : Defs nD τ sig (Elt F) Λ₀} (hx : ∀ j, (xf j : BitVec 32).toNat < 100000)
    (h1 : k0_cond1 L = 1#1) {b41 b30 b31 b32 b33 b34 b45 : BitVec 32} (h30 : b30 = 0#32)
    (k : Fin (k0_t1_loop L).trips) (acc : BitVec 32 × BitVec 32 × BitVec 32 × BitVec 32 × BitVec 32) :
    iprop(⌜acc = words L k.val⌝ ∗ tripSt (U := U) d L q r xf ef O W k.val)
      ⊢ wp frame (wpE D 𝒱₀ (thr d L) bd₀) Set.univ
          (k0_t1_body L eV (Memref.isWhole_whole _) xV (Memref.isWhole_whole _) oV (Memref.isWhole_whole _) sV (Memref.isWhole_whole _)
            iB (Memref.isWhole_whole _) cc0_scoped1 oB (Memref.isWhole_whole _) cc0_scoped3 cc0_scoped4 cc0_scoped5
            (n5 L) (n10 L) (n11 L) h1 b41 b30 b31 b32 b33 b34 b45 k acc)
          fun acc' => iprop(⌜acc' = words L (k.val + 1)⌝ ∗ tripSt (U := U) d L q r xf ef O W (k.val + 1)) := by
  subst h30
  iintro ⟨%hacc, HT⟩
  subst hacc
  unfold k0_t1_body
  simp only [k0_part1_eq_skeleton, k0_part2_eq_skeleton]
  unfold k0_part1_skel k0_part2_skel
  simp only [Prog.bind_lift, Prog.bind_op, Prog.bind_ret, Prog.pure_eq_ret, bind_assoc, wp_assume_eq, dif_pos (cond4 L k), dif_pos (cond7 L k), ite_self]
  ihave HT := Entails.of_eq (tripSt_eq d L q r xf ef O W k.val k.isLt) $$ HT
  icases HT with ⟨#Hmw, Hin, Hfree, Hprev, Hout, ⟨Htodo, Hdone⟩, He, Hs, Hg, HO⟩
  imodintro; iexists ⟨chk3 L k⟩
  imodintro; iexists ⟨chk2 L k⟩
  imodintro; iexists ⟨chk1 L k⟩
  rw [wp_bind]
  iapply (wp_nextIn d L q xf 𝒱₀ bd₀ k) $$ Hfree
  iintro Hnext
  rw [wp_ret]
  imodintro
  iapply (wp_waitIn d L q xf 𝒱₀ bd₀ (O := O) (W := W) (slot k) (win L k) (inSlot_of _ (off7 L k) _) (semIn_of _ (off9 L k) _)) $$ [Hmw Hin HO]
  · isplitl [Hmw]; · iexact Hmw
    isplitl [Hin] <;> iassumption
  iintro ⟨Hin, HO⟩
  iapply (wp_halve d L q xf (slot k) (win L k) (off10 L k)) $$ [Hin Hs]
  · isplitl [Hin] <;> iassumption
  iintro ⟨Hin, Hs⟩
  iapply (wp_gather d L r xf ef 𝒱₀ bd₀ (O := O) (W := W) (slot k) (win L k) hx (outSlot_of _ (off12 L k) _) (outSlot_of _ (off12 L k) _)) $$ [Hmw Hout He Hs Hg HO]
  · isplitl [Hmw]; · iexact Hmw
    isplitl [Hout]; · iexact Hout
    isplitl [He]; · iexact He
    isplitl [Hs]; · iexact Hs
    isplitl [Hg] <;> iassumption
  iintro ⟨Hout, He, Hs, Hg, HO⟩
  ihave Htodo := todo_pop d L k.val k.isLt $$ Htodo
  icases Htodo with ⟨Hnow, Htodo⟩
  iapply (wp_issueOut d L xf ef 𝒱₀ bd₀ (slot k) (win L k) (outSlot_of _ (off13 L k) _) (winO_of _ ((off14 L k).trans (by rw [win_val L _ k.isLt])) _) (semOut_of _ (off15 L k) _)) $$ [Hout Hnow]
  · isplitl [Hout] <;> iassumption
  iintro Hbusy
  iapply (wp_prevOut d L xf ef O W 𝒱₀ bd₀ k) $$ [Hmw Hprev Hdone HO]
  · isplitl [Hmw]; · iexact Hmw
    isplitl [Hprev]; · iexact Hprev
    isplitl [Hdone] <;> iassumption
  iintro ⟨Hof, Hdone, HO⟩
  rw [wp_ret]
  imodintro
  isplitr
  · ipureintro
    clear * - k
    revert k; revert L
    decide +kernel
  unfold tripSt rowsSt outPrev inFull inPay inFree
  rw [if_pos (Nat.succ_pos k.val), slot_add_two]
  isplitl [Hmw]; · iexact Hmw
  isplitl [Hnext]; · iexact Hnext
  isplitl [Hin]
  · icases Hin with ⟨⟨⟨%f, %_, Hi⟩, Hx⟩, Hv⟩
    isplitl [Hi]; · iexists f; iexact Hi
    isplitl [Hx] <;> iassumption
  isplitl [Hbusy]; · iexact Hbusy
  isplitl [Hof]; · iexact Hof
  isplitl [Htodo Hdone]
  · isplitl [Htodo]; · iexact Htodo
    iexact Hdone
  isplitl [He]; · iexact He
  isplitl [Hs]; · iexists _; iexact Hs
  isplitl [Hg]
  · iexact Hg
  · iexact HO

end Trip

end Cert.Proof.Slots

end
-- ==== Proof.Tile.lean ====
/-
  A tile's whole run: the first window's copy in starts, the trips run, the last copy out is awaited.
-/
module

public import proofs.«01_k».proof.Proof.Trip

@[expose] public section

noncomputable section

namespace Cert.Proof.Slots

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Cert.Proof.Words

variable {F : FTy → Type} [FloatOps F] [Named F] {U : Type} [URA U] [CountersIn U]

local notation "𝕄" => MT nD τ sig (HIx 1) (Elt F) ℕ U ℕ

section Run

variable (d : Dev nD) (L : grid0.Coords) (q r : PosShare TreeShare)
variable (xf : Buf (Elt F) (xLoc d)) (ef : Buf (Elt F) (eLoc d))
variable (O : CellTallies nD τ sig (HIx 1)) (W : Waits sig (HIx 1))

/-- What a tile brings to its run besides the result's windows. -/
def rest : sProp 𝕄 :=
  iprop(inFree d L q xf 0 ∗ inFree d L q xf 1 ∗ outFree d L 0 ∗ outFree d L 1 ∗ (eLoc d ↦{r} ef) ∗ (∃ f, scr d L f)
    ∗ semVal (thr d L, .dma cc0_scoped4.sem) 0)

theorem slot_val (k : ℕ) : (slot k).val = k % 2 := rfl

theorem slots_in (k : ℕ) : iprop(inFree (U := U) d L q xf (slot k) ∗ inFree d L q xf (slot (k + 1)))
    ⊢ (iprop(inFree d L q xf 0 ∗ inFree d L q xf 1) : sProp 𝕄) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    exact sep_comm.1

theorem slots_out (k : ℕ) (hk : 0 < k) : iprop(outFree (F := F) (U := U) d L (slot (k - 1)) ∗ outFree d L (slot k))
    ⊢ (iprop(outFree d L 0 ∗ outFree d L 1) : sProp 𝕄) := by
  rcases Nat.mod_two_eq_zero_or_one k with h | h
  · rw [show slot k = 0 from Fin.ext h, show slot (k - 1) = 1 from Fin.ext (by show (k - 1) % 2 = 1; omega)]
    exact sep_comm.1
  · rw [show slot k = 1 from Fin.ext h, show slot (k - 1) = 0 from Fin.ext (by show (k - 1) % 2 = 0; omega)]

/-- The state after the last trip. -/
theorem tripSt_end : tripSt (U := U) d L q r xf ef O W (nSteps L)
    = iprop(MayWaits (thr d L) (default : HIx 1) O ∗ inFree d L q xf (slot (nSteps L)) ∗ inFree d L q xf (slot (nSteps L + 1))
    ∗ outBusy d L xf ef (slot (nSteps L - 1)) (win L (nSteps L - 1)) ∗ outFree d L (slot (nSteps L))
    ∗ (iprop(emp) ∗ bigSep (Finset.range (nSteps L - 1)) (fun j => done d xf ef (win L j)))
    ∗ (eLoc d ↦{r} ef) ∗ (∃ f, scr d L f) ∗ semVal (thr d L, .dma cc0_scoped4.sem) 0 ∗ owing d L O W) := by
  unfold tripSt rowsSt inSt outPrev
  rw [if_neg (Nat.lt_irrefl _), if_pos (show 0 < nSteps L by have := nSteps_pos L; omega), Finset.Ico_self, bigSep_empty]
  rfl

/-- The wait for the last copy out, which completes the windows. -/
theorem wp_lastOut {Λ : Labels} {D : Defs nD τ sig (Elt F) Λ} (𝒱 : Variants) (bd : Option 𝒱.V) {α : Type} {Q : α → sProp 𝕄} (k : ℕ) (hk : 0 < k)
    {src : Memref sig (thr d L).2.kind .vmem S128x128 .f32} {dst : Memref sig (thr d L).2.kind .hbm S128x128 .f32} {sm : DmaSem sig}
    (hd : dst = winO (win L (k - 1))) (hm : sm = semOut (slot (k - 1)))
    {h1 : src.view.WordExact} {h2 : dst.view.WordExact}
    {K : PUnit → Prog (TpuEff nD τ sig (Elt F) Λ (thr d L).2) α} :
    iprop(MayWaits (thr d L) (default : HIx 1) O ∗ outBusy (U := U) d L xf ef (slot (k - 1)) (win L (k - 1))
        ∗ bigSep (Finset.range (k - 1)) (fun j => done d xf ef (win L j)) ∗ owing d L O W)
      ⊢ iprop((iprop(outFree d L (slot (k - 1)) ∗ bigSep (Finset.range k) (fun j => done d xf ef (win L j)) ∗ owing d L O W)
          -∗ wp frame (wpE D 𝒱 (thr d L) bd) Set.univ (K ⟨⟩) Q)
        -∗ wp frame (wpE D 𝒱 (thr d L) bd) Set.univ (.op (.waitDma2 sm src dst h1 h2) K) Q) := by
  iintro ⟨Hmw, Hp, Hd, HO⟩ Hk
  iapply (wp_waitOut d L xf ef 𝒱 bd (slot (k - 1)) (win L (k - 1)) hd hm) $$ [Hmw Hp HO]
  · isplitl [Hmw]; · iexact Hmw
    isplitl [Hp] <;> iassumption
  iintro ⟨Hf, Hn, HO⟩
  iapply Hk
  isplitl [Hf]; · iexact Hf
  isplitr [HO]
  · iapply (done_push d L xf ef k hk)
    isplitl [Hn] <;> iassumption
  · iexact HO

/-- A tile's run gathers its windows. -/
theorem tile_run {𝒱₀ : Variants} {bd₀ : Option 𝒱₀.V} {D : Defs nD τ sig (Elt F) Λ₀} (hx : ∀ j, (xf j : BitVec 32).toNat < 100000) :
    iprop(MayWaits (thr d L) (default : HIx 1) O ∗ rest (U := U) d L q r xf ef
        ∗ bigSep (Finset.range (nSteps L)) (fun j => todo d (win L j)) ∗ owing d L O W)
      ⊢ wp frame (wpE D 𝒱₀ (thr d L) bd₀) Set.univ
          (cc0_gather_kernel L eV (Memref.isWhole_whole _) xV (Memref.isWhole_whole _) oV (Memref.isWhole_whole _) sV (Memref.isWhole_whole _)
            iB (Memref.isWhole_whole _) cc0_scoped1 oB (Memref.isWhole_whole _) cc0_scoped3 cc0_scoped4 cc0_scoped5)
          fun _ => iprop(rest (U := U) d L q r xf ef
            ∗ bigSep (Finset.range (nSteps L)) (fun j => done d xf ef (win L j)) ∗ owing d L O W) := by
  have hN := nSteps_pos L
  rw [cc0_gather_kernel_eq_skeleton]
  unfold cc0_gather_kernel_skel
  simp only [k0_part5_eq_skeleton, k0_part6_eq_skeleton]
  rw [dif_pos (cond1 L)]
  unfold k0_part5_skel k0_part6_skel
  simp only [Prog.bind_lift, Prog.bind_op, Prog.bind_ret, Prog.pure_eq_ret, bind_assoc, wp_assume_eq, dif_pos (cond2 L), dif_pos (cond18 L), ite_self, dite_eq_ite]
  unfold rest
  iintro ⟨#Hmw, ⟨Hi0, Hi1, Ho0, Ho1, He, Hs, Hg⟩, Htodo, HO⟩
  iapply (wp_issueIn (U := U) d L q xf 𝒱₀ bd₀ 0 (win L 0) (winX_of _ ((off2 L).trans (by rw [win_val L _ (by omega)]; rfl)) _)
    (inSlot_of _ rfl _) (semIn_of _ rfl _)) $$ Hi0
  iintro Hb0
  iapply (Scf.wp_for_bind frame (wpE D 𝒱₀ (thr d L) bd₀) Set.univ _ _ _ _ _ _
    (fun k acc => iprop(⌜acc = words L k⌝ ∗ tripSt (U := U) d L q r xf ef O W k)) ?_) $$ [Hmw Hb0 Hi1 Ho0 Ho1 He Hs Hg Htodo HO]
  · intro k acc
    exact trip_step d L q r xf ef O W hx _ rfl k acc
  · isplitr
    · ipureintro
      clear * - L
      revert L
      decide +kernel
    unfold tripSt rowsSt inSt outPrev
    rw [if_pos (show 0 < nSteps L by omega), if_neg (Nat.lt_irrefl 0)]
    isplitl [Hmw]; · iexact Hmw
    isplitl [Hb0]; · iexact Hb0
    isplitl [Hi1]; · iexact Hi1
    isplitl [Ho1]; · iexact Ho1
    isplitl [Ho0]; · iexact Ho0
    isplitl [Htodo]
    · isplitl [Htodo]
      · rw [Nat.Ico_zero_eq_range]; iexact Htodo
      · rw [show Finset.range (0 - 1) = ∅ from rfl, bigSep_empty]; iempintro
    isplitl [He]; · iexact He
    isplitl [Hs]; · iexact Hs
    isplitl [Hg]
    · iexact Hg
    · iexact HO
  iintro %acc ⟨%hacc, HT⟩
  subst hacc
  iapply (Scf.wp_for_bind frame (wpE D 𝒱₀ (thr d L) bd₀) Set.univ _ _ _ _ _ _
    (fun _ acc => iprop(⌜acc = words L (nSteps L)⌝ ∗ tripSt (U := U) d L q r xf ef O W (nSteps L))) ?_) $$ [HT]
  · intro k acc
    exact absurd k.isLt (Nat.not_lt.mpr ((noRest L).le.trans (Nat.zero_le _)))
  · isplitr
    · ipureintro; rfl
    · iexact HT
  iintro %acc ⟨%hacc, HT⟩
  subst hacc
  dsimp only
  rw [wp_assume_eq]; imodintro; iexists ⟨chk8 L⟩
  rw [wp_assume_eq]; imodintro; iexists ⟨chk7 L⟩
  ihave HT := Entails.of_eq (tripSt_end d L q r xf ef O W) $$ HT
  icases HT with ⟨-, Hin, Hfree, Hprev, Hout, ⟨-, Hdone⟩, He, Hs, Hg, HO⟩
  iapply (wp_lastOut d L xf ef O W 𝒱₀ bd₀ (nSteps L) (by omega) (winO_of _ ((off35 L).trans (by rw [win_val L _ (by omega)])) _)
      (semOut_of _ ((off36 L).trans (by rw [slot_val])) _)) $$ [Hmw Hprev Hdone HO]
  · isplitl [Hmw]; · iexact Hmw
    isplitl [Hprev]; · iexact Hprev
    isplitl [Hdone]; · iexact Hdone
    iexact HO
  iintro ⟨Hof, Hdone, HO⟩
  rw [wp_ret]
  imodintro
  ihave Hi := slots_in d L q xf (nSteps L) $$ [Hin Hfree]
  · isplitl [Hin] <;> iassumption
  ihave Ho := slots_out d L (nSteps L) (by omega) $$ [Hof Hout]
  · isplitl [Hof] <;> iassumption
  icases Hi with ⟨Hi0, Hi1⟩
  icases Ho with ⟨Ho0, Ho1⟩
  isplitr [Hdone HO]
  · isplitl [Hi0]; · iexact Hi0
    isplitl [Hi1]; · iexact Hi1
    isplitl [Ho0]; · iexact Ho0
    isplitl [Ho1]; · iexact Ho1
    isplitl [He]; · iexact He
    isplitl [Hs]; · iexact Hs
    iexact Hg
  isplitl [Hdone]; · iexact Hdone
  iexact HO

end Run

end Cert.Proof.Slots

end
-- ==== Proof.Body.lean ====
/-
  A tile's task as the launch sees it: its share of the operands, its scratch and its semaphores in, the same with its
  windows gathered out.
-/
module

public import proofs.«01_k».proof.Proof.Tile

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Rounds
open Cert.Proof.Words Cert.Proof.Slots

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the TensorCore pipeline's rounds beside the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP (F := F)).LandsIn (upEmb : UEmb _ (MT nD τ sig (HIx 1) (Elt F) ℕ UU ℕ)) := by unfold EP embR; infer_instance

/-! ## A tile's own buffers and semaphores -/

theorem cell_ne {t : Thread nD τ} {a b : SemLoc sig} (h : a ≠ b) : ((t, a) : GSem nD τ sig) ≠ (t, b) :=
  fun e => h (congrArg Prod.snd e)

section Own

variable (d : Dev nD) (L : grid0.Coords)

abbrev cell (sm : DmaSem sig) : GSem nD τ sig := (thr d L, .dma sm)

theorem sems_scoped : ∀ p : Fin 2, (SemLoc.dma (semIn p) : SemLoc sig).isScoped .scVector = true
    ∧ (SemLoc.dma (semOut p) : SemLoc sig).isScoped .scVector = true := by decide +kernel

/-- The five semaphores the run uses, out of the tile's own. -/
theorem ownSems0_V : (ownSems0 (thr d L) : sProp 𝕄)
    = iprop(semVal (cell d L (semIn 0)) 0 ∗ semVal (cell d L (semIn 1)) 0 ∗ semVal (cell d L (semOut 0)) 0 ∗ semVal (cell d L (semOut 1)) 0
      ∗ semVal (cell d L cc0_scoped4.sem) 0
      ∗ bigSep ((((((ownCells (thr d L)).erase (cell d L (semIn 0))).erase (cell d L (semIn 1))).erase (cell d L (semOut 0))).erase
          (cell d L (semOut 1))).erase (cell d L cc0_scoped4.sem)) fun g => semVal g 0) := by
  have own (sm : DmaSem sig) (h : (SemLoc.dma sm : SemLoc sig).isScoped .scVector = true) : cell d L sm ∈ ownCells (thr d L) :=
    (mem_ownCells (g := cell d L sm)).mpr ⟨rfl, h⟩
  unfold SparseCore.Cfg.ownSems0
  rw [SparseCore.bigSep_erase' (own _ (sems_scoped 0).1),
    SparseCore.bigSep_erase' (Finset.mem_erase.mpr ⟨cell_ne (by decide +kernel), own (semIn 1) (sems_scoped 1).1⟩),
    SparseCore.bigSep_erase' (Finset.mem_erase.mpr ⟨cell_ne (by decide +kernel), Finset.mem_erase.mpr ⟨cell_ne (by decide +kernel), own (semOut 0) (sems_scoped 0).2⟩⟩),
    SparseCore.bigSep_erase' (Finset.mem_erase.mpr ⟨cell_ne (by decide +kernel), Finset.mem_erase.mpr ⟨cell_ne (by decide +kernel),
      Finset.mem_erase.mpr ⟨cell_ne (by decide +kernel), own (semOut 1) (sems_scoped 1).2⟩⟩⟩),
    SparseCore.bigSep_erase' (Finset.mem_erase.mpr ⟨cell_ne (by decide +kernel), Finset.mem_erase.mpr ⟨cell_ne (by decide +kernel),
      Finset.mem_erase.mpr ⟨cell_ne (by decide +kernel), Finset.mem_erase.mpr ⟨cell_ne (by decide +kernel), own cc0_scoped4.sem (by decide)⟩⟩⟩⟩)]

abbrev bref (b : Ref sig .scVector) : DevRef τ sig := (thr d L).2.devRef b

/-- The three buffers the run uses, out of the tile's own. -/
theorem ownBufs_V : (ownBufs (thr d L) : sProp 𝕄)
    = iprop((∃ f, (thr d L).loc cc0_scratch0 ↦{fullShare} f) ∗ (∃ f, (thr d L).loc cc0_scoped0 ↦{fullShare} f) ∗ (∃ f, (thr d L).loc cc0_scoped2 ↦{fullShare} f)
      ∗ bigSep ((((ownRefs (τ := τ) (thr d L).2).erase (bref d L cc0_scratch0)).erase (bref d L cc0_scoped0)).erase (bref d L cc0_scoped2))
          fun b => iprop(∃ f, ((d, b) : Loc nD τ sig) ↦{fullShare} f)) := by
  have own (b : Ref sig .scVector) (h : (bref d L b).owner = .proc (thr d L).2) : bref d L b ∈ ownRefs (τ := τ) (thr d L).2 :=
    SparseCore.Cfg.mem_ownRefs_of_owner (p := (thr d L).2) (b := bref d L b) h
  have ne (a b : Ref sig .scVector) (h : a ≠ b) : bref d L a ≠ bref d L b := fun e => h (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scoped0 rfl⟩),
    SparseCore.bigSep_erase' (Finset.mem_erase.mpr ⟨ne _ _ (by decide), Finset.mem_erase.mpr ⟨ne _ _ (by decide), own cc0_scoped2 rfl⟩⟩)]

end Own

/-! ## The slots of the two scratch buffers -/

/-- The elements of a slot, and of a window of the result. -/
def inSet (p : Fin 2) : Finset S2x1x128.Idx := (inSlot p).view.set
def outSet (p : Fin 2) : Finset S2x128x128.Idx := (outSlot p).view.set
def rowSet (n : Fin 80) : Finset S10240x128.Idx := (winO n).view.set

theorem mem_inSlot (p : Fin 2) (y : S2x1x128.Idx) : y ∈ inSet p ↔ (y 0).val = p.val := by
  have e : inSet p = (Rect.unit (s := S2x1x128) ![p.val, 0, 0] S1x1x128.size (inSlot_inb p)).set :=
    (View.set_reshape _ _).trans (View.set_slice_whole _ _)
  rw [e]; refine Rect.mem_set_unit.trans ?_
  constructor
  · intro h; have := h 0; change p.val ≤ (y 0).val ∧ (y 0).val < p.val + 1 at this; omega
  · intro h a
    have h1 := (y 1).isLt; have h2 := (y 2).isLt
    change (y 1).val < 1 at h1; change (y 2).val < 128 at h2
    match a with
    | ⟨0, _⟩ => show p.val ≤ (y 0).val ∧ (y 0).val < p.val + 1; omega
    | ⟨1, _⟩ => show 0 ≤ (y 1).val ∧ (y 1).val < 0 + 1; omega
    | ⟨2, _⟩ => show 0 ≤ (y 2).val ∧ (y 2).val < 0 + 128; omega

theorem mem_outSlot (p : Fin 2) (y : S2x128x128.Idx) : y ∈ outSet p ↔ (y 0).val = p.val := by
  have e : outSet p = (Rect.unit (s := S2x128x128) ![p.val, 0, 0] S1x128x128.size (outSlot_inb p)).set :=
    (View.set_reshape _ _).trans (View.set_slice_whole _ _)
  rw [e]; refine Rect.mem_set_unit.trans ?_
  constructor
  · intro h; have := h 0; change p.val ≤ (y 0).val ∧ (y 0).val < p.val + 1 at this; omega
  · intro h a
    have h1 := (y 1).isLt; have h2 := (y 2).isLt
    change (y 1).val < 128 at h1; change (y 2).val < 128 at h2
    match a with
    | ⟨0, _⟩ => show p.val ≤ (y 0).val ∧ (y 0).val < p.val + 1; omega
    | ⟨1, _⟩ => show 0 ≤ (y 1).val ∧ (y 1).val < 0 + 128; omega
    | ⟨2, _⟩ => show 0 ≤ (y 2).val ∧ (y 2).val < 0 + 128; omega

/-- Window `n` of the gathered rows is rows `128 n` to `128 n + 127`. -/
theorem mem_winO (n : Fin 80) (y : S10240x128.Idx) : y ∈ rowSet n ↔ (y 0).val / 128 = n.val := by
  have e : rowSet n = (Rect.unit (s := S10240x128) ![128 * n.val, 0] S128x128.size (winO_inb n)).set := View.set_slice_whole _ _
  rw [e]; refine Rect.mem_set_unit.trans ?_
  constructor
  · intro h; have := h 0; change 128 * n.val ≤ (y 0).val ∧ (y 0).val < 128 * n.val + 128 at this; omega
  · intro h a
    have h1 := (y 1).isLt; change (y 1).val < 128 at h1
    match a with
    | ⟨0, _⟩ => show 128 * n.val ≤ (y 0).val ∧ (y 0).val < 128 * n.val + 128; omega
    | ⟨1, _⟩ => show 0 ≤ (y 1).val ∧ (y 1).val < 0 + 128; omega

theorem inSlots_disjoint : Disjoint (inSet 0) (inSet 1) := Finset.disjoint_left.mpr fun y h0 h1 => by
  have e0 := (mem_inSlot 0 y).mp h0; have e1 := (mem_inSlot 1 y).mp h1
  change (y 0).val = 0 at e0; change (y 0).val = 1 at e1; omega
theorem outSlots_disjoint : Disjoint (outSet 0) (outSet 1) := Finset.disjoint_left.mpr fun y h0 h1 => by
  have e0 := (mem_outSlot 0 y).mp h0; have e1 := (mem_outSlot 1 y).mp h1
  change (y 0).val = 0 at e0; change (y 0).val = 1 at e1; omega
theorem inSlots_cover : inSet 0 ∪ inSet 1 = Finset.univ := Finset.eq_univ_of_forall fun y => by
  have h := (y 0).isLt; change (y 0).val < 2 at h
  rw [Finset.mem_union, mem_inSlot, mem_inSlot]; show (y 0).val = 0 ∨ (y 0).val = 1; omega
theorem outSlots_cover : outSet 0 ∪ outSet 1 = Finset.univ := Finset.eq_univ_of_forall fun y => by
  have h := (y 0).isLt; change (y 0).val < 2 at h
  rw [Finset.mem_union, mem_outSlot, mem_outSlot]; show (y 0).val = 0 ∨ (y 0).val = 1; omega

section Parts

variable (d : Dev nD) (L : grid0.Coords)

/-- A buffer in two parts, and back. -/
theorem parts {ℓ : Loc nD τ sig} {A B : Finset (Idx ℓ)} (hd : Disjoint A B) (hc : A ∪ B = Finset.univ) :
    (iprop(∃ f, ℓ ↦{fullShare} f) : sProp 𝕄) ⊣⊢ iprop((∃ f, ℓ ↦[A]{fullShare} f) ∗ (∃ f, ℓ ↦[B]{fullShare} f)) := by
  constructor
  · iintro ⟨%f, H⟩
    ihave H := Entails.of_eq (show (ℓ ↦{fullShare} f : sProp 𝕄) = ℓ ↦[A ∪ B]{fullShare} f by rw [hc]) $$ H
    ihave H := (pointsTo_union hd).1 $$ H
    icases H with ⟨HA, HB⟩
    isplitl [HA] <;> iexists f <;> iassumption
  · iintro ⟨⟨%f, HA⟩, ⟨%g, HB⟩⟩
    ihave H := (pointsTo_join hd) $$ [HA HB]
    · isplitl [HA] <;> iassumption
    iexists _
    iapply (Entails.of_eq (show (ℓ ↦[A ∪ B]{fullShare} _ : sProp 𝕄) = ℓ ↦{fullShare} _ by rw [hc]))
    iexact H

theorem inParts : (iprop(∃ f, (thr d L).loc cc0_scoped0 ↦{fullShare} f) : sProp 𝕄)
    ⊣⊢ iprop((∃ f, (inSlot 0).view.loc (thr d L) ↦[(inSlot 0).view.set]{fullShare} f) ∗ (∃ f, (inSlot 1).view.loc (thr d L) ↦[(inSlot 1).view.set]{fullShare} f)) :=
  parts (ℓ := (thr d L).loc cc0_scoped0) inSlots_disjoint inSlots_cover
theorem outParts : (iprop(∃ f, (thr d L).loc cc0_scoped2 ↦{fullShare} f) : sProp 𝕄)
    ⊣⊢ iprop((∃ f, (outSlot 0).view.loc (thr d L) ↦[(outSlot 0).view.set]{fullShare} f) ∗ (∃ f, (outSlot 1).view.loc (thr d L) ↦[(outSlot 1).view.set]{fullShare} f)) :=
  parts (ℓ := (thr d L).loc cc0_scoped2) outSlots_disjoint outSlots_cover

/-- A share of the index list is the two slots' halves. -/
theorem xHalves (q : PosShare TreeShare) (xf : Buf (Elt F) (xLoc d)) :
    (xLoc d ↦{q} xf : sProp 𝕄) ⊣⊢ iprop((xLoc d ↦{half q 0} xf) ∗ xLoc d ↦{half q 1} xf) :=
  pointsTo_share (PosShare.mem_left_op_right q)

end Parts

/-! ## The task -/

section Task

variable [FloatOps F] [Named F] (d : Dev nD) (L : grid0.Coords) (q r : PosShare TreeShare)
variable (xf : Buf (Elt F) (xLoc d)) (ef : Buf (Elt F) (eLoc d))

/-- What a tile is handed: shares of the index list and of the table, its windows of the result. -/
def given : sProp 𝕄 :=
  iprop((xLoc d ↦{q} xf) ∗ (eLoc d ↦{r} ef) ∗ bigSep (Finset.range (nSteps L)) fun j => todo d (win L j))
/-- What it hands back: the shares, its windows filled. -/
def made : sProp 𝕄 :=
  iprop((xLoc d ↦{q} xf) ∗ (eLoc d ↦{r} ef) ∗ bigSep (Finset.range (nSteps L)) fun j => done d xf ef (win L j))

/-- What of the tile's own the run leaves alone. -/
def others : sProp 𝕄 :=
  iprop((bigSep ((((((ownCells (thr d L)).erase (cell d L (semIn 0))).erase (cell d L (semIn 1))).erase (cell d L (semOut 0))).erase
      (cell d L (semOut 1))).erase (cell d L cc0_scoped4.sem)) fun g => semVal g 0)
    ∗ bigSep ((((ownRefs (τ := τ) (thr d L).2).erase (bref d L cc0_scratch0)).erase (bref d L cc0_scoped0)).erase (bref d L cc0_scoped2))
          fun b => iprop(∃ f, ((d, b) : Loc nD τ sig) ↦{fullShare} f))

theorem own_rest : iprop((xLoc d ↦{q} xf) ∗ (eLoc d ↦{r} ef) ∗ ownBufs (thr d L) ∗ ownSems0 (thr d L))
    ⊢ (iprop(rest d L q r xf ef ∗ others d L) : sProp 𝕄) := by
  rw [ownSems0_V, ownBufs_V]
  unfold rest inFree outFree others
  iintro ⟨Hx, He, ⟨Hs, Hi, Ho, Hbufs⟩, ⟨Hi0, Hi1, Ho0, Ho1, Hg, Hsems⟩⟩
  ihave Hx := (xHalves d q xf).1 $$ Hx
  ihave Hi := (inParts d L).1 $$ Hi
  ihave Ho := (outParts d L).1 $$ Ho
  icases Hx with ⟨Hx0, Hx1⟩
  icases Hi with ⟨Hb0, Hb1⟩
  icases Ho with ⟨Hc0, Hc1⟩
  isplitr [Hsems Hbufs]
  swap
  · isplitl [Hsems] <;> iassumption
  isplitl [Hb0 Hx0 Hi0]
  · isplitl [Hb0]; · iexact Hb0
    isplitl [Hx0] <;> iassumption
  isplitl [Hb1 Hx1 Hi1]
  · isplitl [Hb1]; · iexact Hb1
    isplitl [Hx1] <;> iassumption
  isplitl [Hc0 Ho0]
  · isplitl [Hc0] <;> iassumption
  isplitl [Hc1 Ho1]
  · isplitl [Hc1] <;> iassumption
  isplitl [He]; · iexact He
  isplitl [Hs]; · iexact Hs
  iexact Hg

theorem rest_own : (iprop(rest d L q r xf ef ∗ others d L) : sProp 𝕄)
    ⊢ iprop((xLoc d ↦{q} xf) ∗ (eLoc d ↦{r} ef) ∗ ownBufs (thr d L) ∗ ownSems0 (thr d L)) := by
  rw [ownSems0_V, ownBufs_V]
  unfold rest inFree outFree others
  iintro ⟨⟨⟨Hb0, Hx0, Hi0⟩, ⟨Hb1, Hx1, Hi1⟩, ⟨Hc0, Ho0⟩, ⟨Hc1, Ho1⟩, He, Hs, Hg⟩, Hsems, Hbufs⟩
  isplitl [Hx0 Hx1]
  · iapply (xHalves d q xf).2
    isplitl [Hx0] <;> iassumption
  isplitl [He]; · iexact He
  isplitl [Hs Hb0 Hb1 Hc0 Hc1 Hbufs]
  · isplitl [Hs]; · iexact Hs
    isplitl [Hb0 Hb1]
    · iapply (inParts d L).2
      isplitl [Hb0] <;> iassumption
    isplitl [Hc0 Hc1]
    · iapply (outParts d L).2
      isplitl [Hc0] <;> iassumption
    iexact Hbufs
  isplitl [Hi0]; · iexact Hi0
  isplitl [Hi1]; · iexact Hi1
  isplitl [Ho0]; · iexact Ho0
  isplitl [Ho1]; · iexact Ho1
  isplitl [Hg]; · iexact Hg
  iexact Hsems

theorem body_in (hF : (K (F := F)).Facts) (O : CellTallies nD τ sig (HIx 1)) (W : Waits sig (HIx 1)) (hO : ∀ g, O g none = 0) :
    iprop(levAts (K (F := F)).L (K (F := F)).lev ∗ emp ∗ given d L q r xf ef
        ∗ scopedBufs (thr d L) ∗ scopedSems0 (thr d L) ∗ owes (thr d L) O W)
      ⊢ (iprop((MayWaits (thr d L) (default : HIx 1) O ∗ rest d L q r xf ef
          ∗ bigSep (Finset.range (nSteps L)) (fun j => todo d (win L j)) ∗ owing d L O W) ∗ others d L) : sProp 𝕄) := by
  rw [(K (F := F)).scopedBufs_V hF d _ _, SparseCore.Cfg.scopedSems0_V (Val := Elt F) d _ _]
  unfold given
  iintro ⟨#Hlv, -, ⟨Hx, He, Hw⟩, Hbufs, Hsems, HO⟩
  ihave Hmw := (show levAts (K (F := F)).L (K (F := F)).lev ⊢ Transfers.MayWaits (thr d L) (default : HIx 1) O from
    (K (F := F)).mayWaits_none (thr := thr d L) hO) $$ Hlv
  ihave HR := own_rest d L q r xf ef $$ [Hx He Hbufs Hsems]
  · isplitl [Hx]; · iexact Hx
    isplitl [He]; · iexact He
    isplitl [Hbufs] <;> iassumption
  icases HR with ⟨HR, Hoth⟩
  isplitr [Hoth]
  swap; · iexact Hoth
  isplitl [Hmw]; · iexact Hmw
  isplitl [HR]; · iexact HR
  isplitl [Hw]; · iexact Hw
  unfold owing
  iexists W
  isplitr
  · ipureintro; exact fun p hp => .inl hp
  · iexact HO

theorem body_out (hF : (K (F := F)).Facts) (O : CellTallies nD τ sig (HIx 1)) (W : Waits sig (HIx 1)) :
    iprop((rest d L q r xf ef ∗ bigSep (Finset.range (nSteps L)) (fun j => done d xf ef (win L j)) ∗ owing d L O W) ∗ others d L)
      ⊢ (iprop(made d L q r xf ef ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d _ _, SparseCore.Cfg.scopedSems0_V (Val := Elt F) d _ _]
  unfold made owing
  iintro ⟨⟨HR, Hd, HO⟩, Hoth⟩
  ihave H := rest_own d L q r xf ef $$ [HR Hoth]
  · isplitl [HR] <;> iassumption
  icases H with ⟨Hx, He, Hbufs, Hsems⟩
  isplitl [Hx He Hd]
  · isplitl [Hx]; · iexact Hx
    isplitl [He]; · iexact He
    iexact Hd
  isplitl [Hbufs]; · iexact Hbufs
  isplitl [Hsems]; · iexact Hsems
  iexact HO

set_option maxHeartbeats 4000000 in
/-- The task on the tile at coordinates `L`. -/
theorem tile_body (hF : (K (F := F)).Facts) (hx : ∀ j, (xf j : BitVec 32).toNat < 100000)
    (O : CellTallies nD τ sig (HIx 1)) (W : Waits sig (HIx 1)) (hO : ∀ g, O g none = 0) :
    iprop(levAts (K (F := F)).L (K (F := F)).lev ∗ emp ∗ given d L q r xf ef
        ∗ scopedBufs (thr d L) ∗ scopedSems0 (thr d L) ∗ owes (thr d L) O W)
      ⊢ wp frame (wpE (defs₀ (F := F)) 𝒱₀ (thr d L) none) Set.univ
          (cc0_gather_kernel L eV (Memref.isWhole_whole _) xV (Memref.isWhole_whole _) oV (Memref.isWhole_whole _) sV (Memref.isWhole_whole _)
            iB (Memref.isWhole_whole _) cc0_scoped1 oB (Memref.isWhole_whole _) cc0_scoped3 cc0_scoped4 cc0_scoped5)
          fun _ => (iprop(made d L q r xf ef ∗ scopedBufs (thr d L) ∗ scopedSems0 (thr d L)
            ∗ ∃ W', ⌜∀ p ∈ W', p ∈ W ∨ p.2 = none⌝ ∗ owes (thr d L) O W') : sProp 𝕄) := by
  refine (body_in d L q r xf ef hF O W hO).trans ?_
  refine (sep_mono (tile_run (U := UU) (𝒱₀ := 𝒱₀) (bd₀ := none) (D := defs₀ (F := F)) d L q r xf ef O W hx) .rfl).trans ?_
  refine (wp_frame_r frame _ _).trans ?_
  exact wp_mono frame _ _ fun _ => body_out d L q r xf ef hF O W

end Task

end Cert.Proof.Launch

end
-- ==== Proof.Parcel.lean ====
/-
  How the launch deals the operands out: shares of the index list and of the table peeled off one tile at a time, the
  gathered rows cut into the tiles' windows.
-/
module

public import proofs.«01_k».proof.Proof.Body

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Words Cert.Proof.Slots

variable {F : FTy → Type}

local notation "𝕄" => MT nD τ sig (HIx 1) (Elt F) ℕ UU ℕ

/-! ## Shares -/

/-- What is left of a share once `n` parts have been peeled off it, and the next part. -/
def restAt (q : PosShare TreeShare) : ℕ → PosShare TreeShare
  | 0 => q
  | n + 1 => (restAt q n).right
def cutAt (q : PosShare TreeShare) (n : ℕ) : PosShare TreeShare := (restAt q n).left

/-- Holding a buffer at a share is holding it at `n` parts and at what is left. -/
theorem peel {ℓ : Loc nD τ sig} (f : Buf (Elt F) ℓ) (q : PosShare TreeShare) : ∀ n : ℕ,
    (ℓ ↦{q} f : sProp 𝕄) = iprop((bigSep Finset.univ fun i : Fin n => ℓ ↦{cutAt q i.val} f) ∗ ℓ ↦{restAt q n} f)
  | 0 => by
    rw [show (Finset.univ : Finset (Fin 0)) = ∅ from rfl, bigSep_empty]
    exact (equiv_iff.mp BI.emp_sep).symm
  | n + 1 => by
    have hs : (ℓ ↦{restAt q n} f : sProp 𝕄) = iprop((ℓ ↦{cutAt q n} f) ∗ ℓ ↦{restAt q (n + 1)} f) :=
      BI.Entails.antisymm (pointsTo_share (PosShare.mem_left_op_right (restAt q n))).1 (pointsTo_share (PosShare.mem_left_op_right (restAt q n))).2
    have hb : (bigSep Finset.univ fun i : Fin (n + 1) => (ℓ ↦{cutAt q i.val} f : sProp 𝕄))
        = iprop((bigSep Finset.univ fun i : Fin n => ℓ ↦{cutAt q i.val} f) ∗ ℓ ↦{cutAt q n} f) := by
      rw [bigSep_univ_equiv (finSumFinEquiv (m := n) (n := 1)) (fun i : Fin (n + 1) => (ℓ ↦{cutAt q i.val} f : sProp 𝕄)), bigSep_univ_sum]
      exact congrArg _ (bigSep_univ_of_subsingleton (0 : Fin 1))
    rw [peel f q n, hs, hb]
    exact (equiv_iff.mp ⟨BI.sep_assoc, BI.sep_assoc'⟩).symm

/-! ## Windows -/

/-- The coordinates of tile `i` of core `c`. -/
def tileAt (c : Fin (grid0.bound 0)) (i : Fin (grid0.bound 1)) : grid0.Coords :=
  fun | 0 => c | 1 => i | ⟨_ + 2, h⟩ => absurd h (Nat.not_lt.2 (Nat.le_add_left _ _))

/-- The rows a tile gathers, and a core. -/
@[irreducible] def tileSet (L : grid0.Coords) : Finset S10240x128.Idx := (Finset.range (nSteps L)).biUnion fun j => rowSet (win L j)
@[irreducible] def coreSet (c : Fin (grid0.bound 0)) : Finset S10240x128.Idx := Finset.univ.biUnion fun i => tileSet (tileAt c i)

theorem mem_tileSet (L : grid0.Coords) (y : S10240x128.Idx) :
    y ∈ tileSet L ↔ base L ≤ (y 0).val / 128 ∧ (y 0).val / 128 < base L + nSteps L := by
  unfold tileSet
  rw [Finset.mem_biUnion]
  constructor
  · rintro ⟨j, hj, h⟩
    have hj := Finset.mem_range.mp hj
    have h := (mem_winO _ y).mp h
    rw [win_val L j hj] at h
    omega
  · intro h
    refine ⟨(y 0).val / 128 - base L, Finset.mem_range.mpr (by omega), (mem_winO _ y).mpr ?_⟩
    rw [win_val L _ (by omega)]
    omega

theorem tid_tileAt (c : Fin (grid0.bound 0)) (i : Fin (grid0.bound 1)) : tid (tileAt c i) = c.val * 16 + i.val := rfl

/-- A row belongs to the tile whose windows hold it. -/
theorem mem_tile_iff (c : Fin (grid0.bound 0)) (i : Fin (grid0.bound 1)) (y : S10240x128.Idx) :
    y ∈ tileSet (tileAt c i) ↔ (if (y 0).val / 128 < 48 then (y 0).val / 128 / 3 else (y 0).val / 128 / 2 - 8) = c.val * 16 + i.val := by
  rw [mem_tileSet, nSteps_eq]
  unfold base
  rw [tid_tileAt]
  split <;> split <;> omega

theorem mem_core_iff (c : Fin (grid0.bound 0)) (y : S10240x128.Idx) : y ∈ coreSet c ↔ (y 0).val / 128 / 48 = c.val := by
  have hy := (y 0).isLt; change (y 0).val < 10240 at hy
  have hc := c.isLt; change c.val < 2 at hc
  unfold coreSet
  rw [Finset.mem_biUnion]
  constructor
  · rintro ⟨i, -, h⟩
    have hi := i.isLt; change i.val < 16 at hi
    have h := (mem_tile_iff c i y).mp h
    split at h <;> omega
  · intro h
    by_cases h48 : (y 0).val / 128 < 48
    · refine ⟨⟨(y 0).val / 128 / 3, by show _ < 16; omega⟩, Finset.mem_univ _, (mem_tile_iff _ _ y).mpr ?_⟩
      rw [if_pos h48]; show _ = c.val * 16 + (y 0).val / 128 / 3; omega
    · refine ⟨⟨(y 0).val / 128 / 2 - 24, by show _ < 16; omega⟩, Finset.mem_univ _, (mem_tile_iff _ _ y).mpr ?_⟩
      rw [if_neg h48]; show _ = c.val * 16 + ((y 0).val / 128 / 2 - 24); omega

theorem wins_disjoint (L : grid0.Coords) : ∀ j ∈ Finset.range (nSteps L), ∀ j' ∈ Finset.range (nSteps L), j ≠ j' →
    Disjoint (rowSet (win L j)) (rowSet (win L j')) := fun j hj j' hj' hne => Finset.disjoint_left.mpr fun y h h' => by
  have e := (mem_winO _ y).mp h; have e' := (mem_winO _ y).mp h'
  rw [win_val L _ (Finset.mem_range.mp hj)] at e
  rw [win_val L _ (Finset.mem_range.mp hj')] at e'
  omega
theorem tiles_disjoint (c : Fin (grid0.bound 0)) : ∀ i ∈ (Finset.univ : Finset (Fin (grid0.bound 1))), ∀ i' ∈ (Finset.univ : Finset (Fin (grid0.bound 1))),
    i ≠ i' → Disjoint (tileSet (tileAt c i)) (tileSet (tileAt c i')) := fun i _ i' _ hne => Finset.disjoint_left.mpr fun y h h' => by
  have e := (mem_tile_iff c i y).mp h; have e' := (mem_tile_iff c i' y).mp h'
  exact hne (Fin.ext (by omega))
theorem cores_disjoint : ∀ c ∈ (Finset.univ : Finset (Fin (grid0.bound 0))), ∀ c' ∈ (Finset.univ : Finset (Fin (grid0.bound 0))),
    c ≠ c' → Disjoint (coreSet c) (coreSet c') := fun c _ c' _ hne => Finset.disjoint_left.mpr fun y h h' => by
  have e := (mem_core_iff c y).mp h; have e' := (mem_core_iff c' y).mp h'
  exact hne (Fin.ext (by omega))
theorem cores_cover : (Finset.univ : Finset (Fin (grid0.bound 0))).biUnion coreSet = Finset.univ := Finset.eq_univ_of_forall fun y => by
  have hy := (y 0).isLt; change (y 0).val < 10240 at hy
  exact Finset.mem_biUnion.mpr ⟨⟨(y 0).val / 128 / 48, by show _ < 2; omega⟩, Finset.mem_univ _, (mem_core_iff _ y).mpr rfl⟩

/-- The result held whole is its cores' parts; a core's part its tiles'; a tile's part its windows. -/
theorem out_cores (d : Dev nD) (f : Buf (Elt F) (oLoc d)) :
    (oLoc d ↦{fullShare} f : sProp 𝕄) = bigSep Finset.univ fun c : Fin (grid0.bound 0) => oLoc d ↦[coreSet c]{fullShare} f :=
  (congrArg (fun S => (oLoc d ↦[S]{fullShare} f : sProp 𝕄)) cores_cover.symm).trans (pointsTo_biUnion (ℓ := oLoc d) Finset.univ coreSet cores_disjoint)
theorem out_tiles (d : Dev nD) (c : Fin (grid0.bound 0)) (f : Buf (Elt F) (oLoc d)) :
    (oLoc d ↦[coreSet c]{fullShare} f : sProp 𝕄) = bigSep Finset.univ fun i : Fin (grid0.bound 1) => oLoc d ↦[tileSet (tileAt c i)]{fullShare} f := by
  unfold coreSet
  exact pointsTo_biUnion (ℓ := oLoc d) Finset.univ (fun i => tileSet (tileAt c i)) (tiles_disjoint c)
theorem out_wins (d : Dev nD) (L : grid0.Coords) (f : Buf (Elt F) (oLoc d)) :
    (oLoc d ↦[tileSet L]{fullShare} f : sProp 𝕄) = bigSep (Finset.range (nSteps L)) fun j => oLoc d ↦[rowSet (win L j)]{fullShare} f := by
  unfold tileSet
  exact pointsTo_biUnion (ℓ := oLoc d) (Finset.range (nSteps L)) (fun j => rowSet (win L j)) (wins_disjoint L)

theorem todo_intro (d : Dev nD) (f : Buf (Elt F) (oLoc d)) (n : Fin 80) :
    (oLoc d ↦[rowSet n]{fullShare} f : sProp 𝕄) ⊢ todo d n := by
  unfold todo
  iintro H
  iexists f
  iexact H

theorem todo_of (d : Dev nD) (f : Buf (Elt F) (oLoc d)) (S : Finset ℕ) (w : ℕ → Fin 80) :
    (bigSep S fun j => oLoc d ↦[rowSet (w j)]{fullShare} f : sProp 𝕄) ⊢ bigSep S fun j => todo d (w j) :=
  bigSep_mono fun j _ => todo_intro d f (w j)

theorem with_todo (d : Dev nD) (f : Buf (Elt F) (oLoc d)) (S : Finset ℕ) (w : ℕ → Fin 80) {A B : sProp 𝕄} :
    iprop(A ∗ B ∗ bigSep S fun j => oLoc d ↦[rowSet (w j)]{fullShare} f) ⊢ iprop(A ∗ B ∗ bigSep S fun j => todo d (w j)) :=
  sep_mono .rfl (sep_mono .rfl (todo_of d f S w))

theorem done_of (d : Dev nD) (xf : Buf (Elt F) (xLoc d)) (ef : Buf (Elt F) (eLoc d)) (S : Finset ℕ) (w : ℕ → Fin 80) :
    (bigSep S fun j => done d xf ef (w j) : sProp 𝕄) = bigSep S fun j => oLoc d ↦[rowSet (w j)]{fullShare} (G xf ef : Buf (Elt F) (oLoc d)) := rfl

theorem out_done (d : Dev nD) (L : grid0.Coords) (xf : Buf (Elt F) (xLoc d)) (ef : Buf (Elt F) (eLoc d)) :
    (bigSep (Finset.range (nSteps L)) fun j => done d xf ef (win L j) : sProp 𝕄) = oLoc d ↦[tileSet L]{fullShare} (G xf ef : Buf (Elt F) (oLoc d)) :=
  (done_of d xf ef (Finset.range (nSteps L)) (win L)).trans (out_wins d L (G xf ef)).symm

/-- A tile is given its shares and its rows at any contents, and makes of them its shares and its rows gathered. -/
theorem given_of (d : Dev nD) (L : grid0.Coords) (q r : PosShare TreeShare) (xf : Buf (Elt F) (xLoc d)) (ef : Buf (Elt F) (eLoc d))
    (f : Buf (Elt F) (oLoc d)) :
    iprop((xLoc d ↦{q} xf) ∗ (eLoc d ↦{r} ef) ∗ oLoc d ↦[tileSet L]{fullShare} f) ⊢ (given d L q r xf ef : sProp 𝕄) := by
  unfold given
  rw [out_wins]
  exact with_todo d f (Finset.range (nSteps L)) (win L)

theorem made_eq (d : Dev nD) (L : grid0.Coords) (q r : PosShare TreeShare) (xf : Buf (Elt F) (xLoc d)) (ef : Buf (Elt F) (eLoc d)) :
    (made d L q r xf ef : sProp 𝕄)
      = iprop((xLoc d ↦{q} xf) ∗ (eLoc d ↦{r} ef) ∗ oLoc d ↦[tileSet L]{fullShare} (G xf ef : Buf (Elt F) (oLoc d))) := by
  unfold made
  rw [out_done]

end Cert.Proof.Launch

end
-- ==== Proof.Launch.lean ====
/-
  The program's run: the two reshapes of the arguments, then the gather on the thirty-two tiles. Every execution
  ends with the arguments as they were and the result at the gathered rows.
-/
module

public import proofs.«01_k».proof.Proof.Parcel
public import Idealize.ShloMosaic.Lib.StableHlo.Run

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Cert.Proof.Words Cert.Proof.Slots

variable {F : FTy → Type}

local notation "𝕄" => MT nD τ sig (HIx 1) (Elt F) ℕ UU ℕ

/-! ## What the call is started with -/

section Carry

variable (xf : (d : Dev nD) → Buf (Elt F) (xLoc d)) (ef : (d : Dev nD) → Buf (Elt F) (eLoc d))

theorem nCore_zero : (K (F := F)).nCore 0 = grid0.bound 0 := rfl
theorem nSub_zero : (K (F := F)).nSub 0 = grid0.bound 1 := rfl

/-- The shares of a core, and of one of its tiles. -/
abbrev coreShare (c : Fin (grid0.bound 0)) : PosShare TreeShare := cutAt fullShare c.val
abbrev tileShare (c : Fin (grid0.bound 0)) (i : Fin (grid0.bound 1)) : PosShare TreeShare := cutAt (coreShare c) i.val

/-- What a core is started with and what it ends with; what a tile is given and what it makes. -/
def coreIn (d : Dev nD) (c : Fin (grid0.bound 0)) : sProp 𝕄 :=
  iprop((xLoc d ↦{coreShare c} xf d) ∗ (eLoc d ↦{coreShare c} ef d) ∗ ∃ f, oLoc d ↦[coreSet c]{fullShare} f)
def coreOut (d : Dev nD) (c : Fin (grid0.bound 0)) : sProp 𝕄 :=
  iprop((xLoc d ↦{coreShare c} xf d) ∗ (eLoc d ↦{coreShare c} ef d) ∗ oLoc d ↦[coreSet c]{fullShare} (G (xf d) (ef d) : Buf (Elt F) (oLoc d)))
def tileIn (d : Dev nD) (c : Fin (grid0.bound 0)) (i : Fin (grid0.bound 1)) : sProp 𝕄 :=
  iprop((xLoc d ↦{tileShare c i} xf d) ∗ (eLoc d ↦{tileShare c i} ef d) ∗ ∃ f, oLoc d ↦[tileSet (tileAt c i)]{fullShare} f)
def tileOut (d : Dev nD) (c : Fin (grid0.bound 0)) (i : Fin (grid0.bound 1)) : sProp 𝕄 :=
  iprop((xLoc d ↦{tileShare c i} xf d) ∗ (eLoc d ↦{tileShare c i} ef d) ∗ oLoc d ↦[tileSet (tileAt c i)]{fullShare} (G (xf d) (ef d) : Buf (Elt F) (oLoc d)))

/-- A tile's part is what its task takes, and what the task leaves. -/
theorem tileIn_given (d : Dev nD) (c : Fin (grid0.bound 0)) (i : Fin (grid0.bound 1)) :
    (tileIn xf ef d c i : sProp 𝕄) ⊢ given d (tileAt c i) (tileShare c i) (tileShare c i) (xf d) (ef d) := by
  unfold tileIn
  iintro ⟨Hx, He, %f, Ho⟩
  iapply (given_of d (tileAt c i) (tileShare c i) (tileShare c i) (xf d) (ef d) f)
  isplitl [Hx]; · iexact Hx
  isplitl [He]; · iexact He
  iexact Ho
theorem made_tileOut (d : Dev nD) (c : Fin (grid0.bound 0)) (i : Fin (grid0.bound 1)) :
    (made d (tileAt c i) (tileShare c i) (tileShare c i) (xf d) (ef d) : sProp 𝕄) ⊢ tileOut xf ef d c i :=
  Entails.of_eq (made_eq d (tileAt c i) (tileShare c i) (tileShare c i) (xf d) (ef d))

instance coreIn_storable (d c) : BI.Storable (upEmb : UEmb _ 𝕄) (coreIn xf ef d c) := by unfold coreIn; infer_instance
instance coreOut_storable (d c) : BI.Storable (upEmb : UEmb _ 𝕄) (coreOut xf ef d c) := by unfold coreOut; infer_instance
instance tileIn_storable (d c i) : BI.Storable (upEmb : UEmb _ 𝕄) (tileIn xf ef d c i) := by unfold tileIn; infer_instance
instance tileOut_storable (d c i) : BI.Storable (upEmb : UEmb _ 𝕄) (tileOut xf ef d c i) := by unfold tileOut; infer_instance

/-- What the one call's handshakes carry. -/
def P : (K (F := F)).Pay (nD := nD) (Val := Elt F) (Name := ℕ) (U := UU) where
  st := fun q d c => match q with | 0 => coreIn xf ef d (Fin.cast nCore_zero c)
  dn := fun q d c => match q with | 0 => coreOut xf ef d (Fin.cast nCore_zero c)
  go := fun q d c i => match q with | 0 => tileIn xf ef d (Fin.cast nCore_zero c) (Fin.cast nSub_zero i)
  td := fun q d c i => match q with | 0 => tileOut xf ef d (Fin.cast nCore_zero c) (Fin.cast nSub_zero i)
  x := fun _ _ => iprop(emp)

instance P_storable : (P xf ef).IsStorable where
  st q d c := match q with | 0 => coreIn_storable xf ef d (Fin.cast nCore_zero c)
  dn q d c := match q with | 0 => coreOut_storable xf ef d (Fin.cast nCore_zero c)
  go q d c i := match q with | 0 => tileIn_storable xf ef d (Fin.cast nCore_zero c) (Fin.cast nSub_zero i)
  td q d c i := match q with | 0 => tileOut_storable xf ef d (Fin.cast nCore_zero c) (Fin.cast nSub_zero i)

/-- A core's part is its tiles' and the rest of its shares, -/
theorem core_split (d : Dev nD) (c : Fin (grid0.bound 0)) : coreIn xf ef d c
    ⊢ iprop((bigSep Finset.univ fun i => tileIn xf ef d c i)
      ∗ (xLoc d ↦{restAt (coreShare c) (grid0.bound 1)} xf d) ∗ eLoc d ↦{restAt (coreShare c) (grid0.bound 1)} ef d) := by
  unfold coreIn
  iintro ⟨Hx, He, %f, Ho⟩
  ihave Hx := Entails.of_eq (peel (xf d) (coreShare c) (grid0.bound 1)) $$ Hx
  ihave He := Entails.of_eq (peel (ef d) (coreShare c) (grid0.bound 1)) $$ He
  ihave Ho := Entails.of_eq (out_tiles d c f) $$ Ho
  icases Hx with ⟨Hx, Hxr⟩
  icases He with ⟨He, Her⟩
  isplitr [Hxr Her]
  swap
  · isplitl [Hxr] <;> iassumption
  iapply (show iprop((bigSep Finset.univ fun i : Fin (grid0.bound 1) => xLoc d ↦{tileShare c i} xf d)
      ∗ (bigSep Finset.univ fun i : Fin (grid0.bound 1) => eLoc d ↦{tileShare c i} ef d)
      ∗ bigSep Finset.univ fun i : Fin (grid0.bound 1) => oLoc d ↦[tileSet (tileAt c i)]{fullShare} f)
      ⊢ (bigSep Finset.univ fun i => tileIn xf ef d c i : sProp 𝕄) from by
    rw [← bigSep_sep', ← bigSep_sep']
    exact bigSep_mono fun i _ => show iprop((xLoc d ↦{tileShare c i} xf d) ∗ (eLoc d ↦{tileShare c i} ef d) ∗ oLoc d ↦[tileSet (tileAt c i)]{fullShare} f)
        ⊢ tileIn xf ef d c i from sep_mono .rfl (sep_mono .rfl (exists_intro f)))
  isplitl [Hx]; · iexact Hx
  isplitl [He]; · iexact He
  iexact Ho

/-- and comes back from what they make. -/
theorem core_join (d : Dev nD) (c : Fin (grid0.bound 0)) :
    iprop((bigSep Finset.univ fun i => tileOut xf ef d c i)
      ∗ (xLoc d ↦{restAt (coreShare c) (grid0.bound 1)} xf d) ∗ eLoc d ↦{restAt (coreShare c) (grid0.bound 1)} ef d)
    ⊢ coreOut xf ef d c := by
  have e : (bigSep Finset.univ fun i => tileOut xf ef d c i : sProp 𝕄)
      = iprop((bigSep Finset.univ fun i : Fin (grid0.bound 1) => xLoc d ↦{tileShare c i} xf d)
        ∗ (bigSep Finset.univ fun i : Fin (grid0.bound 1) => eLoc d ↦{tileShare c i} ef d)
        ∗ bigSep Finset.univ fun i : Fin (grid0.bound 1) => oLoc d ↦[tileSet (tileAt c i)]{fullShare} (G (xf d) (ef d) : Buf (Elt F) (oLoc d))) := by
    rw [← bigSep_sep', ← bigSep_sep']
    rfl
  rw [e]
  unfold coreOut
  iintro ⟨⟨Hx, He, Ho⟩, Hxr, Her⟩
  isplitl [Hx Hxr]
  · iapply (Entails.of_eq (peel (xf d) (coreShare c) (grid0.bound 1)).symm)
    isplitl [Hx] <;> iassumption
  isplitl [He Her]
  · iapply (Entails.of_eq (peel (ef d) (coreShare c) (grid0.bound 1)).symm)
    isplitl [He] <;> iassumption
  iapply (Entails.of_eq (out_tiles d c (G (xf d) (ef d))).symm)
  iexact Ho

theorem tiles_cast (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
theorem cores_cast (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P xf ef) 0 := by
  intro d c
  show coreIn xf ef d (Fin.cast nCore_zero c) ⊢ |={Set.univ}=> iprop(
      (bigSep Finset.univ fun i : Fin ((K (F := F)).nSub 0) => tileIn xf ef d (Fin.cast nCore_zero c) (Fin.cast nSub_zero i))
      ∗ ((bigSep Finset.univ fun i : Fin ((K (F := F)).nSub 0) => tileOut xf ef d (Fin.cast nCore_zero c) (Fin.cast nSub_zero i))
          -∗ coreOut xf ef d (Fin.cast nCore_zero c)))
  rw [tiles_cast (fun i => tileIn xf ef d (Fin.cast nCore_zero c) i), tiles_cast (fun i => tileOut xf ef d (Fin.cast nCore_zero c) i)]
  iintro H
  ihave H := core_split xf ef d (Fin.cast nCore_zero c) $$ H
  icases H with ⟨Hgo, Hrest⟩
  imodintro
  isplitl [Hgo]; · iexact Hgo
  iintro Htd
  iapply (core_join xf ef d (Fin.cast nCore_zero c))
  isplitl [Htd] <;> iassumption

/-! ## The tiles' obligation -/

variable [FloatOps F] [Named F]

theorem defs₀_vector (c : Fin τ.nSC) (s : Fin τ.nSub) :
    defs₀ (F := F) (.scVector c s) 0 ()
      = SparseCore.onTile hcore0 hsub0 (fun c s => cc0_gather_kernel (tileAt c s) eV (Memref.isWhole_whole _) xV (Memref.isWhole_whole _)
          oV (Memref.isWhole_whole _) sV (Memref.isWhole_whole _) iB (Memref.isWhole_whole _) cc0_scoped1 oB (Memref.isWhole_whole _)
          cc0_scoped3 cc0_scoped4 cc0_scoped5) ⟨⟩ c s := rfl

/-- A wait recorded as the task's own is one the call allows. -/
theorem widen {t : Thread nD τ} {A A' B C : sProp 𝕄} (h : A ⊢ A') {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A' ∗ B ∗ C ∗ ∃ W', ⌜∀ p ∈ W', p ∈ W ∨ p.2 = none ∨ p.2 = some q⌝ ∗ owes t O W') :=
  sep_mono h (sep_mono .rfl (sep_mono .rfl (by
    iintro ⟨%W', %h, HO⟩
    iexists W'
    isplitr
    · ipureintro; exact fun p hp => (h p hp).imp_right Or.inl
    · iexact HO)))

set_option maxRecDepth 16384 in
set_option maxHeartbeats 4000000 in
theorem tileObl (hF : (K (F := F)).Facts) (hx : ∀ d j, (xf d j : BitVec 32).toNat < 100000) :
    (K (F := F)).TileObl (D (F := F)) 𝒱 (P xf ef) v₀ 0 := by
  intro d c i O W hO _ _
  simp only [show (P xf ef).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact ((sep_mono .rfl (sep_mono .rfl (sep_mono (tileIn_given xf ef d _ _) .rfl))).trans (tile_body d (tileAt (Fin.cast nCore_zero c) (Fin.cast nSub_zero i)) _ _ (xf d) (ef d) hF (hx d) O W hO)).trans
    (wp_mono frame _ _ fun _ => widen (made_tileOut xf ef d _ _))

end Carry

end Cert.Proof.Launch

end
-- ==== Proof.Step.lean ====
/-
  A TensorCore call as a step of the program's run: entered from a set of arrays held at a valuation, left with the call's
  results at what its grid's write-backs make of them, every other array as it was. The same text serves all four calls.
-/
module

public import proofs.«01_k».proof.Proof.Launch
public import proofs.«01_k».proof.Proof.Gen.KernelIdeal.Launch
public import Idealize.ShloMosaic.Lib.Pipeline.RegionArrays
public import Idealize.ShloMosaic.Lib.Pipeline.FrameTail

@[expose] public section

noncomputable section

namespace Cert.Proof.Step

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)

variable {F : FTy → Type} [FloatOps F] [Named F]

local notation "𝕄" => MT nD τ sig (HIx 1) (Elt F) ℕ UU ℕ

/-- The waits a thread has recorded before the call sit below the levels of the calls still to come. -/
abbrev calm (c : Dev nD) : Set (SemLoc sig × HIx 1) :=
  {p | (K (F := F)).lev (T c, p.1) p.2 ≤ 8 * SparseCore.Cfg.Blocks.fst (Q := 1) (N := 1) 1}

abbrev adm : (p : Fin 4) → (pcfgs (F := F) p).Adm := fun q => (cfgs q).toPCfg_adm

/-- What the proof of a call is about: one call's data on each core. -/
abbrev Data (p : Fin 4) : Type := (c : Dev nD) → Dat τ (Elt F) (HIx 1) ℕ UU ℕ (Pipeline.pin (pcfgs (F := F)) adm p) c

variable {p : Fin 4} (D : Data (F := F) p) (V : Dev nD → Valuation τ sig (Elt F)) (S : Finset (DevRef τ sig))

/-- The call's facts: its arrays as the valuation has them, its body's triple, nothing owed, and an invariant that the
    scoped buffers it doesn't stage give and get back. -/
structure Facts : Prop where
  kit : Pipeline.PLaunchFacts (nD := nD) (τ := τ) (pcfgs (F := F)) p
  pre0 : (pcfgs (F := F) p).pre.K = 0
  arr0 : ∀ c w, (D c).arrAt w 0 = V c (Proc.devRef .tc (arrRef (Pipeline.pin (pcfgs (F := F)) adm p).spec w))
  full : ∀ c w, (D c).share w = fullShare
  body : ∀ c, BodyObligation (D c) (defs₀ (F := F)) Variants.none none Set.univ
  owed : ∀ c t, (D c).owed t = 0
  recorded : ∀ c t, (D c).recorded t = calm (F := F) c
  into : ∀ c, (scopedRest (Pipeline.pin (pcfgs (F := F)) adm p).spec c : sProp 𝕄) ⊢ (D c).Φ 0
  outof : ∀ c, (D c).Φ (Fin.last _) ⊢ (scopedRest (Pipeline.pin (pcfgs (F := F)) adm p).spec c : sProp 𝕄)
  sub : arrRefs (pcfgs (F := F) p).spec ⊆ S

variable {D V S}

theorem Facts.held_off (H : Facts D V S) (c : Dev nD) :
    (held (c.tc : Thread nD τ) (S \ arrRefs (pcfgs (F := F) p).spec) (V c) : sProp 𝕄)
      = held (c.tc : Thread nD τ) (S \ arrRefs (pcfgs (F := F) p).spec) (afterRegion (D c) (V c)) :=
  StableHlo.held_congr _ fun b hb => by
    unfold afterRegion
    rw [dif_neg]
    rintro ⟨w, rfl⟩
    exact (Finset.mem_sdiff.mp hb).2 (Finset.mem_map.mpr ⟨_, Finset.mem_image.mpr ⟨w, Finset.mem_univ _, rfl⟩, rfl⟩)

/-- The call as a step, from the arrays at `V` to the arrays as the call leaves them. -/
def step {pd : (p : Fin 4) → Data (F := F) p} {p : Fin 4} (H : Facts (pd p) V S) : Pipeline.RegionSeg (pcfgs (F := F)) adm pd none defs₀ Variants.none (K (F := F)).L (K (F := F)).lev p where
  win := H.kit.win.to₀
  block_pos := H.kit.to₀.block_pos
  stage_whole := H.kit.to₀.stage_whole
  K := PEmpty
  osem k := k.elim
  ho := Pipeline.OwnSemFacts.none _
  hbody c := (H.body c).loose
  hwaits := Pipeline.hwaits_of_owed_zero _ _ _ _ _ _ p fun c t => H.owed c t
  pre c := iprop(held (c.tc : Thread nD τ) S (V c) ∗ owesWithin c 0 (calm (F := F) c))
  post c := iprop(held (c.tc : Thread nD τ) S (afterRegion (pd p c) (V c)) ∗ owesWithin c 0 (calm (F := F) c))
  X _ := BI.emp
  Y _ := BI.emp
  Z c := held (c.tc : Thread nD τ) (S \ arrRefs (pcfgs (F := F) p).spec) (V c)
  hentry c := by
    rw [Pipeline.ownSems0_none, Pipeline.prefHeld_of_none _ H.pre0, StableHlo.held_sub_split _ H.sub,
      ← Pipeline.arrays_held (pcfgs (F := F)) adm pd p H.kit c (H.full c) ((pd p c).arrAt · 0) (V c) (H.arr0 c)]
    iintro ⟨⟨⟨Ha, Hrest⟩, HO⟩, -, -⟩
    imodintro
    isplitl [Ha]; · iexact Ha
    isplitr; · iempintro
    isplitl [HO]
    · unfold Dat.owesAt
      rw [H.owed c 0]
      iapply (Pipeline.owesWithin_mono c 0 (B := calm (F := F) c) fun x h => Or.inl (by rw [H.recorded c 0]; exact h)); iexact HO
    isplitr; · iempintro
    iexact Hrest
  hin c := by
    iintro ⟨-, -, Hr⟩
    iapply (H.into c); iexact Hr
  hout c := by
    rw [Pipeline.ownSems0_none]
    iintro Hr
    isplitr; · iempintro
    isplitr; · iempintro
    iapply (H.outof c); iexact Hr
  hexit c := by
    rw [StableHlo.held_sub_split _ H.sub (afterRegion (pd p c) (V c)), ← H.held_off c,
      ← Pipeline.arrays_held (pcfgs (F := F)) adm pd p H.kit c (H.full c) ((pd p c).arrAt · (Pipeline.pin (pcfgs (F := F)) adm p).N)
        (afterRegion (pd p c) (V c)) fun w => (Pipeline.afterRegion_arr (pd p c) (V c) H.kit.win.arr_inj w).symm]
    iintro ⟨Ha, HO, -, Hrest⟩
    imodintro
    isplitl [Ha Hrest]
    · isplitl [Ha] <;> iassumption
    unfold Dat.owesAt
    rw [H.owed c (Fin.last _)]
    iapply (Pipeline.owesWithin_mono c 0 (B := (pd p c).bound none (Fin.last _)) (B' := calm (F := F) c) fun x h => by
      rcases h with h | ⟨w, s, rfl⟩
      · rw [H.recorded] at h; exact h
      · exact Nat.zero_le _)
    iexact HO

end Cert.Proof.Step

end
-- ==== Proof.Mask.lean ====
/-
  The call that writes the mask: its body's run, its proof data, and the array it leaves.
-/
module

public import proofs.«01_k».proof.Proof.Gen.KernelIdeal.Skeleton
public import proofs.«01_k».proof.Proof.Gen.KernelIdeal.Points
public import Idealize.ShloMosaic.Lib.Tactic
public import proofs.«01_k».proof.Proof.Step
public import Idealize.ShloMosaic.Lib.Pipeline.ValueKit.Geometry

@[expose] public section

noncomputable section

namespace Cert.Proof.Mask

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)
open Cert.Proof.Step (calm adm Data Facts)

variable {F : FTy → Type} [FloatOps F] [Named F]

local notation "𝕄" => MT nD τ sig (HIx 1) (Elt F) ℕ UU ℕ

/-- The body's run: the buffer ends at the mask. -/
theorem body_run (c : Dev nD) (E : Set ℕ) (f : Buf (Elt F) ((c.tc : Thread nD τ).loc cc1_stg0_0)) (Q : PUnit → sProp 𝕄) :
    iprop(((c.tc : Thread nD τ).loc cc1_stg0_0 ↦{fullShare} f)
        ∗ (((c.tc : Thread nD τ).loc cc1_stg0_0 ↦{fullShare} (k1_pay1 (F := F) : Buf (Elt F) ((c.tc : Thread nD τ).loc cc1_stg0_0))) -∗ Q ⟨⟩))
      ⊢ wp frame (wpE (defs₀ (F := F)) Variants.none (c.tc : Thread nD τ) none) E
          (cc1__mask_body (Memref.whole cc1_stg0_0) (hstage1_0 0)) Q := by
  have hz : (![0] : Fin 1 → Nat) = fun _ => 0 := funext fun a => by fin_cases a; rfl
  have hw : ∀ w, ((Memref.whole cc1_stg0_0).access (Rect.unit (s := S2400) ![0] S2400.size
      inb_S2400_S2400_0) : View sig .tc _ _ _).write (Elt F) f w Finset.univ = w :=
    Memref.write_access_unit_zero_univ (Elt F) cc1_stg0_0 hz _ f
  rw [cc1__mask_body_eq_skeleton]; unfold cc1__mask_body_skel
  simp only [Prog.lift, Prog.bind_op, Prog.bind_ret, Prog.pure_eq_ret, pure_bind]
  iintro ⟨H, Hk⟩
  sl_steps
  iapply Hk
  rw [hw]
  iexact H

variable (V : Dev nD → Valuation τ sig (Elt F))

/-- The call's proof data: its one array as the valuation has it, its buffer at the mask. -/
def dat (c : Dev nD) : Dat τ (Elt F) (HIx 1) ℕ UU ℕ cfg1 c where
  A w := V c (Proc.devRef .tc (arrRef spec1 w))
  after w _ := match w with
    | ⟨0, _⟩ => k1_pay1
  Φ _ := scopedRest (Ix := HIx 1) (Name := ℕ) (U := UU) (Lvl := ℕ) (Val := Elt F) spec1 c
  q _ := fullShare
  owed _ := 0
  recorded _ := calm (F := F) c

theorem body_obligation (c : Dev nD) : BodyObligation (dat V c) (defs₀ (F := F)) Variants.none none Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, -, H0⟩⟩
  iapply (body_run c Set.univ f0 _)
  isplitl [H0]; · iexact H0
  iintro H0
  isplitl [HΦ]; · iexact HΦ
  isplitl [Howes]; · iexact Howes
  iexists _; isplitr; swap; (· iexact H0); ipureintro; dsimp only [dat]

theorem facts (S : Finset (DevRef τ sig)) (hS : arrRefs spec1 ⊆ S) : Facts (p := 0) (dat V) V S where
  kit := launch1.toP (Val := Elt F)
  pre0 := rfl
  arr0 _ _ := rfl
  full c := (dat V c).share_full fun _ => rfl
  body := body_obligation V
  owed _ _ := rfl
  recorded _ _ := rfl
  into _ := .rfl
  outof _ := .rfl
  sub := hS

theorem after_mask (c : Dev nD) : afterRegion (dat V c) (V c) (Proc.devRef .tc main_v8) = (k1_pay1 (F := F) : S2400.Idx → Elt F .bf16) := by
  refine (Pipeline.afterRegion_arr (dat V c) (V c) winFacts1.arr_inj 0).trans ?_
  refine (dat V c).arrAt_eq_of_after_last 0 t1_0 (by decide +kernel) _ fun j => ?_
  dsimp only [dat]
  rfl

end Cert.Proof.Mask

end
-- ==== Proof.Stats.lean ====
/-
  The statistics call: what its body leaves in its result's buffer as a function of the padded table, the body's run, the
  call's proof data, and the array it leaves.
-/
module

public import proofs.«01_k».proof.Proof.Gen.KernelIdeal.Skeleton
public import proofs.«01_k».proof.Proof.Gen.KernelIdeal.Points
public import Idealize.ShloMosaic.Lib.Tactic
public import proofs.«01_k».proof.Proof.Step
public import Idealize.ShloMosaic.Lib.Pipeline.ValueKit.Geometry

@[expose] public section

noncomputable section

namespace Cert.Proof.Stats

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)
open Cert.Proof.Step (calm adm Data Facts)

variable {F : FTy → Type} [FloatOps F] [Named F]

local notation "𝕄" => MT nD τ sig (HIx 1) (Elt F) ℕ UU ℕ

/-! ## The values -/

/-- The first sixty-four columns of 8192 rows of the padded table, from row `o`. -/
abbrev rows (w : S102400x128.Idx → Elt F .bf16) (o : Nat) (h : ∀ a, (![o, 0] : Fin 2 → Nat) a + S8192x64.size a ≤ S102400x128.size a) : Vec F S8192x64 .bf16 :=
  (Memref.whole cc2_stg0_0 : Memref sig .tc _ _ _).view.readAt (Elt F) (Rect.unit (s := S102400x128) ![o, 0] S8192x64.size h).toLoadRect w

/-- The column of biases. -/
abbrev biases (w : S102400x128.Idx → Elt F .bf16) : Vec F S102400x1 .bf16 :=
  (Memref.whole cc2_stg0_0 : Memref sig .tc _ _ _).view.readAt (Elt F)
    (Rect.unit (s := S102400x128) ![0, 64] S102400x1.size inb_S102400x128_S102400x1_0_64).toLoadRect w

/-- The greatest squared norm of the first 98304 rows, by four chunks, eight, and twelve. -/
def top4 (w : S102400x128.Idx → Elt F .bf16) : F .f32 :=
  k2_pay2 (rows w 0 inb_S102400x128_S8192x64_0_0) (rows w 8192 inb_S102400x128_S8192x64_8192_0)
    (rows w 16384 inb_S102400x128_S8192x64_16384_0) (rows w 24576 inb_S102400x128_S8192x64_24576_0)
def top8 (w : S102400x128.Idx → Elt F .bf16) : F .f32 :=
  k2_pay3 (top4 w) (rows w 32768 inb_S102400x128_S8192x64_32768_0) (rows w 40960 inb_S102400x128_S8192x64_40960_0)
    (rows w 49152 inb_S102400x128_S8192x64_49152_0) (rows w 57344 inb_S102400x128_S8192x64_57344_0)
def top12 (w : S102400x128.Idx → Elt F .bf16) : F .f32 :=
  k2_pay5 (top8 w) (k2_pay4 (rows w 65536 inb_S102400x128_S8192x64_65536_0)) (rows w 73728 inb_S102400x128_S8192x64_73728_0)
    (rows w 81920 inb_S102400x128_S8192x64_81920_0) (rows w 90112 inb_S102400x128_S8192x64_90112_0)

/-- The two statistics: the root of the greatest squared norm in lane 0, the greatest bias in lane 1. -/
def statsOf (w : S102400x128.Idx → Elt F .bf16) : FVec F S1x128 .f32 :=
  k2_pay1 (top12 w) (k2_pay6 (biases w)) (iota .tc S1x128 32 [1] iota_S1x128_d1_w32)

/-! ## The run -/

theorem body_run (w : S102400x128.Idx → Elt F .bf16) (c : Dev nD) (E : Set ℕ) (f : Buf (Elt F) ((c.tc : Thread nD τ).loc cc2_stg1_0)) (Q : PUnit → sProp 𝕄) :
    iprop(((c.tc : Thread nD τ).loc cc2_stg0_0 ↦{fullShare} w) ∗ ((c.tc : Thread nD τ).loc cc2_stg1_0 ↦{fullShare} f)
        ∗ (iprop(((c.tc : Thread nD τ).loc cc2_stg0_0 ↦{fullShare} w)
          ∗ ((c.tc : Thread nD τ).loc cc2_stg1_0 ↦{fullShare} (statsOf w : Buf (Elt F) ((c.tc : Thread nD τ).loc cc2_stg1_0)))) -∗ Q ⟨⟩))
      ⊢ wp frame (wpE (defs₀ (F := F)) Variants.none (c.tc : Thread nD τ) none) E
          (cc2__stats_body (Memref.whole cc2_stg0_0) (hstage2_0 0) (Memref.whole cc2_stg1_0) (hstage2_1 0)) Q := by
  have hz : (![0, 0] : Fin 2 → Nat) = fun _ => 0 := funext fun a => by fin_cases a <;> rfl
  have hw : ∀ w, ((Memref.whole cc2_stg1_0).access (Rect.unit (s := S1x128) ![0, 0] S1x128.size
      inb_S1x128_S1x128_0_0) : View sig .tc _ _ _).write (Elt F) f w Finset.univ = w :=
    Memref.write_access_unit_zero_univ (Elt F) cc2_stg1_0 hz _ f
  rw [cc2__stats_body_eq_skeleton]; unfold cc2__stats_body_skel
  rw [k2_part1_eq_skeleton, k2_part2_eq_skeleton, k2_part3_eq_skeleton]
  unfold k2_part1_skel k2_part2_skel k2_part3_skel
  simp only [Prog.lift, Prog.bind_op, Prog.bind_ret, Prog.pure_eq_ret, pure_bind]
  iintro ⟨H0, H1, Hk⟩
  sl_steps
  iapply Hk
  rw [hw]
  unfold statsOf top12 top8 top4
  isplitl [H0]; · iexact H0
  iexact H1

/-! ## The proof data -/

variable (V : Dev nD → Valuation τ sig (Elt F))

/-- The padded table as the fetch stages it. -/
abbrev stg (c : Dev nD) : (cfg2.win 0).block.Idx → Elt F (cfg2.win 0).elt := ((cfg2.win 0).blk t2_0).view.read (Elt F) (V c (Proc.devRef .tc main_v12))

/-- The call's proof data: the arrays as the valuation has them, the table's buffer as fetched, the result's at the statistics. -/
def dat (c : Dev nD) : Dat τ (Elt F) (HIx 1) ℕ UU ℕ cfg2 c where
  A w := V c (Proc.devRef .tc (arrRef spec2 w))
  after w _ := match w with
    | ⟨0, _⟩ => stg V c
    | ⟨1, _⟩ => statsOf (stg V c)
  Φ _ := scopedRest (Ix := HIx 1) (Name := ℕ) (U := UU) (Lvl := ℕ) (Val := Elt F) spec2 c
  q _ := fullShare
  owed _ := 0
  recorded _ := calm (F := F) c

theorem before_0 (c : Dev nD) (d : (cfg2.win 0).block.Idx → Elt F (cfg2.win 0).elt) : (dat V c).before 0 t2_0 d = stg V c := by
  unfold Dat.before; rw [if_pos (fetch2_0 t2_0)]; rfl

theorem body_obligation (c : Dev nD) : BodyObligation (dat V c) (defs₀ (F := F)) Variants.none none Set.univ := fun t => by
  obtain rfl := fin_N2 t
  rw [bigSep_W2, bigSep_W2]
  simp only [owns_whole_eq]
  rw [show (dat V c).Φ t2_0.succ = (dat V c).Φ t2_0.castSucc from rfl,
    show (dat V c).owesAt none t2_0.succ = (dat V c).owesAt none t2_0.castSucc from rfl]
  iintro ⟨HΦ, Howes, ⟨%d0, %f0, %hf0, H0⟩, ⟨%d1, %f1, -, H1⟩⟩
  rw [before_0] at hf0
  subst hf0
  iapply (body_run (stg V c) c Set.univ f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

theorem facts (S : Finset (DevRef τ sig)) (hS : arrRefs spec2 ⊆ S) : Facts (p := 1) (dat V) V S where
  kit := launch2.toP (Val := Elt F)
  pre0 := rfl
  arr0 _ _ := rfl
  full c := (dat V c).share_full fun _ => rfl
  body := body_obligation V
  owed _ _ := rfl
  recorded _ _ := rfl
  into _ := .rfl
  outof _ := .rfl
  sub := hS

/-! ## The array it leaves -/

theorem ix0 : ∀ a, win2_0.index t2_0 a = 0 := by decide

theorem stg_eq (c : Dev nD) : stg V c = (V c (Proc.devRef .tc main_v12) : S102400x128.Idx → Elt F .bf16) := by
  funext i
  refine congrArg (V c (Proc.devRef .tc main_v12)) (funext fun a => Fin.ext ?_)
  fin_cases a <;> blk_simp <;> simp only [ix0, Nat.zero_mul, Nat.zero_add]

theorem after_stats (c : Dev nD) :
    afterRegion (dat V c) (V c) (Proc.devRef .tc main_v13) = (statsOf (V c (Proc.devRef .tc main_v12) : S102400x128.Idx → Elt F .bf16) : S1x128.Idx → Elt F .f32) := by
  refine (Pipeline.afterRegion_arr (dat V c) (V c) winFacts2.arr_inj 1).trans ?_
  rw [← stg_eq V c]
  refine (dat V c).arrAt_eq_of_after_last 1 t2_0 (by decide +kernel) _ fun j => ?_
  dsimp only [dat]
  rfl

end Cert.Proof.Stats

end
-- ==== Proof.PoolBody.lean ====
/-
  The pooling kernel's body: what it leaves in its two results' buffers, as functions of the statistics, the gathered
  rows and the indices, and its run from the five buffers.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Proof.Pool

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-! ## The values -/

/-- Sixty-four columns of the gathered rows, from column `o`. -/
abbrev cols (g : S1024x1280.Idx → Elt F .f32) (o : Nat) (h : ∀ a, (![0, o] : Fin 2 → Nat) a + S1024x64.size a ≤ S1024x1280.size a) : Vec F S1024x64 .f32 :=
  (Memref.whole cc3_stg1_0 : Memref sig .tc _ _ _).view.readAt (Elt F) (Rect.unit (s := S1024x1280) ![0, o] S1024x64.size h).toLoadRect g

/-- Column `j` of the indices. -/
abbrev word (x : S1024x10.Idx → Elt F .i32) (j : Nat) (h : ∀ a, (![0, j] : Fin 2 → Nat) a + S1024x1.size a ≤ S1024x10.size a) : Vec F S1024x1 .i32 :=
  (Memref.whole cc3_stg2_0 : Memref sig .tc _ _ _).view.readAt (Elt F) (Rect.unit (s := S1024x10) ![0, j] S1024x1.size h).toLoadRect x

/-- One statistic. -/
abbrev stat (st : S1x128.Idx → Elt F .f32) (j : Nat) (h : ∀ a, (![0, j] : Fin 2 → Nat) a + S1x1.size a ≤ S1x128.size a) : Vec F S1x1 .f32 :=
  (Memref.whole cc3_stg0_0 : Memref sig .tc _ _ _).view.readAt (Elt F) (Rect.unit (s := S1x128) ![0, j] S1x1.size h).toLoadRect st

variable [FloatOps F] [Named F] (st : S1x128.Idx → Elt F .f32) (g : S1024x1280.Idx → Elt F .f32) (x : S1024x10.Idx → Elt F .i32)

/-- The first two, the first five and the first eight rows of each context, summed. -/
def sum2 : FVec F S1024x64 .f32 :=
  k3_pay2 (cols g 0 inb_S1024x1280_S1024x64_0_0) (cols g 64 inb_S1024x1280_S1024x64_0_64) (word x 0 inb_S1024x10_S1024x1_0_0)
    (cols g 128 inb_S1024x1280_S1024x64_0_128) (cols g 192 inb_S1024x1280_S1024x64_0_192) (word x 1 inb_S1024x10_S1024x1_0_1)

def sum5 : FVec F S1024x64 .f32 :=
  k3_pay7 (sum2 g x) (k3_pay3 (cols g 256 inb_S1024x1280_S1024x64_0_256)) (k3_pay4 (cols g 320 inb_S1024x1280_S1024x64_0_320))
    (k3_pay5 (F := F) (word x 2 inb_S1024x10_S1024x1_0_2)) k3_pay6
    (cols g 384 inb_S1024x1280_S1024x64_0_384) (cols g 448 inb_S1024x1280_S1024x64_0_448) (word x 3 inb_S1024x10_S1024x1_0_3)
    (cols g 512 inb_S1024x1280_S1024x64_0_512) (cols g 576 inb_S1024x1280_S1024x64_0_576) (word x 4 inb_S1024x10_S1024x1_0_4)

def sum8 : FVec F S1024x64 .f32 :=
  k3_pay11 (sum5 g x) (k3_pay8 (cols g 640 inb_S1024x1280_S1024x64_0_640)) (k3_pay9 (cols g 704 inb_S1024x1280_S1024x64_0_704))
    (word x 5 inb_S1024x10_S1024x1_0_5) k3_pay10
    (cols g 768 inb_S1024x1280_S1024x64_0_768) (cols g 832 inb_S1024x1280_S1024x64_0_832) (word x 6 inb_S1024x10_S1024x1_0_6)
    (cols g 896 inb_S1024x1280_S1024x64_0_896) (cols g 960 inb_S1024x1280_S1024x64_0_960) (word x 7 inb_S1024x10_S1024x1_0_7)

/-- A payload of the last two rows, applied to them and the sum of the first eight. -/
abbrev atLast {α : Type}
    (k : FVec F S1024x64 .f32 → FVec F S1024x64 .f32 → FVec F S1024x64 .f32 → Vec F S1024x1 .i32 → Vec F S1024x64 .f32 → Vec F S1024x64 .f32 → Vec F S1024x1 .i32 → α) : α :=
  k (sum8 g x) (k3_pay12 (cols g 1024 inb_S1024x1280_S1024x64_0_1024)) (k3_pay13 (cols g 1088 inb_S1024x1280_S1024x64_0_1088))
    (word x 8 inb_S1024x10_S1024x1_0_8)
    (cols g 1152 inb_S1024x1280_S1024x64_0_1152) (cols g 1216 inb_S1024x1280_S1024x64_0_1216) (word x 9 inb_S1024x10_S1024x1_0_9)

/-- The ten rows of each context summed, and the two results: the sums with a one and zeros beside them, and the scaled
    and shifted norms. -/
def sum10 : FVec F S1024x64 .f32 := atLast g x k3_pay14
def augOf : FVec F S1024x128 .bf16 := atLast g x k3_pay15
def boundOf : FVec F S1024x1 .f32 :=
  k3_pay1 (atLast g x k3_pay16) (k3_pay17 (stat st 0 inb_S1x128_S1x1_0_0)) (stat st 1 inb_S1x128_S1x1_0_1)

/-! ## The run -/

section Run

variable {Ix Name U Lvl : Type} [DecidableEq Ix] [DecidableEq Name] [URA U] [Preorder Lvl]

local notation "𝕄" => MT nD τ sig Ix (Elt F) Name U Lvl

abbrev pt (c : Dev nD) (b : Ref sig .tc) (f : Buf (Elt F) ((c.tc : Thread nD τ).loc b)) : sProp 𝕄 := (c.tc : Thread nD τ).loc b ↦{fullShare} f

theorem body_run (c : Dev nD) (E : Set Name) (f3 : Buf (Elt F) ((c.tc : Thread nD τ).loc cc3_stg3_0)) (f4 : Buf (Elt F) ((c.tc : Thread nD τ).loc cc3_stg4_0))
    (Q : PUnit → sProp 𝕄) :
    iprop(pt c cc3_stg0_0 st ∗ pt c cc3_stg1_0 g ∗ pt c cc3_stg2_0 x ∗ pt c cc3_stg3_0 f3 ∗ pt c cc3_stg4_0 f4
        ∗ (iprop(pt c cc3_stg0_0 st ∗ pt c cc3_stg1_0 g ∗ pt c cc3_stg2_0 x ∗ pt c cc3_stg3_0 (augOf g x) ∗ pt c cc3_stg4_0 (boundOf st g x)) -∗ Q ⟨⟩))
      ⊢ wp frame (wpE (defs₀ (F := F)) Variants.none (c.tc : Thread nD τ) none) E
          (cc3__pool_body (Memref.whole cc3_stg0_0) (hstage3_0 0) (Memref.whole cc3_stg1_0) (hstage3_1 0) (Memref.whole cc3_stg2_0) (hstage3_2 0)
            (Memref.whole cc3_stg3_0) (hstage3_3 0) (Memref.whole cc3_stg4_0) (hstage3_4 0)) Q := by
  have hz : (![0, 0] : Fin 2 → Nat) = fun _ => 0 := funext fun a => by fin_cases a <;> rfl
  have hw3 : ∀ w, ((Memref.whole cc3_stg3_0).access (Rect.unit (s := S1024x128) ![0, 0] S1024x128.size
      inb_S1024x128_S1024x128_0_0) : View sig .tc _ _ _).write (Elt F) f3 w Finset.univ = w :=
    Memref.write_access_unit_zero_univ (Elt F) cc3_stg3_0 hz _ f3
  have hw4 : ∀ w, ((Memref.whole cc3_stg4_0).access (Rect.unit (s := S1024x1) ![0, 0] S1024x1.size
      inb_S1024x1_S1024x1_0_0) : View sig .tc _ _ _).write (Elt F) f4 w Finset.univ = w :=
    Memref.write_access_unit_zero_univ (Elt F) cc3_stg4_0 hz _ f4
  rw [cc3__pool_body_eq_skeleton]; unfold cc3__pool_body_skel
  rw [k3_part1_eq_skeleton, k3_part2_eq_skeleton, k3_part3_eq_skeleton, k3_part4_eq_skeleton]
  unfold k3_part1_skel k3_part2_skel k3_part3_skel k3_part4_skel
  simp only [Prog.lift, Prog.bind_op, Prog.bind_ret, Prog.pure_eq_ret, pure_bind]
  iintro ⟨H0, H1, H2, H3, H4, Hk⟩
  sl_steps
  iapply Hk
  rw [hw3, hw4]
  unfold boundOf augOf atLast sum8 sum5 sum2
  isplitl [H0]; · iexact H0
  isplitl [H1]; · iexact H1
  isplitl [H2]; · iexact H2
  isplitl [H3]; · iexact H3
  iexact H4

end Run

end Cert.Proof.Pool

end
-- ==== Proof.Pool.lean ====
/-
  The pooling call: its proof data and the arrays it leaves.
-/
module

public import proofs.«01_k».proof.Proof.PoolBody
public import proofs.«01_k».proof.Proof.Step
public import Idealize.ShloMosaic.Lib.Pipeline.ValueKit.Geometry

@[expose] public section

noncomputable section

namespace Cert.Proof.Pool

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)
open Cert.Proof.Step (calm adm Data Facts)

variable {F : FTy → Type} [FloatOps F] [Named F]

local notation "𝕄" => MT nD τ sig (HIx 1) (Elt F) ℕ UU ℕ

/-! ## The proof data -/

variable (V : Dev nD → Valuation τ sig (Elt F))

abbrev stAt (c : Dev nD) : S1x128.Idx → Elt F .f32 := V c (Proc.devRef .tc main_v13)
abbrev rowsAt (c : Dev nD) : S1024x1280.Idx → Elt F .f32 := V c (Proc.devRef .tc main_v3)
abbrev idsAt (c : Dev nD) : S1024x10.Idx → Elt F .i32 := V c (Proc.devRef .tc main_arg0)

/-- An operand's block as the fetch stages it. -/
abbrev stg0 (c : Dev nD) : (cfg3.win 0).block.Idx → Elt F (cfg3.win 0).elt := ((cfg3.win 0).blk t3_0).view.read (Elt F) (V c (Proc.devRef .tc main_v13))
abbrev stg1 (c : Dev nD) : (cfg3.win 1).block.Idx → Elt F (cfg3.win 1).elt := ((cfg3.win 1).blk t3_0).view.read (Elt F) (V c (Proc.devRef .tc main_v3))
abbrev stg2 (c : Dev nD) : (cfg3.win 2).block.Idx → Elt F (cfg3.win 2).elt := ((cfg3.win 2).blk t3_0).view.read (Elt F) (V c (Proc.devRef .tc main_arg0))

/-- The call's proof data from the valuation `V c`: the arrays as it has them, the operands' buffers as fetched, the
    results' at the body's values, nothing owed. -/
def dat (c : Dev nD) : Dat τ (Elt F) (HIx 1) ℕ UU ℕ cfg3 c where
  A w := V c (Proc.devRef .tc (arrRef spec3 w))
  after w _ := match w with
    | ⟨0, _⟩ => stg0 V c
    | ⟨1, _⟩ => stg1 V c
    | ⟨2, _⟩ => stg2 V c
    | ⟨3, _⟩ => augOf (stg1 V c) (stg2 V c)
    | ⟨4, _⟩ => boundOf (stg0 V c) (stg1 V c) (stg2 V c)
  Φ _ := scopedRest (Ix := HIx 1) (Name := ℕ) (U := UU) (Lvl := ℕ) (Val := Elt F) spec3 c
  q _ := fullShare
  owed _ := 0
  recorded _ := calm (F := F) c

theorem before_0 (c : Dev nD) (d : (cfg3.win 0).block.Idx → Elt F (cfg3.win 0).elt) : (dat V c).before 0 t3_0 d = stg0 V c := by
  unfold Dat.before; rw [if_pos (fetch3_0 t3_0)]; rfl
theorem before_1 (c : Dev nD) (d : (cfg3.win 1).block.Idx → Elt F (cfg3.win 1).elt) : (dat V c).before 1 t3_0 d = stg1 V c := by
  unfold Dat.before; rw [if_pos (fetch3_1 t3_0)]; rfl
theorem before_2 (c : Dev nD) (d : (cfg3.win 2).block.Idx → Elt F (cfg3.win 2).elt) : (dat V c).before 2 t3_0 d = stg2 V c := by
  unfold Dat.before; rw [if_pos (fetch3_2 t3_0)]; rfl

theorem body_obligation (c : Dev nD) : BodyObligation (dat V c) (defs₀ (F := F)) Variants.none none Set.univ := fun t => by
  obtain rfl := fin_N3 t
  rw [bigSep_W3, bigSep_W3]
  simp only [owns_whole_eq]
  rw [show (dat V c).Φ t3_0.succ = (dat V c).Φ t3_0.castSucc from rfl,
    show (dat V c).owesAt none t3_0.succ = (dat V c).owesAt none t3_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩⟩
  rw [before_0] at hf0
  rw [before_1] at hf1
  rw [before_2] at hf2
  subst hf0 hf1 hf2
  iapply (body_run (stg0 V c) (stg1 V c) (stg2 V c) c Set.univ f3 f4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]

set_option maxHeartbeats 2000000 in
theorem facts (S : Finset (DevRef τ sig)) (hS : arrRefs (pcfgs (F := F) 2).spec ⊆ S) : Facts (p := 2) (dat V) V S where
  kit := launch3.toP (Val := Elt F)
  pre0 := rfl
  arr0 _ _ := by rfl
  full c := by exact (dat V c).share_full fun _ => rfl
  body := by exact body_obligation V
  owed _ _ := by rfl
  recorded _ _ := by rfl
  into c := .rfl
  outof c := .rfl
  sub := hS

/-! ## The arrays after the call -/

theorem ix0 : ∀ a, win3_0.index t3_0 a = 0 := by decide
theorem ix1 : ∀ a, win3_1.index t3_0 a = 0 := by decide
theorem ix2 : ∀ a, win3_2.index t3_0 a = 0 := by decide

theorem stg0_eq (c : Dev nD) : stg0 V c = stAt V c := by
  funext i
  refine congrArg (V c (Proc.devRef .tc main_v13)) (funext fun a => Fin.ext ?_)
  fin_cases a <;> blk_simp <;> simp only [ix0, Nat.zero_mul, Nat.zero_add]
theorem stg1_eq (c : Dev nD) : stg1 V c = rowsAt V c := by
  funext i
  refine congrArg (V c (Proc.devRef .tc main_v3)) (funext fun a => Fin.ext ?_)
  fin_cases a <;> blk_simp <;> simp only [ix1, Nat.zero_mul, Nat.zero_add]
theorem stg2_eq (c : Dev nD) : stg2 V c = idsAt V c := by
  funext i
  refine congrArg (V c (Proc.devRef .tc main_arg0)) (funext fun a => Fin.ext ?_)
  fin_cases a <;> blk_simp <;> simp only [ix2, Nat.zero_mul, Nat.zero_add]

theorem after_aug (c : Dev nD) : afterRegion (dat V c) (V c) (Proc.devRef .tc main_v15_0) = (augOf (rowsAt V c) (idsAt V c) : S1024x128.Idx → Elt F .bf16) := by
  refine (Pipeline.afterRegion_arr (dat V c) (V c) winFacts3.arr_inj 3).trans ?_
  rw [← stg1_eq V c, ← stg2_eq V c]
  refine (dat V c).arrAt_eq_of_after_last 3 t3_0 (by decide +kernel) _ fun j => ?_
  dsimp only [dat]
  rfl

theorem after_bound (c : Dev nD) :
    afterRegion (dat V c) (V c) (Proc.devRef .tc main_v15_1) = (boundOf (stAt V c) (rowsAt V c) (idsAt V c) : S1024x1.Idx → Elt F .f32) := by
  refine (Pipeline.afterRegion_arr (dat V c) (V c) winFacts3.arr_inj 4).trans ?_
  rw [← stg0_eq V c, ← stg1_eq V c, ← stg2_eq V c]
  refine (dat V c).arrAt_eq_of_after_last 4 t3_0 (by decide +kernel) _ fun j => ?_
  dsimp only [dat]
  rfl

end Cert.Proof.Pool

end
-- ==== Proof.ScoresBody.lean ====
/-
  The body of the call that computes the scores: what it leaves in its results' buffers and in its running sums, and its run
  at any grid point.
-/
module

public import proofs.«01_k».proof.Proof.Gen.KernelIdeal.Skeleton
public import proofs.«01_k».proof.Proof.Gen.KernelIdeal.Points
public import Idealize.ShloMosaic.Lib.Tactic
public import Idealize.ShloMosaic.Lib.Tactic.Stretches
public import Idealize.ShloMosaic.Lib.VecWindow
public import Idealize.ShloMosaic.Lib.WordCmp
public import proofs.«01_k».proof.Proof.Step
public import Idealize.ShloMosaic.Lib.Pipeline.ValueKit.Geometry

@[expose] public section

noncomputable section

namespace Cert.Proof.Scores

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)
open Cert.Proof.Step (calm adm Data Facts)

variable {F : FTy → Type} [FloatOps F] [Named F]

local notation "𝕄" => MT nD τ sig (HIx 1) (Elt F) ℕ UU ℕ

/-! ## The values -/

/-- The body's test for the first grid point. -/
abbrev isFirst (i : grid4.Coords) : Prop := (Scalar.cmpi .ne (Scalar.extui (Scalar.cmpi .eq (BitVec.ofNat 32 (i 0).val) 0#32)) 0#32) = 1#1
/-- The body's test for the last grid point. -/
abbrev isLast (i : grid4.Coords) : Prop := k4_cond2 i = 1#1

theorem isFirst_iff : ∀ t : Fin cfg4.N, isFirst (grid4.coords t) ↔ t.val = 0 :=
  (fun t => by
    have ht : t.val < 25 := Nat.lt_of_lt_of_eq t.isLt N_4
    have e0 : (grid4.coords t 0).val = t.val / 1 % 25 := Pipeline.Grid.coords_val t 0 (by decide) rfl
    simp only [isFirst, e0]
    word_cmp
   : ∀ t : Fin grid4.N, isFirst (grid4.coords t) ↔ t.val = 0)

theorem isLast_iff : ∀ t : Fin cfg4.N, isLast (grid4.coords t) ↔ t.val = 24 :=
  (fun t => by
    have ht : t.val < 25 := Nat.lt_of_lt_of_eq t.isLt N_4
    have e0 : (grid4.coords t 0).val = t.val / 1 % 25 := Pipeline.Grid.coords_val t 0 (by decide) rfl
    simp only [isLast, k4_cond2, e0]
    word_cmp
   : ∀ t : Fin grid4.N, isLast (grid4.coords t) ↔ t.val = 24)

/-- The running sums after a block: the block's exponentials added to what they were, or to zero at the first point. -/
def next (x0 : Vec F S1024x128 .bf16) (x1 : Vec F S1024x1 .f32) (x2 : Vec F S128x4096 .bf16) (i : grid4.Coords) (acc : Vec F S1024x128 .f32) : FVec F S1024x128 .f32 :=
  k4_pay1 (k4_pay6 x0 x2 x1) (k4_pay7 x0 x2 x1) (k4_pay8 x0 x2 x1) (if isFirst i then k4_pay3 else acc)

/-! ## The run -/

set_option maxHeartbeats 1000000 in
theorem body_run (c : Dev nD) (i : grid4.Coords)
    (arg1 : Memref sig .tc .vmem S1024x128 .bf16) (harg1 : arg1.IsWhole) (arg2 : Memref sig .tc .vmem S1024x1 .f32) (harg2 : arg2.IsWhole)
    (arg3 : Memref sig .tc .vmem S128x4096 .bf16) (harg3 : arg3.IsWhole) (arg4 : Memref sig .tc .vmem S1024x4096 .bf16) (harg4 : arg4.IsWhole)
    (arg5 : Memref sig .tc .vmem S1024x1 .f32) (harg5 : arg5.IsWhole) (arg6 : Memref sig .tc .vmem S1024x128 .f32) (harg6 : arg6.IsWhole)
    (x0 : Vec F S1024x128 .bf16) (x1 : Vec F S1024x1 .f32) (x2 : Vec F S128x4096 .bf16) (acc : Vec F S1024x128 .f32) (z : Vec F S1024x1 .f32)
    (E : Set ℕ) (Q : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d) ∗ owns (c.tc : Thread nD τ) arg5 fullShare z ∗ owns (c.tc : Thread nD τ) arg6 fullShare acc
        ∗ (iprop(owns (c.tc : Thread nD τ) arg1 fullShare x0 ∗ owns (c.tc : Thread nD τ) arg2 fullShare x1 ∗ owns (c.tc : Thread nD τ) arg3 fullShare x2
          ∗ owns (c.tc : Thread nD τ) arg4 fullShare (k4_pay5 x0 x2 x1)
          ∗ owns (c.tc : Thread nD τ) arg5 fullShare (if isLast i then k4_pay2 (next x0 x1 x2 i acc) else z)
          ∗ owns (c.tc : Thread nD τ) arg6 fullShare (next x0 x1 x2 i acc)) -∗ Q ⟨⟩))
      ⊢ wp frame (wpE (defs₀ (F := F)) Variants.none (c.tc : Thread nD τ) none) E
          (cc4__main_body i arg1 harg1 arg2 harg2 arg3 harg3 arg4 harg4 arg5 harg5 arg6 harg6) Q := by
  have r1 : ∀ f, arg1.view.readAt (Elt F) (Rect.unit (s := S1024x128) ![0, 0] ![1024, 128] inb_S1024x128_S1024x128_0_0).toLoadRect f = arg1.view.read (Elt F) f :=
    fun f => View.readAt_full arg1.view f inb_S1024x128_S1024x128_0_0
  have r2 : ∀ f, arg2.view.readAt (Elt F) (Rect.unit (s := S1024x1) ![0, 0] ![1024, 1] inb_S1024x1_S1024x1_0_0).toLoadRect f = arg2.view.read (Elt F) f :=
    fun f => View.readAt_full arg2.view f inb_S1024x1_S1024x1_0_0
  have r3 : ∀ f, arg3.view.readAt (Elt F) (Rect.unit (s := S128x4096) ![0, 0] ![128, 4096] inb_S128x4096_S128x4096_0_0).toLoadRect f = arg3.view.read (Elt F) f :=
    fun f => View.readAt_full arg3.view f inb_S128x4096_S128x4096_0_0
  have r6 : ∀ f, arg6.view.readAt (Elt F) (Rect.unit (s := S1024x128) ![0, 0] ![1024, 128] inb_S1024x128_S1024x128_0_0).toLoadRect f = arg6.view.read (Elt F) f :=
    fun f => View.readAt_full arg6.view f inb_S1024x128_S1024x128_0_0
  have w4 : ∀ f w L, arg4.view.read (Elt F) (arg4.view.writes (Elt F) f (⟨Rect.unit (s := S1024x4096) ![0, 0] ![1024, 4096] inb_S1024x4096_S1024x4096_0_0, w⟩ :: L)) = w :=
    fun f w L => View.read_writes_full arg4.view f inb_S1024x4096_S1024x4096_0_0 w L
  have w5 : ∀ f w L, arg5.view.read (Elt F) (arg5.view.writes (Elt F) f (⟨Rect.unit (s := S1024x1) ![0, 0] ![1024, 1] inb_S1024x1_S1024x1_0_0, w⟩ :: L)) = w :=
    fun f w L => View.read_writes_full arg5.view f inb_S1024x1_S1024x1_0_0 w L
  have w6 : ∀ f w L, arg6.view.read (Elt F) (arg6.view.writes (Elt F) f (⟨Rect.unit (s := S1024x128) ![0, 0] ![1024, 128] inb_S1024x128_S1024x128_0_0, w⟩ :: L)) = w :=
    fun f w L => View.read_writes_full arg6.view f inb_S1024x128_S1024x128_0_0 w L
  have c6 : ∀ (w : S1024x128.Idx → Elt F .f32) L, arg6.view.readCov (⟨Rect.unit (s := S1024x128) ![0, 0] ![1024, 128] inb_S1024x128_S1024x128_0_0, w⟩ :: L)
      (Rect.unit (s := S1024x128) ![0, 0] ![1024, 128] inb_S1024x128_S1024x128_0_0).toLoadRect = w :=
    fun w L => View.readCov_full arg6.view inb_S1024x128_S1024x128_0_0 inb_S1024x128_S1024x128_0_0 w L
  have q6 : ∀ f w L, arg6.view.readAt (Elt F) (Rect.unit (s := S1024x128) ![0, 0] ![1024, 128] inb_S1024x128_S1024x128_0_0).toLoadRect
      (arg6.view.writes (Elt F) f (⟨Rect.unit (s := S1024x128) ![0, 0] ![1024, 128] inb_S1024x128_S1024x128_0_0, w⟩ :: L)) = w :=
    fun f w L => (r6 _).trans (w6 f w L)
  simp only [cc4__main_body_eq_skeleton]; unfold cc4__main_body_skel
  simp only [k4_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2; obtain rfl := harg6.eq_unread hf5
  obtain rfl := harg5.eq_unread hf4
  unfold next
  by_cases hc0 : isFirst i <;> by_cases hc1 : isLast i
  all_goals
    sl_exec (disch := first | sl_exact hc0 | sl_exact hc1)
    sl_step
    iapply Hk
    isplitl [H0]
    · iexists _; isplitr; swap; (· iexact H0); ipureintro; exact harg1.read_unread _
    isplitl [H1]
    · iexists _; isplitr; swap; (· iexact H1); ipureintro; exact harg2.read_unread _
    isplitl [H2]
    · iexists _; isplitr; swap; (· iexact H2); ipureintro; exact harg3.read_unread _
    isplitl [H3]
    · iexists _; isplitr; swap; (· iexact H3); ipureintro
      simp only [w4, r1, r2, r3, harg1.read_unread, harg2.read_unread, harg3.read_unread]
    isplitl [H4]
    · iexists _; isplitr; swap; (· iexact H4); ipureintro
      first | rw [if_neg hc1] | rw [if_pos hc1]
      first | rw [if_neg hc0] | rw [if_pos hc0] | skip
      sl_open_run
      simp only [w5, w6, r1, r2, r3, r6, q6, c6, harg1.read_unread, harg2.read_unread, harg3.read_unread, harg5.read_unread, harg6.read_unread]
    iexists _; isplitr; swap; (· iexact H5); ipureintro
    first | rw [if_neg hc0] | rw [if_pos hc0]
    sl_open_run
    simp only [w6, r1, r2, r3, r6, c6, harg1.read_unread, harg2.read_unread, harg3.read_unread, harg6.read_unread]

end Cert.Proof.Scores

end
-- ==== Proof.Scores.lean ====
/-
  The call that computes the scores: its proof data over the twenty-five grid points, and the arrays it leaves.
-/
module

public import proofs.«01_k».proof.Proof.ScoresBody
public import Idealize.ShloMosaic.Lib.Pipeline.FrameBody
public import Idealize.ShloMosaic.Lib.Pointwise
public import proofs.«01_k».proof.Proof.Step
public import Idealize.ShloMosaic.Lib.Pipeline.ValueKit.Geometry

@[expose] public section

noncomputable section

namespace Cert.Proof.Scores

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation arrRef arrRefs afterRegion owesWithin scopedRest)
open Idealize.ShloMosaic.StableHlo (held)
open Cert.Proof.Launch (UU K)
open Cert.Proof.Step (calm adm Data Facts)

variable {F : FTy → Type} [FloatOps F] [Named F]

local notation "𝕄" => MT nD τ sig (HIx 1) (Elt F) ℕ UU ℕ

variable (V : Dev nD → Valuation τ sig (Elt F))

/-! ## The proof data -/

/-- The operands' blocks as the fetches stage them: all of the first two, 4096 columns of the third. -/
abbrev stg0 (c : Dev nD) (t : Fin cfg4.N) : S1024x128.Idx → Elt F .bf16 := ((cfg4.win 0).blk t).view.read (Elt F) (V c (Proc.devRef .tc main_v15_0))
abbrev stg1 (c : Dev nD) (t : Fin cfg4.N) : S1024x1.Idx → Elt F .f32 := ((cfg4.win 1).blk t).view.read (Elt F) (V c (Proc.devRef .tc main_v15_1))
abbrev stg2 (c : Dev nD) (t : Fin cfg4.N) : S128x4096.Idx → Elt F .bf16 := ((cfg4.win 2).blk t).view.read (Elt F) (V c (Proc.devRef .tc main_v14))

/-- The running sums after `n` blocks. -/
def accAfter (c : Dev nD) : ℕ → FVec F S1024x128 .f32
  | 0 => k4_pay3
  | n + 1 => if h : n < cfg4.N then next (stg0 V c ⟨n, h⟩) (stg1 V c ⟨n, h⟩) (stg2 V c ⟨n, h⟩) (grid4.coords ⟨n, h⟩) (accAfter c n) else accAfter c n

/-- Between points the scratch buffer holds the running sums; before the first, anything. -/
def sums (c : Dev nD) (n : ℕ) : sProp 𝕄 :=
  iprop(∃ acc : S1024x128.Idx → Elt F .f32, ⌜n ≠ 0 → acc = accAfter V c n⌝ ∗ owns (c.tc : Thread nD τ) (Memref.whole cc4_scratch0) fullShare acc
    ∗ ((∃ d : S1024x128.Idx → Elt F .f32, owns (c.tc : Thread nD τ) (Memref.whole cc4_scratch0) fullShare d)
        -∗ scopedRest (Ix := HIx 1) (Name := ℕ) (U := UU) (Lvl := ℕ) (Val := Elt F) spec4 c))

def dat (c : Dev nD) : Dat τ (Elt F) (HIx 1) ℕ UU ℕ cfg4 c where
  A w := V c (Proc.devRef .tc (arrRef spec4 w))
  after w t := match w with
    | ⟨0, _⟩ => stg0 V c t
    | ⟨1, _⟩ => stg1 V c t
    | ⟨2, _⟩ => stg2 V c t
    | ⟨3, _⟩ => k4_pay5 (stg0 V c t) (stg2 V c t) (stg1 V c t)
    | ⟨4, _⟩ => k4_pay2 (accAfter V c 25)
  Φ t := sums V c t.val
  q _ := fullShare
  owed _ := 0
  recorded _ := calm (F := F) c

theorem after_0 (c : Dev nD) (t : Fin cfg4.N) : (dat V c).after 0 t = stg0 V c t := by dsimp only [dat]
theorem after_1 (c : Dev nD) (t : Fin cfg4.N) : (dat V c).after 1 t = stg1 V c t := by dsimp only [dat]
theorem after_2 (c : Dev nD) (t : Fin cfg4.N) : (dat V c).after 2 t = stg2 V c t := by dsimp only [dat]
theorem after_3 (c : Dev nD) (t : Fin cfg4.N) : (dat V c).after 3 t = k4_pay5 (stg0 V c t) (stg2 V c t) (stg1 V c t) := by dsimp only [dat]
theorem after_4 (c : Dev nD) (t : Fin cfg4.N) : (dat V c).after 4 t = k4_pay2 (accAfter V c 25) := by dsimp only [dat]

theorem before_0 (c : Dev nD) (t : Fin cfg4.N) (d) : (dat V c).before 0 t d = stg0 V c t :=
  ((dat V c).before_in_eq_fetched 0 rfl (fun _ => rfl) (fun _ _ _ => rfl) (fun t => by rw [after_0]; rfl) t d).trans rfl
theorem before_1 (c : Dev nD) (t : Fin cfg4.N) (d) : (dat V c).before 1 t d = stg1 V c t :=
  ((dat V c).before_in_eq_fetched 1 rfl (fun _ => rfl) (fun _ _ _ => rfl) (fun t => by rw [after_1]; rfl) t d).trans rfl
theorem before_2 (c : Dev nD) (t : Fin cfg4.N) (d) : (dat V c).before 2 t d = stg2 V c t :=
  ((dat V c).before_in_eq_fetched 2 rfl (fun _ => rfl) (fun _ _ _ => rfl) (fun t => by rw [after_2]; rfl) t d).trans rfl

theorem live (c : Dev nD) (w : Fin 5) (hw : w ≠ 4) (t : Fin cfg4.N) : (dat V c).leavesExact w t = owns (c.tc : Thread nD τ) ((cfg4.win w).stage (cfg4.slots t w)) fullShare ((dat V c).after w t) := by
  unfold Dat.leavesExact
  match w, hw with
  | 0, _ => rfl
  | 1, _ => rfl
  | 2, _ => rfl
  | 3, _ => rfl
  | 4, h => exact absurd rfl h
theorem idle4 : ∀ t : Fin cfg4.N, t.val ≠ 24 → cfg4.idle 4 (grid4.coords t) = true := by decide +kernel
theorem noFlush4 : ∀ t : Fin cfg4.N, t.val ≠ 24 → (cfg4.win 4).flush t = false := by decide +kernel
theorem live4 : ∀ t : Fin cfg4.N, t.val = 24 → cfg4.idle 4 (grid4.coords t) = false := by decide +kernel

/-- The sums after a point, from the sums before it. -/
theorem next_eq (c : Dev nD) (t : Fin cfg4.N) (acc : S1024x128.Idx → Elt F .f32) (h : t.val ≠ 0 → acc = accAfter V c t.val) :
    next (stg0 V c t) (stg1 V c t) (stg2 V c t) (grid4.coords t) acc = accAfter V c (t.val + 1) := by
  rw [accAfter, dif_pos t.isLt]
  by_cases h0 : t.val = 0
  · unfold next
    rw [if_pos ((isFirst_iff t).mpr h0), if_pos ((isFirst_iff t).mpr h0)]
  · rw [h h0]

theorem defs₀_row (t : Fin cfg4.N) : defs₀ (F := F) .tc cfg4.body (cfg4.bodyArgs t (cfg4.slots t)) = bodyAt4 t := rfl

theorem sound (c : Dev nD) (t : Fin cfg4.N) :
    iprop(sums V c t.val ∗ (dat V c).owesAt none t.castSucc
      ∗ (∃ d, owns (c.tc : Thread nD τ) (st4_0 t) fullShare ((dat V c).before 0 t d))
      ∗ (∃ d, owns (c.tc : Thread nD τ) (st4_1 t) fullShare ((dat V c).before 1 t d))
      ∗ (∃ d, owns (c.tc : Thread nD τ) (st4_2 t) fullShare ((dat V c).before 2 t d))
      ∗ (∃ d, owns (c.tc : Thread nD τ) (st4_3 t) fullShare ((dat V c).before 3 t d))
      ∗ (∃ d, owns (c.tc : Thread nD τ) (st4_4 t) fullShare ((dat V c).before 4 t d)))
    ⊢ wp frame (wpE (defs₀ (F := F)) Variants.none (c.tc : Thread nD τ) none) Set.univ (bodyAt4 t) fun _ =>
      iprop(sums V c (t.val + 1) ∗ (dat V c).owesAt none t.castSucc ∗ (dat V c).leavesExact 0 t ∗ (dat V c).leavesExact 1 t
        ∗ (dat V c).leavesExact 2 t ∗ (dat V c).leavesExact 3 t ∗ (dat V c).leavesExact 4 t) := by
  rw [live V c 0 (by decide) t, live V c 1 (by decide) t, live V c 2 (by decide) t, live V c 3 (by decide) t, after_0, after_1, after_2, after_3]
  simp only [before_0, before_1, before_2]
  unfold bodyAt4 sums
  iintro ⟨⟨%acc, %hacc, Hs, Hback⟩, Howes, ⟨%d0, H0⟩, ⟨%d1, H1⟩, ⟨%d2, H2⟩, ⟨%d3, H3⟩, ⟨%d4, H4⟩⟩
  iapply (body_run c (grid4.coords t) _ _ _ _ _ _ _ _ _ _ _ _ (stg0 V c t) (stg1 V c t) (stg2 V c t) acc ((dat V c).before 4 t d4) Set.univ _)
  isplitl [H0]; · iexact H0
  isplitl [H1]; · iexact H1
  isplitl [H2]; · iexact H2
  isplitl [H3]; · iexists _; iexact H3
  isplitl [H4]; · iexact H4
  isplitl [Hs]; · iexact Hs
  iintro ⟨H0, H1, H2, H3, H4, Hs⟩
  rw [next_eq V c t acc hacc]
  isplitl [Hs Hback]
  · iexists _
    isplitr; swap
    · isplitl [Hs]; · iexact Hs
      iexact Hback
    ipureintro; intro _; rfl
  isplitl [Howes]; · iexact Howes
  isplitl [H0]; · iexact H0
  isplitl [H1]; · iexact H1
  isplitl [H2]; · iexact H2
  isplitl [H3]; · iexact H3
  by_cases h : t.val = 24
  · rw [if_pos ((isLast_iff t).mpr h), show (dat V c).leavesExact 4 t = owns (c.tc : Thread nD τ) (st4_4 t) fullShare ((dat V c).after 4 t) from by
      unfold Dat.leavesExact; rw [live4 t h], after_4, h]
    iexact H4
  · rw [if_neg (fun h' => h ((isLast_iff t).mp h')), Dat.leavesExact_idle (dat V c) 4 t (idle4 t h) (noFlush4 t h)]
    iexists _; iexact H4

theorem body_obligation (c : Dev nD) : BodyObligation (dat V c) (defs₀ (F := F)) Variants.none none Set.univ := fun t => by
  rw [bigSep_W4, bigSep_W4, defs₀_row]
  exact triple_restated (sound V c t) rfl .rfl fun _ => .rfl

theorem into (c : Dev nD) : (scopedRest (Ix := HIx 1) (Name := ℕ) (U := UU) (Lvl := ℕ) (Val := Elt F) spec4 c : sProp 𝕄) ⊢ sums V c 0 := by
  unfold sums
  rw [scopedRest4_eq]
  simp only [owns_whole_eq]
  iintro ⟨Ha, Hb, Hc, Hd, He, Hf, Hg, Hh, ⟨%f, Hs⟩⟩
  iexists f
  isplitr; · ipureintro; intro h; exact absurd rfl h
  isplitl [Hs]
  · iexists _; isplitr; swap; (· iexact Hs); ipureintro; rfl
  iintro ⟨%d, %f', -, Hs⟩
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  iexists _; iexact Hs

theorem outof (c : Dev nD) (n : ℕ) : sums V c n ⊢ (scopedRest (Ix := HIx 1) (Name := ℕ) (U := UU) (Lvl := ℕ) (Val := Elt F) spec4 c : sProp 𝕄) := by
  unfold sums
  iintro ⟨%acc, -, Hs, Hback⟩
  iapply Hback
  iexists _; iexact Hs

theorem rest_eq (c : Dev nD) : (scopedRest (Pipeline.pin (pcfgs (F := F)) adm 3).spec c : sProp 𝕄)
    = scopedRest (Ix := HIx 1) (Name := ℕ) (U := UU) (Lvl := ℕ) (Val := Elt F) spec4 c := rfl
theorem phi (c : Dev nD) (t) : sums V c t.val = (dat V c : Dat τ (Elt F) (HIx 1) ℕ UU ℕ (Pipeline.pin (pcfgs (F := F)) adm 3) c).Φ t := rfl
theorem phi0 (c : Dev nD) : sums V c 0 = (dat V c : Dat τ (Elt F) (HIx 1) ℕ UU ℕ (Pipeline.pin (pcfgs (F := F)) adm 3) c).Φ 0 := phi V c 0
theorem intoΦ (c : Dev nD) : (scopedRest (Pipeline.pin (pcfgs (F := F)) adm 3).spec c : sProp 𝕄)
    ⊢ (dat V c : Dat τ (Elt F) (HIx 1) ℕ UU ℕ (Pipeline.pin (pcfgs (F := F)) adm 3) c).Φ 0 := by
  rw [rest_eq c, ← phi0 V c]; exact into V c
theorem outofΦ (c : Dev nD) : (dat V c : Dat τ (Elt F) (HIx 1) ℕ UU ℕ (Pipeline.pin (pcfgs (F := F)) adm 3) c).Φ (Fin.last _)
    ⊢ (scopedRest (Pipeline.pin (pcfgs (F := F)) adm 3).spec c : sProp 𝕄) := by
  rw [rest_eq c, ← phi V c]; exact outof V c _

set_option maxHeartbeats 2000000 in
theorem facts (S : Finset (DevRef τ sig)) (hS : arrRefs (pcfgs (F := F) 3).spec ⊆ S) : Facts (p := 3) (dat V) V S where
  kit := launch4.toP (Val := Elt F)
  pre0 := rfl
  arr0 _ _ := by rfl
  full c := by exact (dat V c).share_full fun _ => rfl
  body := by exact body_obligation V
  owed _ _ := by rfl
  recorded _ _ := by rfl
  into c := intoΦ V c
  outof c := outofΦ V c
  sub := hS

/-! ## The arrays after the call -/

theorem ix0 : ∀ t a, win4_0.index t a = 0 := by decide +kernel
theorem ix1 : ∀ t a, win4_1.index t a = 0 := by decide +kernel
theorem ix2_0 : ∀ t, win4_2.index t 0 = 0 := by decide +kernel
theorem ix2_1 : ∀ t : Fin cfg4.N, win4_2.index t 1 = t.val := by decide +kernel
theorem ix3_0 : ∀ t, win4_3.index t 0 = 0 := by decide +kernel
theorem ix3_1 : ∀ t : Fin cfg4.N, win4_3.index t 1 = t.val := by decide +kernel

theorem stg0_eq (c : Dev nD) (t : Fin cfg4.N) : stg0 V c t = (V c (Proc.devRef .tc main_v15_0) : S1024x128.Idx → Elt F .bf16) := by
  funext i
  refine congrArg (V c (Proc.devRef .tc main_v15_0)) (funext fun a => Fin.ext ?_)
  fin_cases a <;> blk_simp <;> simp only [ix0, Nat.zero_mul, Nat.zero_add]
theorem stg1_eq (c : Dev nD) (t : Fin cfg4.N) : stg1 V c t = (V c (Proc.devRef .tc main_v15_1) : S1024x1.Idx → Elt F .f32) := by
  funext i
  refine congrArg (V c (Proc.devRef .tc main_v15_1)) (funext fun a => Fin.ext ?_)
  fin_cases a <;> blk_simp <;> simp only [ix1, Nat.zero_mul, Nat.zero_add]

/-- Column `k` of block `n`. -/
abbrev col (n : Fin cfg4.N) (k : Fin 4096) : Fin 102400 := ⟨n.val * 4096 + k.val, by have := Nat.lt_of_lt_of_eq n.isLt N_4; omega⟩

theorem stg2_apply (c : Dev nD) (t : Fin cfg4.N) (j : Fin 128) (k : Fin 4096) :
    stg2 V c t (ix2 j k) = (V c (Proc.devRef .tc main_v14) : S128x102400.Idx → Elt F .bf16) (ix2 j (col t k)) := by
  refine congrArg (V c (Proc.devRef .tc main_v14)) (funext fun a => Fin.ext ?_)
  fin_cases a <;> blk_simp <;> simp only [ix2_0, ix2_1, Nat.zero_mul, Nat.zero_add] <;> rfl

/-- The block a column is in, and its place there. -/
abbrev blockOf (v : Fin 102400) : Fin cfg4.N := ⟨v.val / 4096, Nat.lt_of_lt_of_eq (show v.val / 4096 < 25 by omega) N_4.symm⟩
abbrev placeOf (v : Fin 102400) : Fin 4096 := ⟨v.val % 4096, Nat.mod_lt _ (by decide)⟩

theorem after_scores (c : Dev nD) :
    afterRegion (dat V c) (V c) (Proc.devRef .tc main_v16_0)
      = ((fun j => k4_pay5 (stg0 V c (blockOf (j 1))) (stg2 V c (blockOf (j 1))) (stg1 V c (blockOf (j 1))) (ix2 (j 0) (placeOf (j 1)))) : S1024x102400.Idx → Elt F .bf16) := by
  refine (Pipeline.afterRegion_arr (dat V c) (V c) winFacts4.arr_inj 3).trans ?_
  refine (dat V c).arrAt_eq_of_covers 3 _ (by decide +kernel) fun t hf y => ?_
  have a0 : ((win4_3.blk t).view.emb y 0).val = (y 0).val := by blk_simp; simp only [ix3_0, Nat.zero_mul, Nat.zero_add]
  have a1 : ((win4_3.blk t).view.emb y 1).val = t.val * 4096 + (y 1).val := by blk_simp; simp only [ix3_1]
  have hy : (y 1).val < 4096 := (y 1).isLt
  have hb : blockOf ((win4_3.blk t).view.emb y 1) = t := Fin.ext (by show ((win4_3.blk t).view.emb y 1).val / 4096 = t.val; rw [a1]; omega)
  have hp : (ix2 ((win4_3.blk t).view.emb y 0) (placeOf ((win4_3.blk t).view.emb y 1)) : S1024x4096.Idx) = y := funext fun a => by
    match a with
    | ⟨0, _⟩ => exact Fin.ext a0
    | ⟨1, _⟩ => exact Fin.ext (by show ((win4_3.blk t).view.emb y 1).val % 4096 = (y 1).val; rw [a1]; omega)
  blk_simp
  rw [after_3, hb, hp]

theorem after_log (c : Dev nD) :
    afterRegion (dat V c) (V c) (Proc.devRef .tc main_v16_1) = (k4_pay2 (accAfter V c 25) : S1024x1.Idx → Elt F .f32) := by
  refine (Pipeline.afterRegion_arr (dat V c) (V c) winFacts4.arr_inj 4).trans ?_
  refine (dat V c).arrAt_eq_of_after_last 4 (⟨24, by decide⟩ : Fin cfg4.N) (by decide +kernel) _ fun j => ?_
  rw [after_4]
  rfl

end Cert.Proof.Scores

end
-- ==== Proof.Main.lean ====
/-
  The program's run: the two reshapes of the arguments, the gather on the thirty-two tiles, and then the host's other
  operations with the four calls between them. Every execution ends with the arguments as they were and the result at
  what the host's last operations make of the calls' results.
-/
module

public import proofs.«01_k».proof.Proof.Launch
public import proofs.«01_k».proof.Proof.Mask
public import proofs.«01_k».proof.Proof.Stats
public import proofs.«01_k».proof.Proof.Pool
public import proofs.«01_k».proof.Proof.Scores
public import Idealize.ShloMosaic.Lib.Pipeline.RegionArraysS
public import Idealize.ShloMosaic.Lib.StableHlo.Run

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within TRef seq after)
open Idealize.ShloMosaic.Pipeline (owesWithin cellsGhost toksInit ucRefs arrRef arrRefs afterRegion)
open Cert.Proof.Words Cert.Proof.Slots
open Cert.Proof.Step (adm step calm Data Facts)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's arrays -/

abbrev iLoc (d : Dev nD) : Loc nD τ sig := (SparseCore.T d).loc main_arg0
abbrev tLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev resLoc (d : Dev nD) : Loc nD τ sig := (SparseCore.T d).loc main_v20

/-- An array of the host's. -/
abbrev at' (r : Ref sig .tc) : DevRef τ sig := Proc.devRef .tc r
abbrev x' : DevRef τ sig := at' main_v0
abbrev e' : DevRef τ sig := at' main_v1
abbrev o' : DevRef τ sig := at' main_v2

/-- The gather's arrays, and what is held after it: every array but its two operands. -/
abbrev SG : Finset (DevRef τ sig) := {x', e', o'}
abbrev SA : Finset (DevRef τ sig) := ucRefs τ sig \ {x', e'}

/-- The reshapes. -/
abbrev opX : HloOp τ sig (Elt F) := StableHlo.reshape main_arg0 main_v0 (rfl : (.i32 : EltTy) = .i32) shapeCasts_S1024x10_S1x10240
abbrev opE : HloOp τ sig (Elt F) := StableHlo.reshape main_arg1 main_v1 (rfl : (.f32 : EltTy) = .f32) shapeCasts_S100000x64_S50000x128

/-- What the host does between the gather and the first call: the rows of one context put side by side, and the weights
    with the biases as one more column, rounded and padded. -/
abbrev opsA : List (HloOp τ sig (Elt F)) :=
  [ StableHlo.reshape main_v2 main_v3 (rfl : (.f32 : EltTy) = .f32) shapeCasts_S10240x128_S1024x1280,
    StableHlo.unary main_arg3 main_v4 (broadcastInDim S100000x1 ![0] bcast_S100000_S100000x1_0 : (⟨S100000, .f32⟩ : BufTy).Contents (Elt F) → (⟨S100000x1, .f32⟩ : BufTy).Contents (Elt F)),
    StableHlo.binary main_arg2 main_v4 main_v5 ((fun a b => concatenate S100000x65 1 [⟨S100000x64, a⟩, ⟨S100000x1, b⟩] concatenates_S100000x64_S100000x1_S100000x65_d1) : (⟨S100000x64, .f32⟩ : BufTy).Contents (Elt F) → (⟨S100000x1, .f32⟩ : BufTy).Contents (Elt F) → (⟨S100000x65, .f32⟩ : BufTy).Contents (Elt F)),
    StableHlo.unary main_v5 main_v6 ((truncf .bf16 · bitsLt_bf16_f32) : (⟨S100000x65, .f32⟩ : BufTy).Contents (Elt F) → (⟨S100000x65, .bf16⟩ : BufTy).Contents (Elt F)),
    StableHlo.nullary main_c (constantI S_ 32 0#32),
    StableHlo.TRef.unary (TRef.of (T := ⟨S_, .i32⟩) main_c) (TRef.of (T := ⟨S_, .bf16⟩) main_call0_v0) (sitofp .bf16),
    StableHlo.TRef.binary (TRef.of (T := ⟨S100000x65, .bf16⟩) main_v6) (TRef.of (T := ⟨S_, .bf16⟩) main_call0_v0) (TRef.of (T := ⟨S102400x128, .bf16⟩) main_v7) (fun x v => pad S102400x128 ![0, 0] ![2400, 63] ![0, 0] x v pads_S100000x65_S102400x128_024000_0630 h_S_) ]

/-- Between the first call and the second: the mask put where the padded columns' biases go. -/
abbrev opsB : List (HloOp τ sig (Elt F)) :=
  [ StableHlo.nullary main_c_0 (constantI S_ 32 100000#32),
    StableHlo.unary main_c_0 main_v9 (broadcastInDim S1 ![] bcast_S_S1 : (⟨S_, .i32⟩ : BufTy).Contents (Elt F) → (⟨S1, .i32⟩ : BufTy).Contents (Elt F)),
    StableHlo.nullary main_c_1 (constantI S_ 32 64#32),
    StableHlo.unary main_c_1 main_v10 (broadcastInDim S1 ![] bcast_S_S1 : (⟨S_, .i32⟩ : BufTy).Contents (Elt F) → (⟨S1, .i32⟩ : BufTy).Contents (Elt F)),
    StableHlo.binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v7 main_v11 main_v8 main_v12 ((fun x i u => Host.scatter scatter_S102400x128_S2_S2400_0_1_01_0 (fun _ b => b) x i u) : (⟨S102400x128, .bf16⟩ : BufTy).Contents (Elt F) → (⟨S2, .i32⟩ : BufTy).Contents (Elt F) → (⟨S2400, .bf16⟩ : BufTy).Contents (Elt F) → (⟨S102400x128, .bf16⟩ : BufTy).Contents (Elt F)) ]

/-- Between the second call and the third: the weights turned. -/
abbrev opsC : List (HloOp τ sig (Elt F)) :=
  [ StableHlo.unary main_v12 main_v14 ((transpose S128x102400 [1, 0] · transposes_S102400x128_S128x102400_1_0) : (⟨S102400x128, .bf16⟩ : BufTy).Contents (Elt F) → (⟨S128x102400, .bf16⟩ : BufTy).Contents (Elt F)) ]

/-- After the last call: the scores of the words there are, less the logarithm. -/
abbrev opsD : List (HloOp τ sig (Elt F)) :=
  [ StableHlo.unary main_v16_0 main_v17 ((extractStridedSlice S1024x100000 ![0, 0] · slices_S1024x102400_S1024x100000_0_0) : (⟨S1024x102400, .bf16⟩ : BufTy).Contents (Elt F) → (⟨S1024x100000, .bf16⟩ : BufTy).Contents (Elt F)),
    StableHlo.unary main_v17 main_v18 ((extf .f32 · bitsLt_bf16_f32) : (⟨S1024x100000, .bf16⟩ : BufTy).Contents (Elt F) → (⟨S1024x100000, .f32⟩ : BufTy).Contents (Elt F)),
    StableHlo.unary main_v16_1 main_v19 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v18 main_v19 main_v20 (subf : (⟨S1024x100000, .f32⟩ : BufTy).Contents (Elt F) → (⟨S1024x100000, .f32⟩ : BufTy).Contents (Elt F) → (⟨S1024x100000, .f32⟩ : BufTy).Contents (Elt F)) ]

/-- The host's program, its operations between the calls as lists. -/
theorem main_eq (d : Dev nD) : main (F := F) d = (do
    hlo rfl opX (fun _ => .ret ⟨⟩)
    hlo rfl opE (fun _ => .ret ⟨⟩)
    sc.run d 0
    seq opsA
    Prog.lift (.customCall (SparseCore.inner (Pipeline.entry 0)) ())
    seq opsB
    Prog.lift (.customCall (SparseCore.inner (Pipeline.entry 1)) ())
    seq opsC
    Prog.lift (.customCall (SparseCore.inner (Pipeline.entry 2)) ())
    Prog.lift (.customCall (SparseCore.inner (Pipeline.entry 3)) ())
    seq opsD) := rfl

theorem held_SG (d : Dev nD) (W : Valuation τ sig (Elt F)) :
    (held (T d) SG W : sProp 𝕄) = iprop((xLoc d ↦{fullShare} W x') ∗ (eLoc d ↦{fullShare} W e') ∗ oLoc d ↦{fullShare} W o') := by
  unfold held SG
  rw [SparseCore.bigSep_insert' (by decide), SparseCore.bigSep_insert' (by decide), bigSep_singleton]

theorem SG_sub : SG ⊆ ucRefs τ sig := by decide +kernel
theorem SA_split : (SA \ {o'} : Finset (DevRef τ sig)) = ucRefs τ sig \ SG := by
  ext b; simp only [SA, SG, Finset.mem_sdiff, Finset.mem_insert, Finset.mem_singleton, not_or, and_assoc]
theorem o_SA : ({o'} : Finset (DevRef τ sig)) ⊆ SA := by decide +kernel
theorem arr0_SA : arrRefs spec1 ⊆ SA := by decide +kernel
theorem arr1_SA : arrRefs spec2 ⊆ SA := by decide +kernel
theorem arr2_SA : arrRefs spec3 ⊆ SA := by decide +kernel
theorem arr3_SA : arrRefs spec4 ⊆ SA := by decide +kernel

theorem hX : (opX (F := F)).bufs ⊆ ucRefs τ sig := show ({at' main_arg0, x'} : Finset (DevRef τ sig)) ⊆ ucRefs τ sig by decide +kernel
theorem hE : (opE (F := F)).bufs ⊆ ucRefs τ sig := show ({at' main_arg1, e'} : Finset (DevRef τ sig)) ⊆ ucRefs τ sig by decide +kernel
theorem hA : ∀ op ∈ opsA (F := F), op.bufs ⊆ SA := List.forall_iff_forall_mem.mp
  ⟨show ({o', at' main_v3} : Finset (DevRef τ sig)) ⊆ SA by decide +kernel,
    show ({at' main_arg3, at' main_v4} : Finset (DevRef τ sig)) ⊆ SA by decide +kernel,
    show ({at' main_arg2, at' main_v4, at' main_v5} : Finset (DevRef τ sig)) ⊆ SA by decide +kernel,
    show ({at' main_v5, at' main_v6} : Finset (DevRef τ sig)) ⊆ SA by decide +kernel,
    show ({at' main_c} : Finset (DevRef τ sig)) ⊆ SA by decide +kernel,
    show ({at' main_c, at' main_call0_v0} : Finset (DevRef τ sig)) ⊆ SA by decide +kernel,
    show ({at' main_v6, at' main_call0_v0, at' main_v7} : Finset (DevRef τ sig)) ⊆ SA by decide +kernel⟩
theorem hB : ∀ op ∈ opsB (F := F), op.bufs ⊆ SA := List.forall_iff_forall_mem.mp
  ⟨show ({at' main_c_0} : Finset (DevRef τ sig)) ⊆ SA by decide +kernel,
    show ({at' main_c_0, at' main_v9} : Finset (DevRef τ sig)) ⊆ SA by decide +kernel,
    show ({at' main_c_1} : Finset (DevRef τ sig)) ⊆ SA by decide +kernel,
    show ({at' main_c_1, at' main_v10} : Finset (DevRef τ sig)) ⊆ SA by decide +kernel,
    show ({at' main_v9, at' main_v10, at' main_v11} : Finset (DevRef τ sig)) ⊆ SA by decide +kernel,
    show ({at' main_v7, at' main_v11, at' main_v8, at' main_v12} : Finset (DevRef τ sig)) ⊆ SA by decide +kernel⟩
theorem hC : ∀ op ∈ opsC (F := F), op.bufs ⊆ SA := List.forall_iff_forall_mem.mp
  (show ({at' main_v12, at' main_v14} : Finset (DevRef τ sig)) ⊆ SA by decide +kernel)
theorem hD : ∀ op ∈ opsD (F := F), op.bufs ⊆ SA := List.forall_iff_forall_mem.mp
  ⟨show ({at' main_v16_0, at' main_v17} : Finset (DevRef τ sig)) ⊆ SA by decide +kernel,
    show ({at' main_v17, at' main_v18} : Finset (DevRef τ sig)) ⊆ SA by decide +kernel,
    show ({at' main_v16_1, at' main_v19} : Finset (DevRef τ sig)) ⊆ SA by decide +kernel,
    show ({at' main_v18, at' main_v19, at' main_v20} : Finset (DevRef τ sig)) ⊆ SA by decide +kernel⟩
theorem fA : ∀ op ∈ opsA (F := F), op.fresh = ∅ := List.forall_iff_forall_mem.mp ⟨rfl, rfl, rfl, rfl, rfl, rfl, rfl⟩
theorem fB : ∀ op ∈ opsB (F := F), op.fresh = ∅ := List.forall_iff_forall_mem.mp ⟨rfl, rfl, rfl, rfl, rfl, rfl⟩
theorem fC : ∀ op ∈ opsC (F := F), op.fresh = ∅ := List.forall_iff_forall_mem.mp (show _ = _ from rfl)
theorem fD : ∀ op ∈ opsD (F := F), op.fresh = ∅ := List.forall_iff_forall_mem.mp ⟨rfl, rfl, rfl, rfl⟩

/-! ## The contents along the run -/

/-- The launch contents, and the indices and the table as the gather finds them: reshaped. -/
def V0 (d : Dev nD) : Valuation τ sig (Elt F) := fun b => m (d, b)
def xs (d : Dev nD) : Buf (Elt F) (xLoc d) := shapeCast S1x10240 (show S1024x10.Idx → BitVec 32 from m (iLoc d)) shapeCasts_S1024x10_S1x10240
def es (d : Dev nD) : Buf (Elt F) (eLoc d) := shapeCast S50000x128 (show S100000x64.Idx → Elt F .f32 from m (tLoc d)) shapeCasts_S100000x64_S50000x128
def V2 (d : Dev nD) : Valuation τ sig (Elt F) := (opE (F := F)).result ((opX (F := F)).result (V0 m d))

/-- The gathered rows. -/
def gs (d : Dev nD) : Buf (Elt F) (oLoc d) := G (xs m d) (es m d)

/-- After the gather, before and after each of the four calls, and at the end. -/
def V3 (d : Dev nD) : Valuation τ sig (Elt F) := Function.update (V2 m d) o' (gs m d)
def Va (d : Dev nD) : Valuation τ sig (Elt F) := after opsA (V3 m d)
def Vb (d : Dev nD) : Valuation τ sig (Elt F) := afterRegion (Mask.dat (Va m) d) (Va m d)
def Vc (d : Dev nD) : Valuation τ sig (Elt F) := after opsB (Vb m d)
def Vd (d : Dev nD) : Valuation τ sig (Elt F) := afterRegion (Stats.dat (Vc m) d) (Vc m d)
def Ve (d : Dev nD) : Valuation τ sig (Elt F) := after opsC (Vd m d)
def Vf (d : Dev nD) : Valuation τ sig (Elt F) := afterRegion (Pool.dat (Ve m) d) (Ve m d)
def Vg (d : Dev nD) : Valuation τ sig (Elt F) := afterRegion (Scores.dat (Vf m) d) (Vf m d)
def Vh (d : Dev nD) : Valuation τ sig (Elt F) := after opsD (Vg m d)

/-- The four calls' data. -/
def pd : (p : Fin 4) → Data (F := F) p
  | 0 => Mask.dat (Va m)
  | 1 => Stats.dat (Vc m)
  | 2 => Pool.dat (Ve m)
  | 3 => Scores.dat (Vf m)

theorem V2_x (d : Dev nD) : V2 m d x' = xs m d := by
  unfold V2
  rw [(opE (F := F)).result_of_not_mem _ (show x' ∉ ({e'} : Finset (DevRef τ sig)) by decide)]
  exact StableHlo.reshape_result main_arg0 main_v0 rfl shapeCasts_S1024x10_S1x10240 (by decide) (by decide) (V0 m d)
theorem V2_e (d : Dev nD) : V2 m d e' = es m d := by
  unfold V2
  refine (StableHlo.reshape_result main_arg1 main_v1 rfl shapeCasts_S100000x64_S50000x128 (by decide) (by decide) ((opX (F := F)).result (V0 m d))).trans ?_
  rw [(opX (F := F)).result_of_not_mem _ (show at' main_arg1 ∉ ({x'} : Finset (DevRef τ sig)) by decide)]
  rfl

/-- An array that neither the reshapes nor the gather writes. -/
theorem V3_of_ne (d : Dev nD) (b : DevRef τ sig) (hx : b ∉ ({x'} : Finset (DevRef τ sig))) (he : b ∉ ({e'} : Finset (DevRef τ sig)))
    (ho : b ≠ o') : V3 m d b = m (d, b) := by
  unfold V3 V2
  rw [Function.update_of_ne ho, (opE (F := F)).result_of_not_mem _ he, (opX (F := F)).result_of_not_mem _ hx]
  rfl

/-- The four calls leave what they don't write. -/
theorem Vb_keeps (d : Dev nD) (r : Ref sig .tc) (h : ∀ w, arrRef spec1 w = r → (cfg1.win w).isOut = false) : Vb m d (at' r) = Va m d (at' r) :=
  Pipeline.afterRegion_keeps (Mask.dat (Va m) d) (Va m d) winFacts1.arr_inj (fun _ => rfl) r h
theorem Vd_keeps (d : Dev nD) (r : Ref sig .tc) (h : ∀ w, arrRef spec2 w = r → (cfg2.win w).isOut = false) : Vd m d (at' r) = Vc m d (at' r) :=
  Pipeline.afterRegion_keeps (Stats.dat (Vc m) d) (Vc m d) winFacts2.arr_inj (fun _ => rfl) r h
theorem Vf_keeps (d : Dev nD) (r : Ref sig .tc) (h : ∀ w, arrRef spec3 w = r → (cfg3.win w).isOut = false) : Vf m d (at' r) = Ve m d (at' r) :=
  Pipeline.afterRegion_keeps (Pool.dat (Ve m) d) (Ve m d) winFacts3.arr_inj (fun _ => rfl) r h
theorem Vg_keeps (d : Dev nD) (r : Ref sig .tc) (h : ∀ w, arrRef spec4 w = r → (cfg4.win w).isOut = false) : Vg m d (at' r) = Vf m d (at' r) :=
  Pipeline.afterRegion_keeps (Scores.dat (Vf m) d) (Vf m d) winFacts4.arr_inj (fun _ => rfl) r h

/-! ## The call's parts -/

section Deal

variable (xf : (d : Dev nD) → Buf (Elt F) (xLoc d)) (ef : (d : Dev nD) → Buf (Elt F) (eLoc d))

/-- The operands and the result, dealt to the cores; the rest of the operands' shares stays. -/
theorem call_split (d : Dev nD) (f : Buf (Elt F) (oLoc d)) :
    iprop((xLoc d ↦{fullShare} xf d) ∗ (eLoc d ↦{fullShare} ef d) ∗ oLoc d ↦{fullShare} f)
      ⊢ (bigSep Finset.univ fun c : Fin ((K (F := F)).nCore 0) => (P xf ef).st 0 d c : sProp 𝕄) := by
  refine .trans ?_ (Entails.of_eq (cores_cast (fun c => coreIn xf ef d c)).symm)
  iintro ⟨Hx, He, Ho⟩
  ihave Hx := Entails.of_eq (peel (xf d) fullShare (grid0.bound 0)) $$ Hx
  ihave He := Entails.of_eq (peel (ef d) fullShare (grid0.bound 0)) $$ He
  ihave Ho := Entails.of_eq (out_cores d f) $$ Ho
  icases Hx with ⟨Hx, -⟩
  icases He with ⟨He, -⟩
  iapply (show iprop((bigSep Finset.univ fun c : Fin (grid0.bound 0) => xLoc d ↦{coreShare c} xf d)
      ∗ (bigSep Finset.univ fun c : Fin (grid0.bound 0) => eLoc d ↦{coreShare c} ef d)
      ∗ bigSep Finset.univ fun c : Fin (grid0.bound 0) => oLoc d ↦[coreSet c]{fullShare} f)
      ⊢ (bigSep Finset.univ fun c => coreIn xf ef d c : sProp 𝕄) from by
    rw [← bigSep_sep', ← bigSep_sep']
    exact bigSep_mono fun c _ => show iprop((xLoc d ↦{coreShare c} xf d) ∗ (eLoc d ↦{coreShare c} ef d) ∗ oLoc d ↦[coreSet c]{fullShare} f)
        ⊢ coreIn xf ef d c from sep_mono .rfl (sep_mono .rfl (exists_intro f)))
  isplitl [Hx]; · iexact Hx
  isplitl [He]; · iexact He
  iexact Ho

/-- The result whole again, at the gathered rows. -/
theorem call_join (d : Dev nD) :
    (bigSep Finset.univ fun c : Fin ((K (F := F)).nCore 0) => (P xf ef).dn 0 d c : sProp 𝕄)
      ⊢ oLoc d ↦{fullShare} (G (xf d) (ef d) : Buf (Elt F) (oLoc d)) := by
  refine (Entails.of_eq (cores_cast (fun c => coreOut xf ef d c))).trans ?_
  have e : (bigSep Finset.univ fun c => coreOut xf ef d c : sProp 𝕄)
      = iprop((bigSep Finset.univ fun c : Fin (grid0.bound 0) => xLoc d ↦{coreShare c} xf d)
        ∗ (bigSep Finset.univ fun c : Fin (grid0.bound 0) => eLoc d ↦{coreShare c} ef d)
        ∗ bigSep Finset.univ fun c : Fin (grid0.bound 0) => oLoc d ↦[coreSet c]{fullShare} (G (xf d) (ef d) : Buf (Elt F) (oLoc d))) := by
    rw [← bigSep_sep', ← bigSep_sep']
    rfl
  rw [e]
  iintro ⟨-, -, Ho⟩
  iapply (Entails.of_eq (out_cores d (G (xf d) (ef d))).symm)
  iexact Ho

end Deal

/-! ## The host's run -/

theorem pinj : Function.Injective (Pipeline.cellOf (nD := nD) (τ := τ) (Pipeline.pin (pcfgs (F := F)) adm)) :=
  (launch1.toP (Val := Elt F)).cellOf_inj adm

/-- The launch's ghost state: the handshakes' rounds, the four calls' rounds, and nothing for the copies. -/
def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- What the four calls need of it. -/
abbrev GP (d : Dev nD) : sProp 𝕄 :=
  iprop((bigSep Finset.univ fun p : Fin 4 => cellsGhost (Pipeline.pin (pcfgs (F := F)) adm) EP p d)
    ∗ bigSep Finset.univ fun p : Fin 4 => toksInit (Pipeline.pin (pcfgs (F := F)) adm) EP p d)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => GP d)
        ∗ bigSep Finset.univ fun thr : Thread nD τ => bigSep Finset.univ fun q : Fin 1 => (P (xs m) (es m)).x q thr) := by
  have none_each : (bigSep Finset.univ fun thr : Thread nD τ => bigSep Finset.univ fun q : Fin 1 => (P (xs m) (es m)).x q thr : sProp 𝕄) = iprop(emp) :=
    (bigSep_congr fun _ _ => bigSep_univ_of_subsingleton (0 : Fin 1)).trans (bigSep_emp_const _)
  rw [none_each, bigSep_sep']
  unfold u₀
  iintro Hu
  ihave H := (ownU_pair (initOf (K (F := F)).hsCells (K (F := F)).hsToks)
    ((initOf (Pipeline.cells (Pipeline.pin (pcfgs (F := F)) adm) pinj) (Pipeline.launchToks (Pipeline.pin (pcfgs (F := F)) adm) pinj), (1 : Counters)))) $$ Hu
  icases H with ⟨HH, HP⟩
  ihave H := (own_pair_emb embR (initOf (Pipeline.cells (Pipeline.pin (pcfgs (F := F)) adm) pinj) (Pipeline.launchToks (Pipeline.pin (pcfgs (F := F)) adm) pinj))
    (1 : Counters)) $$ HP
  icases H with ⟨HP, -⟩
  ihave HP := (show (BI.own (((Emb.inl.trans embR).toFun (initOf (Pipeline.cells (Pipeline.pin (pcfgs (F := F)) adm) pinj) (Pipeline.launchToks (Pipeline.pin (pcfgs (F := F)) adm) pinj)))) : sProp 𝕄)
      ⊢ BI.own (EP.toFun (initOf (Pipeline.cells (Pipeline.pin (pcfgs (F := F)) adm) pinj) (Pipeline.launchToks (Pipeline.pin (pcfgs (F := F)) adm) pinj))) from .rfl) $$ HP
  imod (Pipeline.fund_ghost (Pipeline.pin (pcfgs (F := F)) adm) EP pinj) $$ HP with ⟨Hg, Ht⟩
  imodintro
  isplitl [HH]; · iexact HH
  isplitl [Hg Ht]
  · isplitl [Hg] <;> iassumption
  · iempintro

/-! ## One stretch of the host's operations, and one call -/

set_option backward.isDefEq.respectTransparency.types false in
theorem host_ops (d : Dev nD) (ops : List (HloOp τ sig (Elt F))) (hS : ∀ op ∈ ops, op.bufs ⊆ SA) (hf : ∀ op ∈ ops, op.fresh = ∅)
    (V V' : Valuation τ sig (Elt F)) (hV : after ops V = V') (Q : PUnit → sProp 𝕄) :
    iprop((iprop(boundary (T d) ∗ held (T d) SA V') -∗ Q ⟨⟩) ∗ boundary (T d) ∗ held (T d) SA V)
      ⊢ wp frame (wpE ((K (F := F)).defs (D (F := F))) 𝒱 (T d) none) Set.univ (seq ops) Q := by
  subst hV
  rw [← bind_pure (seq ops)]
  iintro ⟨Hk, Hb, Hh⟩
  iapply (StableHlo.wp_seq 𝒱 none Set.univ d SA (fun x => pure x) ops hS hf V) $$ [Hb Hh]
  · isplitl [Hb] <;> iassumption
  iintro H
  rw [wp_pure]; imodintro
  iapply Hk; iexact H

/-- A call, and as the whole program makes it. -/
abbrev theCall (p : Fin 4) : Prog (TpuEff nD τ sig (Elt F) (ΛP (F := F)) .tc) PUnit := .op (.customCall (Pipeline.entry p) ()) .ret

theorem region_call [∀ e, Nonempty (Elt F e)] {p : Fin 4} {V : Dev nD → Valuation τ sig (Elt F)} (H : Facts (pd m p) V SA) (d : Dev nD)
    (V' : Valuation τ sig (Elt F)) (hV : afterRegion (pd m p d) (V d) = V') (Q : PUnit → sProp 𝕄) :
    iprop((iprop(boundary (T d) ∗ held (T d) SA V' ∗ owesWithin d 0 (calm (F := F) d)) -∗ Q ⟨⟩)
        ∗ boundary (T d) ∗ iprop(held (T d) SA (V d) ∗ owesWithin d 0 (calm (F := F) d)) ∗ levAts (K (F := F)).L (K (F := F)).lev
        ∗ iprop(cellsGhost (Pipeline.pin (pcfgs (F := F)) adm) EP p d ∗ toksInit (Pipeline.pin (pcfgs (F := F)) adm) EP p d))
      ⊢ wp frame (wpE ((K (F := F)).defs (D (F := F))) 𝒱 (T d) none) Set.univ (Prog.lift (.customCall (SparseCore.inner (Pipeline.entry p)) ())) Q := by
  subst hV
  rw [show (Prog.lift (.customCall (SparseCore.inner (Pipeline.entry p)) ()) : Prog (TpuEff nD τ sig (Elt F) (SparseCore.Sig (ΛP (F := F)) 1) .tc) PUnit)
    = SparseCore.liftProg (theCall p) from rfl]
  refine BI.Entails.trans ?_ ((K (F := F)).wp_liftProg (D (F := F)) 𝒱 (T d) Set.univ none (theCall p) Q)
  refine BI.Entails.trans ?_ (Pipeline.RegionSeg.wp (pcfgs (F := F)) adm (pd m) none pinj EP (defs₀ (F := F)) Variants.none (K (F := F)).L (K (F := F)).lev
    (step H) d none (fun _ h => nomatch h) .ret Q)
  show (_ : sProp 𝕄) ⊢ _
  iintro ⟨Hk, Hb, Hpre, HL, HG⟩
  isplitl [Hk]
  · iintro H
    rw [wp_ret]; imodintro
    iapply Hk
    icases H with ⟨Hb, H⟩
    isplitl [Hb]; · iexact Hb
    iapply (show ((step H).post d : sProp 𝕄) ⊢ iprop(held (T d) SA (afterRegion (pd m p d) (V d)) ∗ owesWithin d 0 (calm (F := F) d)) from .rfl); iexact H
  isplitl [Hb]; · iexact Hb
  isplitl [Hpre]
  · iapply (show iprop(held (T d) SA (V d) ∗ owesWithin d 0 (calm (F := F) d)) ⊢ ((step H).pre d : sProp 𝕄) from .rfl); iexact Hpre
  isplitl [HL]; · iexact HL
  iexact HG

theorem call0 : Facts (pd m 0) (Va m) SA := Mask.facts (Va m) SA arr0_SA
theorem call1 : Facts (pd m 1) (Vc m) SA := Stats.facts (Vc m) SA arr1_SA
theorem call2 : Facts (pd m 2) (Ve m) SA := Pool.facts (Ve m) SA arr2_SA
theorem call3 : Facts (pd m 3) (Vf m) SA := Scores.facts (Vf m) SA arr3_SA

/-- What the host keeps for the claims: the arrays at the end. -/
abbrev FIN (d : Dev nD) : sProp 𝕄 := held (T d) SA (Vh m d)

theorem hmain [∀ e, Nonempty (Elt F e)] (κ : GSem nD τ sig → ℕ) (d : Dev nD) :
    iprop((K (F := F)).ctx EH (P (xs m) (es m)) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d)
    from Pipeline.unscopedBufs_held d (V0 m d)]
  rw [main_eq]
  simp only [wp_bind]
  iintro ⟨#Hctx, Hst, ⟨Hb, Hheld, Hts, -⟩, HG⟩
  iapply (wp_hlo_within 𝒱 (SparseCore.T d) none Set.univ (op := opX) (S := ucRefs τ sig) hX (V := V0 m d)) $$ [Hb Hheld]
  · isplitl [Hb] <;> iassumption
  iintro ⟨Hb, Hheld⟩
  rw [wp_ret]; imodintro
  iapply (wp_hlo_within 𝒱 (SparseCore.T d) none Set.univ (op := opE) (S := ucRefs τ sig) hE (V := (opX (F := F)).result (V0 m d))) $$ [Hb Hheld]
  · isplitl [Hb] <;> iassumption
  iintro ⟨Hb, Hheld⟩
  rw [wp_ret]; imodintro
  ihave Hh := (show held (T d) (ucRefs τ sig) ((opE (F := F)).result ((opX (F := F)).result (V0 m d)))
      ⊢ (iprop(((xLoc d ↦{fullShare} xs m d) ∗ (eLoc d ↦{fullShare} es m d) ∗ oLoc d ↦{fullShare} V2 m d o')
          ∗ held (T d) (ucRefs τ sig \ SG) (V2 m d)) : sProp 𝕄) from by
    rw [show (opE (F := F)).result ((opX (F := F)).result (V0 m d)) = V2 m d from rfl, StableHlo.held_sub_split _ SG_sub, held_SG, V2_x, V2_e]) $$ Hheld
  icases Hh with ⟨Hcall, Hrest⟩
  iapply ((K (F := F)).wp_run (D (F := F)) 𝒱 (EH := EH) (P := P (xs m) (es m)) κ d 0) $$ [Hst Hcall Hb Hrest Hts HG]
  isplitr; · iexact Hctx
  isplitl [Hst]; · iexact Hst
  isplitl [Hcall]
  · iapply (call_split (xs m) (es m) d _); iexact Hcall
  iintro ⟨Hst, Hdn⟩
  ihave Ho := (call_join (xs m) (es m) d) $$ Hdn
  ihave Hheld := (show iprop((oLoc d ↦{fullShare} (G (xs m d) (es m d) : Buf (Elt F) (oLoc d))) ∗ held (T d) (ucRefs τ sig \ SG) (V2 m d))
      ⊢ (held (T d) SA (V3 m d) : sProp 𝕄) from by
    rw [StableHlo.held_sub_split _ o_SA, SA_split, show (held (T d) {o'} (V3 m d) : sProp 𝕄) = (oLoc d ↦{fullShare} V3 m d o') from bigSep_singleton ..,
      show V3 m d o' = gs m d from Function.update_self ..,
      StableHlo.held_congr (V := V3 m d) (V' := V2 m d) _ fun b hb => Function.update_of_ne (fun e => by subst e; exact absurd hb (by decide +kernel)) _ _]
    exact .rfl) $$ [Ho Hrest]
  · isplitl [Ho] <;> iassumption
  ihave #HL := (SparseCore.Cfg.ctx_levAts κ) $$ Hctx
  unfold SparseCore.Cfg.tcSt
  icases Hst with ⟨⟨%W, %hW, HO⟩, Hst⟩
  ihave HO := (show owes (SparseCore.T d) ((K (F := F)).Otc d ((0 : Fin 1).val + 1)) W ⊢ (owesWithin d 0 (calm (F := F) d) : sProp 𝕄) from by
    unfold owesWithin
    rw [show (K (F := F)).Otc d ((0 : Fin 1).val + 1) = 0 from (K (F := F)).Otc_end d (n := 1) (le_refl 1)]
    iintro HO
    iexists W; isplitr; · ipureintro; exact fun p hp => hW p hp
    iexact HO) $$ HO
  icases HG with ⟨HGc, HGt⟩
  ihave HGc := Entails.of_eq (four _) $$ HGc
  ihave HGt := Entails.of_eq (four _) $$ HGt
  icases HGc with ⟨Hc0, Hc1, Hc2, Hc3⟩
  icases HGt with ⟨Ht0, Ht1, Ht2, Ht3⟩
  iapply (host_ops d opsA hA fA (V3 m d) (Va m d) rfl)
  isplitl [Hst Hts HO Hc0 Hc1 Hc2 Hc3 Ht0 Ht1 Ht2 Ht3]
  swap
  · isplitl [Hb] <;> iassumption
  iintro ⟨Hb, Hheld⟩
  iapply (region_call m (call0 m) d (Vb m d) rfl)
  isplitr [Hb Hheld HO Hc0 Ht0]
  swap
  · isplitl [Hb]; · iexact Hb
    isplitl [Hheld HO]
    · isplitl [Hheld] <;> iassumption
    isplitr; · iexact HL
    isplitl [Hc0] <;> iassumption
  iintro ⟨Hb, Hheld, HO⟩
  iapply (host_ops d opsB hB fB (Vb m d) (Vc m d) rfl)
  isplitr [Hb Hheld]
  swap
  · isplitl [Hb] <;> iassumption
  iintro ⟨Hb, Hheld⟩
  iapply (region_call m (call1 m) d (Vd m d) rfl)
  isplitr [Hb Hheld HO Hc1 Ht1]
  swap
  · isplitl [Hb]; · iexact Hb
    isplitl [Hheld HO]
    · isplitl [Hheld] <;> iassumption
    isplitr; · iexact HL
    isplitl [Hc1] <;> iassumption
  iintro ⟨Hb, Hheld, HO⟩
  iapply (host_ops d opsC hC fC (Vd m d) (Ve m d) rfl)
  isplitr [Hb Hheld]
  swap
  · isplitl [Hb] <;> iassumption
  iintro ⟨Hb, Hheld⟩
  iapply (region_call m (call2 m) d (Vf m d) rfl)
  isplitr [Hb Hheld HO Hc2 Ht2]
  swap
  · isplitl [Hb]; · iexact Hb
    isplitl [Hheld HO]
    · isplitl [Hheld] <;> iassumption
    isplitr; · iexact HL
    isplitl [Hc2] <;> iassumption
  iintro ⟨Hb, Hheld, HO⟩
  iapply (region_call m (call3 m) d (Vg m d) rfl)
  isplitr [Hb Hheld HO Hc3 Ht3]
  swap
  · isplitl [Hb]; · iexact Hb
    isplitl [Hheld HO]
    · isplitl [Hheld] <;> iassumption
    isplitr; · iexact HL
    isplitl [Hc3] <;> iassumption
  iintro ⟨Hb, Hheld, ⟨%W', %hW', HO⟩⟩
  iapply (host_ops d opsD hD fD (Vg m d) (Vh m d) rfl)
  isplitr [Hb Hheld]
  swap
  · isplitl [Hb] <;> iassumption
  iintro ⟨Hb, Hheld⟩
  isplitl [HO Hst]
  · isplitl [HO]
    · iexists W'; isplitr; · ipureintro; exact fun p hp => hW' hp
      rw [(K (F := F)).Otc_end d (n := 1) (le_refl 1)]; iexact HO
    · iexact Hst
  isplitl [Hheld]; · iexact Hheld
  isplitl [Hb] <;> iassumption

/-- What the final state of a device holds. -/
def fq (d : Dev nD) (z : Phys nD τ sig (Elt F)) : Prop := ∀ b ∈ SA, z.mem.mem (d, b) = Vh m d b

theorem hfin (d : Dev nD) (z : Phys nD τ sig (Elt F)) : iprop(FIN m d ∗ SI z) ⊢ (⌜fq m d z⌝ : sProp 𝕄) := by
  unfold fq
  refine (forall_intro fun b => ?_).trans pure_forall.2
  by_cases hb : b ∈ SA
  · refine .trans ?_ (Laws.pure_mono fun h _ => h)
    refine (sep_mono_left (bigSep_elim (Φ := fun b => (((d, b) : Loc nD τ sig) ↦{fullShare} Vh m d b : sProp 𝕄)) hb)).trans ?_
    iintro ⟨Hp, HSI⟩
    icombine HSI Hp gives %h
    ipureintro; exact funext fun i => h i (Finset.mem_univ i)
  · iintro -; ipureintro; exact fun h => absurd h hb

/-! ## Every execution -/

/-- The arguments as they were, the result at the last operations' value, and no semaphore left raised. -/
def QC : PUnit × MemSt nD τ sig (Elt F) → Prop := fun r =>
  (∀ c : Dev nD, r.2.mem (iLoc c) = m (iLoc c) ∧ r.2.mem (tLoc c) = m (tLoc c) ∧ r.2.mem (wLoc c) = m (wLoc c) ∧ r.2.mem (bLoc c) = m (bLoc c)
    ∧ r.2.mem (resLoc c) = Vh m c (at' main_v20)) ∧ r.2.sem = fun _ => 0

/-- An array that no operation of a list writes. -/
theorem Va_keeps (d : Dev nD) (b : DevRef τ sig) (h : b ∉ ({at' main_v3, at' main_v4, at' main_v5, at' main_v6, at' main_c, at' main_call0_v0, at' main_v7} : Finset (DevRef τ sig))) :
    Va m d b = V3 m d b := by
  simp only [Finset.mem_insert, Finset.mem_singleton, not_or] at h
  obtain ⟨h1, h2, h3, h4, h5, h6, h7⟩ := h
  have n {x y : DevRef τ sig} (h : ¬ x = y) : x ∉ ({y} : Finset (DevRef τ sig)) := fun e => h (Finset.mem_singleton.mp e)
  exact StableHlo.after_of_forall_not_mem _ _ (List.forall_iff_forall_mem.mp ⟨n h1, n h2, n h3, n h4, n h5, n h6, n h7⟩)
theorem Vc_keeps (d : Dev nD) (b : DevRef τ sig) (h : b ∉ ({at' main_c_0, at' main_v9, at' main_c_1, at' main_v10, at' main_v11, at' main_v12} : Finset (DevRef τ sig))) :
    Vc m d b = Vb m d b := by
  simp only [Finset.mem_insert, Finset.mem_singleton, not_or] at h
  obtain ⟨h1, h2, h3, h4, h5, h6⟩ := h
  have n {x y : DevRef τ sig} (h : ¬ x = y) : x ∉ ({y} : Finset (DevRef τ sig)) := fun e => h (Finset.mem_singleton.mp e)
  exact StableHlo.after_of_forall_not_mem _ _ (List.forall_iff_forall_mem.mp ⟨n h1, n h2, n h3, n h4, n h5, n h6⟩)
theorem Ve_keeps (d : Dev nD) (b : DevRef τ sig) (h : b ∉ ({at' main_v14} : Finset (DevRef τ sig))) : Ve m d b = Vd m d b :=
  StableHlo.after_of_forall_not_mem _ _ (List.forall_iff_forall_mem.mp (show b ∉ ({at' main_v14} : Finset (DevRef τ sig)) from h))
theorem Vh_keeps (d : Dev nD) (b : DevRef τ sig) (h : b ∉ ({at' main_v17, at' main_v18, at' main_v19, at' main_v20} : Finset (DevRef τ sig))) :
    Vh m d b = Vg m d b := by
  simp only [Finset.mem_insert, Finset.mem_singleton, not_or] at h
  obtain ⟨h1, h2, h3, h4⟩ := h
  have n {x y : DevRef τ sig} (h : ¬ x = y) : x ∉ ({y} : Finset (DevRef τ sig)) := fun e => h (Finset.mem_singleton.mp e)
  exact StableHlo.after_of_forall_not_mem _ _ (List.forall_iff_forall_mem.mp ⟨n h1, n h2, n h3, n h4⟩)

/-- The arguments stay as they were. -/
theorem Vh_arg0 (d : Dev nD) : Vh m d (at' main_arg0) = m (iLoc d) := by
  rw [Vh_keeps m d _ (by decide), Vg_keeps m d _ (by decide), Vf_keeps m d _ (by decide), Ve_keeps m d _ (by decide), Vd_keeps m d _ (by decide),
    Vc_keeps m d _ (by decide), Vb_keeps m d _ (by decide), Va_keeps m d _ (by decide), V3_of_ne m d _ (by decide) (by decide) (by decide)]
theorem Vh_arg1 (d : Dev nD) : Vh m d (at' main_arg1) = m (tLoc d) := by
  rw [Vh_keeps m d _ (by decide), Vg_keeps m d _ (by decide), Vf_keeps m d _ (by decide), Ve_keeps m d _ (by decide), Vd_keeps m d _ (by decide),
    Vc_keeps m d _ (by decide), Vb_keeps m d _ (by decide), Va_keeps m d _ (by decide), V3_of_ne m d _ (by decide) (by decide) (by decide)]
theorem Vh_arg2 (d : Dev nD) : Vh m d (at' main_arg2) = m (wLoc d) := by
  rw [Vh_keeps m d _ (by decide), Vg_keeps m d _ (by decide), Vf_keeps m d _ (by decide), Ve_keeps m d _ (by decide), Vd_keeps m d _ (by decide),
    Vc_keeps m d _ (by decide), Vb_keeps m d _ (by decide), Va_keeps m d _ (by decide), V3_of_ne m d _ (by decide) (by decide) (by decide)]
theorem Vh_arg3 (d : Dev nD) : Vh m d (at' main_arg3) = m (bLoc d) := by
  rw [Vh_keeps m d _ (by decide), Vg_keeps m d _ (by decide), Vf_keeps m d _ (by decide), Ve_keeps m d _ (by decide), Vd_keeps m d _ (by decide),
    Vc_keeps m d _ (by decide), Vb_keeps m d _ (by decide), Va_keeps m d _ (by decide), V3_of_ne m d _ (by decide) (by decide) (by decide)]

theorem QC_of_fq (z : Phys nD τ sig (Elt F)) (h : ∀ d, fq m d z) (hz : z.mem.sem = fun _ => 0) : QC m (⟨⟩, z.mem) :=
  ⟨fun d => ⟨(h d (at' main_arg0) (by decide +kernel)).trans (Vh_arg0 m d), (h d (at' main_arg1) (by decide +kernel)).trans (Vh_arg1 m d),
    (h d (at' main_arg2) (by decide +kernel)).trans (Vh_arg2 m d), (h d (at' main_arg3) (by decide +kernel)).trans (Vh_arg3 m d),
    h d (at' main_v20) (by decide +kernel)⟩, hz⟩

/-- The index words at launch are in range. -/
def PreOK : Prop := ∀ d (j : S1024x10.Idx), (m (iLoc d) j : BitVec 32).toNat < 100000

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (xs m) (es m)) (A := ∅) facts v₀
    (fun q hq => match q with | 0 => nomatch hq)
    (fun q _ => match q with | 0 => tileObl (xs m) (es m) facts fun d j => hpre d _)
    (fun q _ => match q with | 0 => SparseCore.Cfg.VecSplit.of_plain (vecSplit (xs m) (es m)))
    m ρ main (fun d => GP d) (FIN m) (u₀ (F := F)) (sep_elim_left.trans (hu₀ m)) (hmain m ρ) (fq m) (hfin m) (QC m) (QC_of_fq m)

end Cert.Proof.Launch

end
-- ==== Proof.Pooled.lean ====
/-
  The pooling kernel's values over the extended reals, at an index: the sums of the ten halves its indices pick, and
  the two results.
-/
module

public import proofs.«01_k».proof.Proof.PoolBody
public import Idealize.ShloMosaic.Lib.Pointwise
public import Idealize.ShloMosaic.Lib.IdealHost
public import Idealize.ShloMosaic.Lib.WordCmp
public import Idealize.ShloMosaic.Lib.Pipeline.ValueKit.Tiles

@[expose] public section

set_option maxRecDepth 16384

noncomputable section

namespace Cert.Proof.Pool

open Cert.KernelIdeal Cert.KernelIdeal.Gen
open Idealize.ShloMosaic

/-- The right half where the word is odd, else the left. -/
def pick (w : BitVec 32) (y z : EReal) : EReal := Scalar.select (IntOp.cmpi .eq (IntOp.andi w 1#32) 1#32) y z

theorem pay2_apply (a b : Vec Ideal S1024x64 .f32) (w : Vec Ideal S1024x1 .i32) (a' b' : Vec Ideal S1024x64 .f32) (w' : Vec Ideal S1024x1 .i32)
    (r : Fin 1024) (k : Fin 64) : k3_pay2 a b w a' b' w' (ix2 r k)
      = pick (w (ix2 r 0)) (b (ix2 r k)) (a (ix2 r k)) + pick (w' (ix2 r 0)) (b' (ix2 r k)) (a' (ix2 r k)) := by
  unfold pick
  pointwise [k3_pay2]

theorem pay7_apply (s a b : FVec Ideal S1024x64 .f32) (w : Vec Ideal S1024x1 .i32) (a' b' : Vec Ideal S1024x64 .f32) (w' : Vec Ideal S1024x1 .i32)
    (a'' b'' : Vec Ideal S1024x64 .f32) (w'' : Vec Ideal S1024x1 .i32) (r : Fin 1024) (k : Fin 64) :
    k3_pay7 s (k3_pay3 a) (k3_pay4 b) (k3_pay5 (F := Ideal) w) k3_pay6 a' b' w' a'' b'' w'' (ix2 r k)
      = s (ix2 r k) + pick (w (ix2 r 0)) (b (ix2 r k)) (a (ix2 r k)) + pick (w' (ix2 r 0)) (b' (ix2 r k)) (a' (ix2 r k))
        + pick (w'' (ix2 r 0)) (b'' (ix2 r k)) (a'' (ix2 r k)) := by
  unfold pick
  pointwise [k3_pay7, k3_pay3, k3_pay4, k3_pay5, k3_pay6]

theorem pay11_apply (s a b : FVec Ideal S1024x64 .f32) (w : Vec Ideal S1024x1 .i32) (a' b' : Vec Ideal S1024x64 .f32) (w' : Vec Ideal S1024x1 .i32)
    (a'' b'' : Vec Ideal S1024x64 .f32) (w'' : Vec Ideal S1024x1 .i32) (r : Fin 1024) (k : Fin 64) :
    k3_pay11 s (k3_pay8 a) (k3_pay9 b) w k3_pay10 a' b' w' a'' b'' w'' (ix2 r k)
      = s (ix2 r k) + pick (w (ix2 r 0)) (b (ix2 r k)) (a (ix2 r k)) + pick (w' (ix2 r 0)) (b' (ix2 r k)) (a' (ix2 r k))
        + pick (w'' (ix2 r 0)) (b'' (ix2 r k)) (a'' (ix2 r k)) := by
  unfold pick
  pointwise [k3_pay11, k3_pay8, k3_pay9, k3_pay10]

theorem pay14_apply (s a b : FVec Ideal S1024x64 .f32) (w : Vec Ideal S1024x1 .i32) (a' b' : Vec Ideal S1024x64 .f32) (w' : Vec Ideal S1024x1 .i32)
    (r : Fin 1024) (k : Fin 64) : k3_pay14 s (k3_pay12 a) (k3_pay13 b) w a' b' w' (ix2 r k)
      = s (ix2 r k) + pick (w (ix2 r 0)) (b (ix2 r k)) (a (ix2 r k)) + pick (w' (ix2 r 0)) (b' (ix2 r k)) (a' (ix2 r k)) := by
  unfold pick
  pointwise [k3_pay14, k3_pay12, k3_pay13]

/-- The sums with a one and zeros beside them, and the norms scaled and shifted, over any sums. -/
theorem aug_apply (s a b : FVec Ideal S1024x64 .f32) (w : Vec Ideal S1024x1 .i32) (a' b' : Vec Ideal S1024x64 .f32) (w' : Vec Ideal S1024x1 .i32)
    (r : Fin 1024) (c : Fin 128) : k3_pay15 s a b w a' b' w' (ix2 r c)
      = if h : c.val < 64 then k3_pay14 s a b w a' b' w' (ix2 r ⟨c.val, h⟩) else if c.val = 64 then 1 else 0 := by
  pointwise [k3_pay15]
  have hc := c.isLt
  rw [WordCmp.cmpi_eq_ofNat (by omega) (by decide)]
  by_cases h : c.val < 64
  · rw [decide_eq_false (show ¬c.val = 64 by omega), dif_pos h, dif_pos h]
    rfl
  rw [dif_neg h, dif_neg h]
  by_cases h' : c.val = 64
  · rw [decide_eq_true h', if_pos h']
    rfl
  · rw [decide_eq_false h', if_neg h']
    show ((((0#32 : BitVec 32).toInt : ℝ)) : EReal) = 0
    simp

theorem bound_apply (s a b : FVec Ideal S1024x64 .f32) (w : Vec Ideal S1024x1 .i32) (a' b' : Vec Ideal S1024x64 .f32) (w' : Vec Ideal S1024x1 .i32) (p q : Vec Ideal S1x1 .f32)
    (r : Fin 1024) (c : Fin 1) : k3_pay1 (k3_pay16 s a b w a' b' w') (k3_pay17 p) q (ix2 r c)
      = Ideal.sqrt (∑ k : Fin 64, k3_pay14 s a b w a' b' w' (ix2 r k) * k3_pay14 s a b w a' b' w' (ix2 r k)) * p (ix2 0 0) + q (ix2 0 0) := by
  pointwise [k3_pay1, k3_pay16, k3_pay17]

theorem cols_apply (g : S1024x1280.Idx → Elt Ideal .f32) (o : ℕ) (h) (r : Fin 1024) (k : Fin 64) (hk : o + k.val < 1280) :
    cols g o h (ix2 r k) = g (ix2 r ⟨o + k.val, hk⟩) :=
  congrArg g (funext fun a => Fin.ext (by
    match a with
    | ⟨0, _⟩ => exact (Rect.idx_unit_val ..).trans (Nat.zero_add _)
    | ⟨1, _⟩ => exact Rect.idx_unit_val ..))

theorem word_apply (x : S1024x10.Idx → Elt Ideal .i32) (j : ℕ) (h) (r : Fin 1024) (hj : j < 10) : word (F := Ideal) x j h (ix2 r 0) = x (ix2 r ⟨j, hj⟩) :=
  congrArg x (funext fun a => Fin.ext (by
    match a with
    | ⟨0, _⟩ => exact (Rect.idx_unit_val ..).trans (Nat.zero_add _)
    | ⟨1, _⟩ => exact Rect.idx_unit_val ..))

theorem stat_apply (st : S1x128.Idx → Elt Ideal .f32) (j : ℕ) (h) (hj : j < 128) : stat st j h (ix2 0 0) = st (ix2 0 ⟨j, hj⟩) :=
  congrArg st (funext fun a => Fin.ext (by
    match a with
    | ⟨0, _⟩ => exact (Rect.idx_unit_val ..).trans (Nat.zero_add _)
    | ⟨1, _⟩ => exact Rect.idx_unit_val ..))

variable (st : S1x128.Idx → Elt Ideal .f32) (g : S1024x1280.Idx → Elt Ideal .f32) (x : S1024x10.Idx → Elt Ideal .i32)

/-- Entry `k` of row `j` of context `r`, picked from its pair of rows. -/
def half (r : Fin 1024) (j : Fin 10) (k : Fin 64) : EReal :=
  pick (x (ix2 r j)) (g (ix2 r ⟨128 * j.val + 64 + k.val, by omega⟩)) (g (ix2 r ⟨128 * j.val + k.val, by omega⟩))

theorem picked (j : ℕ) (hj : j < 10) (o o' : ℕ) (ho : o = 128 * j) (ho' : o' = 128 * j + 64) (h) (h') (hw) (r : Fin 1024) (k : Fin 64) :
    pick (word (F := Ideal) x j hw (ix2 r 0)) (cols g o' h' (ix2 r k)) (cols g o h (ix2 r k)) = half g x r ⟨j, hj⟩ k := by
  subst ho ho'
  rw [word_apply x j hw r hj, cols_apply g _ _ r k (by omega), cols_apply g _ _ r k (by omega)]
  rfl

/-- A context's sum is over its ten rows. -/
theorem sum10_apply (r : Fin 1024) (k : Fin 64) : sum10 (F := Ideal) g x (ix2 r k) = ∑ j : Fin 10, half g x r j k := by
  unfold sum10 atLast sum8 sum5 sum2
  rw [pay14_apply, pay11_apply, pay7_apply, pay2_apply]
  rw [picked g x 0 (by decide) 0 64 rfl rfl _ _ _ r k,
    picked g x 1 (by decide) 128 192 rfl rfl _ _ _ r k,
    picked g x 2 (by decide) 256 320 rfl rfl _ _ _ r k,
    picked g x 3 (by decide) 384 448 rfl rfl _ _ _ r k,
    picked g x 4 (by decide) 512 576 rfl rfl _ _ _ r k,
    picked g x 5 (by decide) 640 704 rfl rfl _ _ _ r k,
    picked g x 6 (by decide) 768 832 rfl rfl _ _ _ r k,
    picked g x 7 (by decide) 896 960 rfl rfl _ _ _ r k,
    picked g x 8 (by decide) 1024 1088 rfl rfl _ _ _ r k,
    picked g x 9 (by decide) 1152 1216 rfl rfl _ _ _ r k]
  simp only [Fin.sum_univ_castSucc, Fin.sum_univ_zero, zero_add]
  rfl

/-- The two results over the sums. -/
theorem augOf_apply (r : Fin 1024) (c : Fin 128) : augOf (F := Ideal) g x (ix2 r c)
    = if h : c.val < 64 then sum10 (F := Ideal) g x (ix2 r ⟨c.val, h⟩) else if c.val = 64 then 1 else 0 :=
  aug_apply ..

theorem boundOf_apply (r : Fin 1024) (c : Fin 1) : boundOf (F := Ideal) st g x (ix2 r c)
    = Ideal.sqrt (∑ k : Fin 64, sum10 (F := Ideal) g x (ix2 r k) * sum10 (F := Ideal) g x (ix2 r k)) * st (ix2 0 0) + st (ix2 0 1) := by
  refine (bound_apply ..).trans ?_
  rw [stat_apply st 0 _ (by decide), stat_apply st 1 _ (by decide)]
  rfl

end Cert.Proof.Pool

end
-- ==== Proof.LogSoftmax.lean ====
/-
  The logarithm of a softmax over the extended reals: scores less a shift, less the logarithm of the sum of their
  exponentials. Any two real shifts give the same values, and so do the two shifts met here: the scores' maximum, and a
  real number plus the maximum of the offsets in the scores.
-/
module

public import Idealize.ShloMosaic.PureOps.Ideal
public import Mathlib.Algebra.BigOperators.Fin

@[expose] public section

noncomputable section

namespace Cert.Proof.LogSoftmax

open Idealize.ShloMosaic

variable {n : Nat}

/-- The score at `v` less the shift, less the logarithm of the sum of the exponentials of all scores less the shift. -/
def logSoft (f : Fin n → EReal) (M : EReal) (v : Fin n) : EReal := (f v - M) - Ideal.log (∑ u, Ideal.exp (f u - M))

/-- A sum of reals is real. -/
theorem sum_coe {ι : Type} (s : Finset ι) (f : ι → ℝ) : ∑ u ∈ s, (f u : EReal) = ((∑ u ∈ s, f u : ℝ) : EReal) :=
  (map_sum (⟨⟨Real.toEReal, rfl⟩, EReal.coe_add⟩ : ℝ →+ EReal) f s).symm

/-- A score's exponential as a real number: zero for minus infinity. -/
def weight (x : EReal) : ℝ := if x = ⊥ then 0 else Real.exp x.toReal

theorem exp_sub (x : EReal) (hx : x ≠ ⊤) (M : ℝ) : Ideal.exp (x - (M : EReal)) = ((weight x * Real.exp (-M) : ℝ) : EReal) := by
  unfold weight
  induction x with
  | bot => rw [EReal.bot_sub, if_pos rfl, zero_mul]; rfl
  | top => exact absurd rfl hx
  | coe r =>
    rw [if_neg (EReal.coe_ne_bot r), ← EReal.coe_sub, Ideal.exp_coe, EReal.toReal_coe, ← Real.exp_add, sub_eq_add_neg]

theorem weight_nonneg (x : EReal) : 0 ≤ weight x := by
  unfold weight
  split
  · exact le_refl _
  · exact (Real.exp_pos _).le

/-- Where every score less the shift is minus infinity, so is every value. -/
theorem logSoft_bot (f : Fin n → EReal) (M : EReal) (h : ∀ u, f u - M = ⊥) (v : Fin n) : logSoft f M v = ⊥ := by
  unfold logSoft
  rw [h v, EReal.bot_sub]

/-- At a real shift, with no score plus infinity and one not minus infinity, the value doesn't depend on the shift. -/
theorem logSoft_real (f : Fin n → EReal) (M : ℝ) (ht : ∀ u, f u ≠ ⊤) (hb : ∃ u, f u ≠ ⊥) (v : Fin n) :
    logSoft f (M : EReal) v = f v - ((Real.log (∑ u, weight (f u)) : ℝ) : EReal) := by
  obtain ⟨w, hw⟩ := hb
  have hS : 0 < ∑ u, weight (f u) := by
    refine Finset.sum_pos' (fun u _ => weight_nonneg _) ⟨w, Finset.mem_univ _, ?_⟩
    unfold weight
    rw [if_neg hw]
    exact Real.exp_pos _
  have hsum : ∑ u, Ideal.exp (f u - (M : EReal)) = (((∑ u, weight (f u)) * Real.exp (-M) : ℝ) : EReal) := by
    rw [Finset.sum_mul, ← sum_coe]
    exact Finset.sum_congr rfl fun u _ => exp_sub _ (ht u) M
  have hlog : Ideal.log (∑ u, Ideal.exp (f u - (M : EReal))) = ((Real.log (∑ u, weight (f u)) - M : ℝ) : EReal) := by
    rw [hsum, Ideal.log_coe, if_neg (not_le.2 (mul_pos hS (Real.exp_pos _))), Real.log_mul hS.ne' (Real.exp_pos _).ne', Real.log_exp, sub_eq_add_neg]
  unfold logSoft
  rw [hlog]
  have hv := ht v
  induction h : f v with
  | bot => rw [EReal.bot_sub, EReal.bot_sub, EReal.bot_sub]
  | top => exact absurd h hv
  | coe r =>
    rw [← EReal.coe_sub, ← EReal.coe_sub, ← EReal.coe_sub]
    congr 1
    ring

/-- The scores' maximum and a real number plus the offsets' maximum, as shifts, give the same values. -/
theorem logSoft_same (d : Fin n → ℝ) (b : Fin n → EReal) (q : ℝ) (B M : EReal) (hB : ∃ u, B = b u) (hB' : ∀ u, b u ≤ B)
    (hM : ∃ u, M = (d u : EReal) + b u) (hM' : ∀ u, (d u : EReal) + b u ≤ M) (v : Fin n) :
    logSoft (fun u => (d u : EReal) + b u) ((q : EReal) + B) v = logSoft (fun u => (d u : EReal) + b u) M v := by
  obtain ⟨w, hw⟩ := hB
  obtain ⟨w', hw'⟩ := hM
  induction B with
  | top =>
    have hMt : M = ⊤ := by
      have := hM' w
      rw [← hw, EReal.coe_add_top] at this
      exact top_le_iff.1 this
    rw [hMt, EReal.coe_add_top]
  | bot =>
    have hb : ∀ u, (d u : EReal) + b u = ⊥ := fun u => by rw [le_bot_iff.1 (hB' u), EReal.add_bot]
    rw [logSoft_bot _ _ fun u => by simp only [hb u, EReal.bot_sub], logSoft_bot _ _ fun u => by simp only [hb u, EReal.bot_sub]]
  | coe r =>
    have ht : ∀ u, (d u : EReal) + b u ≠ ⊤ := fun u => by
      have := hB' u
      induction h : b u with
      | bot => rw [EReal.add_bot]; exact bot_ne_top
      | top => rw [h] at this; exact absurd (top_le_iff.1 this) (EReal.coe_ne_top r)
      | coe s => rw [← EReal.coe_add]; exact EReal.coe_ne_top _
    have hone : (d w : EReal) + b w ≠ ⊥ := by
      rw [← hw, ← EReal.coe_add]
      exact EReal.coe_ne_bot _
    have hMr : M ≠ ⊤ ∧ M ≠ ⊥ := ⟨hw' ▸ ht w', fun h => hone (le_bot_iff.1 (h ▸ hM' w))⟩
    obtain ⟨s, rfl⟩ : ∃ s : ℝ, M = (s : EReal) := ⟨M.toReal, (EReal.coe_toReal hMr.1 hMr.2).symm⟩
    rw [← EReal.coe_add, logSoft_real _ _ ht ⟨w, hone⟩, logSoft_real _ _ ht ⟨w, hone⟩]

/-- The reductions' first value: minus infinity. -/
theorem ofBits_bot : Ideal.ofBits .f32 0xFF800000#32 = ⊥ := by simp [Ideal.ofBits, Ideal.ieee]

/-- The power of two of a number times the reciprocal of two's logarithm is its exponential. -/
theorem exp2_mul (x : EReal) : Ideal.exp2 (x * (((Real.log 2)⁻¹ : ℝ) : EReal)) = Ideal.exp x := by
  have h2 : 0 < Real.log 2 := Real.log_pos one_lt_two
  induction x with
  | bot => rw [EReal.bot_mul_coe_of_pos (inv_pos.2 h2)]; rfl
  | top => rw [EReal.top_mul_coe_of_pos (inv_pos.2 h2)]; rfl
  | coe r =>
    rw [← EReal.coe_mul, Ideal.exp2_coe, Ideal.exp_coe]
    congr 1
    show (2 : ℝ) ^ (r * (Real.log 2)⁻¹) = _
    rw [Real.rpow_def_of_pos two_pos]
    congr 1
    field_simp

end Cert.Proof.LogSoftmax
-- ==== Proof.Value.lean ====
/-
  The reference's value: the take of the table's rows at index words in range, each context's sum of its ten rows, and
  the logarithm of the softmax of its scores, at an index; and that the sums of the gathered pairs' halves are the same.
-/
module

public import proofs.«01_k».proof.Proof.Gen.ReferenceIdeal
public import proofs.«01_k».proof.Proof.Gen.ReferenceIdeal.Run
public import proofs.«01_k».proof.Proof.Slots
public import proofs.«01_k».proof.Proof.Pooled
public import proofs.«01_k».proof.Proof.LogSoftmax
public import Idealize.ShloMosaic.Lib.ReduceAll
public import Idealize.ShloMosaic.Lib.WordCmp
public import Idealize.ShloMosaic.Lib.Pointwise

@[expose] public section

set_option maxRecDepth 16384

noncomputable section

namespace Cert.Proof.RefValue

open Cert.ReferenceIdeal Cert.ReferenceIdeal.Gen
open Idealize.ShloMosaic Idealize.ShloMosaic.StableHlo
open Idealize.ShloMosaic.WordCmp (cmpi_slt_ofNat cmpi_sge_ofNat cmpi_sle_ofNat)

variable {F : FTy → Type} [FloatOps F]

/-- The row numbers as the take reads them: a negative one counts from the table's end. -/
def rowNums (X : IVec S1024x10 32) : IVec S1024x10x1 32 :=
  broadcastInDim S1024x10x1 ![0, 1] bcast_S1024x10_S1024x10x1_0_1
    (select (cmpi .slt X (broadcastInDim S1024x10 ![] bcast_S_S1024x10 (constantI S_ 32 0#32)))
      (addi X (broadcastInDim S1024x10 ![] bcast_S_S1024x10 (constantI S_ 32 100000#32))) X)

/-- Which row numbers lie in the table. -/
def inTable (R : IVec S1024x10x1 32) : IVec S1024x10 1 :=
  Host.reduce IntOp.andi
    (andi (cmpi .sge R (broadcastInDim S1024x10x1 ![] bcast_S_S1024x10x1 (constantI S_ 32 0#32)))
      (cmpi .sle R (broadcastInDim S1024x10x1 ![0, 1, 2] bcast_S1x1x1_S1024x10x1_0_1_2 (broadcastInDim S1x1x1 ![2] bcast_S1_S1x1x1_2 (constantI S1 32 99999#32)))))
    (constantI S_ 1 1#1) reducesTo_S1024x10x1_S1024x10_d2 h_S_

/-- The take: the table's rows, and a constant where the row number is out of the table. -/
def taken (E : FVec F S100000x64 .f32) (R : IVec S1024x10x1 32) : FVec F S1024x10x64 .f32 :=
  select (broadcastInDim S1024x10x64 ![0, 1] bcast_S1024x10_S1024x10x64_0_1 (inTable R))
    (Host.gather gather_S100000x64_S1024x10x1_S1024x10x64_2_0_n_n_0_2_164 E R)
    (broadcastInDim S1024x10x64 ![] bcast_S_S1024x10x64 (constant S_ .f32 0x7FC00000#32))

theorem rowNums_apply (X : IVec S1024x10 32) (r : Fin 1024) (j : Fin 10) {a : ℕ} (hX : X (ix2 r j) = BitVec.ofNat 32 a) (ha : a < 100000) :
    rowNums X (ix3 r j 0) = BitVec.ofNat 32 a := by
  pointwise [rowNums]
  rw [hX, cmpi_slt_ofNat (by omega) (by decide), decide_eq_false (Nat.not_lt_zero a)]
  rfl

theorem inTable_apply (R : IVec S1024x10x1 32) (hR : ∀ r j, ∃ a < 100000, R (ix3 r j 0) = BitVec.ofNat 32 a) (i : S1024x10.Idx) :
    inTable R i = 1#1 := by
  refine Host.reduce_andi_one _ _ _ _ i rfl fun y => ?_
  obtain ⟨r, j, q, rfl⟩ : ∃ (r : Fin 1024) (j : Fin 10) (q : Fin 1), y = ix3 r j q := ⟨y 0, y 1, y 2, by funext a; fin_cases a <;> rfl⟩
  obtain rfl : q = 0 := Subsingleton.elim _ _
  obtain ⟨a, ha, e⟩ := hR r j
  show IntOp.andi (IntOp.cmpi .sge (R (ix3 r j 0)) 0#32) (IntOp.cmpi .sle (R (ix3 r j 0)) 99999#32) = 1#1
  rw [e, cmpi_sge_ofNat (by omega) (by decide), cmpi_sle_ofNat (by omega) (by decide), decide_eq_true (Nat.zero_le a),
    decide_eq_true (show a ≤ 99999 by omega)]
  decide

/-- The gather at an index: the row its word names, read signed and kept within the table. -/
theorem gather_apply {α : Type} (E : S100000x64.Idx → α) (R : IVec S1024x10x1 32) (r : Fin 1024) (j : Fin 10) (k : Fin 64) {a : ℕ}
    (hR : R (ix3 r j 0) = BitVec.ofNat 32 a) (ha : a < 100000) :
    Host.gather gather_S100000x64_S1024x10x1_S1024x10x64_2_0_n_n_0_2_164 E R (ix3 r j k) = E (ix2 ⟨a, ha⟩ k) := by
  unfold Host.gather
  refine congrArg E (funext fun q => Fin.ext ?_)
  match q with
  | ⟨0, _⟩ =>
    show GatherDims.start _ (ix3 r j k) R 0 + GatherDims.batchCoord _ (ix3 r j k) 0 + GatherDims.offCoord _ (ix3 r j k) 0 = a
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1024x10x1_S1024x10x64_2_0_n_n_0_2_164.startIndexMap from List.mem_singleton.mpr rfl)]
    rw [show gather_S100000x64_S1024x10x1_S1024x10x64_2_0_n_n_0_2_164.siIdx (ix3 r j k) ⟨List.idxOf (0 : Fin 2) gather_S100000x64_S1024x10x1_S1024x10x64_2_0_n_n_0_2_164.startIndexMap,
      List.idxOf_lt_length_iff.2 (List.mem_singleton.mpr rfl)⟩ = ix3 r j 0 from by
        funext b; refine Fin.ext ?_
        match b with
        | ⟨0, _⟩ => rfl
        | ⟨1, _⟩ => rfl
        | ⟨2, _⟩ => rfl, hR]
    show min (BitVec.ofNat 32 a).toInt.toNat (100000 - 1) = a
    rw [BitVec.toInt_eq_toNat_of_lt (by rw [BitVec.toNat_ofNat]; omega), BitVec.toNat_ofNat]
    omega
  | ⟨1, _⟩ =>
    show GatherDims.start _ (ix3 r j k) R 1 + GatherDims.batchCoord _ (ix3 r j k) 1 + GatherDims.offCoord _ (ix3 r j k) 1 = k.val
    rw [GatherDims.batchCoord_eq_zero _ _ _ List.not_mem_nil]
    unfold GatherDims.start GatherDims.offCoord
    rw [dif_neg (by decide), dif_pos (by decide)]
    simp only [Nat.add_zero, Nat.zero_add]
    rfl

/-- The reference's rows, for index words in range. -/
theorem taken_apply (E : FVec F S100000x64 .f32) (X : IVec S1024x10 32) (hX : ∀ i, (X i).toNat < 100000) (r : Fin 1024) (j : Fin 10) (k : Fin 64) :
    taken E (rowNums X) (ix3 r j k) = E (ix2 ⟨(X (ix2 r j)).toNat, hX _⟩ k) := by
  have hrow : ∀ r j, rowNums X (ix3 r j 0) = BitVec.ofNat 32 (X (ix2 r j)).toNat := fun r j =>
    rowNums_apply X r j (by rw [BitVec.ofNat_toNat, BitVec.setWidth_eq]) (hX _)
  have hin : inTable (rowNums X) = fun _ => 1#1 := funext fun i => inTable_apply _ (fun r j => ⟨_, hX _, hrow r j⟩) i
  unfold taken
  rw [hin]
  exact gather_apply E _ r j k (hrow r j) (hX _)

/-! ## The sums over any rows -/

/-- Each context's sum. -/
def total (t : FVec F S1024x10x64 .f32) : FVec F S1024x64 .f32 := Host.reduceAdd t (constant S_ .f32 0x00000000#32) reducesTo_S1024x10x64_S1024x64_d1 h_S_

theorem total_apply (t : FVec Ideal S1024x10x64 .f32) (r : Fin 1024) (k : Fin 64) : total t (ix2 r k) = ∑ j : Fin 10, t (ix3 r j k) := by
  pointwise [total]

/-! ## The gathered pairs of rows -/

open Cert.Proof.Pool (half pick sum10 sum10_apply)
open Cert.Proof.Slots (rowOf G)
open Cert.Proof.LogSoftmax (ofBits_bot)

/-- The rows the kernel pools: the gathered pairs, one context's side by side. -/
def pairs (x : IVec S1024x10 32) (E : S100000x64.Idx → EReal) : Cert.KernelIdeal.S1024x1280.Idx → EReal :=
  shapeCast Cert.KernelIdeal.S1024x1280
    (G (F := Ideal) (shapeCast Cert.KernelIdeal.S1x10240 x Cert.KernelIdeal.Gen.shapeCasts_S1024x10_S1x10240)
      (shapeCast Cert.KernelIdeal.S50000x128 E Cert.KernelIdeal.Gen.shapeCasts_S100000x64_S50000x128))
    Cert.KernelIdeal.Gen.shapeCasts_S10240x128_S1024x1280

theorem pairs_apply (x : IVec S1024x10 32) (E : S100000x64.Idx → EReal) (r : Fin 1024) (j : Fin 10) (q : ℕ) (hq : q < 128) (hc : 128 * j.val + q < 1280)
    (hx : (x (ix2 r j)).toNat < 100000) :
    pairs x E (ix2 r ⟨128 * j.val + q, hc⟩) = E (ix2 ⟨2 * ((x (ix2 r j)).toNat / 2) + q / 64, by omega⟩ ⟨q % 64, by omega⟩) := by
  pointwise [pairs, G]
  have e : ∀ h h', (ix2 ⟨(r.val * 10 + (128 * j.val + q) / 128) / 10, h⟩ ⟨(r.val * 10 + (128 * j.val + q) / 128) % 10, h'⟩ : S1024x10.Idx) = ix2 r j := fun h h' => by
    rw [show (⟨(r.val * 10 + (128 * j.val + q) / 128) / 10, h⟩ : Fin 1024) = r from Fin.ext (by show (r.val * 10 + (128 * j.val + q) / 128) / 10 = r.val; omega),
      show (⟨(r.val * 10 + (128 * j.val + q) / 128) % 10, h'⟩ : Fin 10) = j from Fin.ext (by show (r.val * 10 + (128 * j.val + q) / 128) % 10 = j.val; omega)]
  refine congrArg E (congrArg₂ ix2 (Fin.ext ?_) (Fin.ext ?_))
  · show (x _ >>> 1).toNat % 50000 * 2 + (128 * j.val + q) % 128 / 64 = 2 * ((x (ix2 r j)).toNat / 2) + q / 64
    rw [e, BitVec.toNat_ushiftRight, Nat.shiftRight_eq_div_pow]
    omega
  · show (128 * j.val + q) % 128 % 64 = q % 64
    omega

/-- The half a word's low bit picks of its pair of rows is the table's row. -/
theorem half_apply (x : IVec S1024x10 32) (E : S100000x64.Idx → EReal) (hX : ∀ i, (x i).toNat < 100000) (r : Fin 1024) (j : Fin 10) (k : Fin 64) :
    half (pairs x E) x r j k = E (ix2 ⟨(x (ix2 r j)).toNat, hX _⟩ k) := by
  have hj := j.isLt
  have hk := k.isLt
  have hx := hX (ix2 r j)
  unfold half pick
  rw [show (⟨128 * j.val + 64 + k.val, by omega⟩ : Fin 1280) = ⟨128 * j.val + (64 + k.val), by omega⟩ from Fin.ext (Nat.add_assoc ..),
    pairs_apply x E r j (64 + k.val) (by omega) (by omega) hx, pairs_apply x E r j k.val (by omega) (by omega) hx, WordCmp.cmpi_eq_eq_toNat]
  rw [show (IntOp.andi (x (ix2 r j)) 1#32).toNat = (x (ix2 r j)).toNat % 2 from (BitVec.toNat_and ..).trans (Nat.and_one_is_mod _),
    show (1#32 : BitVec 32).toNat = 1 from rfl]
  by_cases h : (x (ix2 r j)).toNat % 2 = 1
  · rw [decide_eq_true h]
    refine (show Scalar.select (BitVec.ofBool true) _ _ = _ from rfl).trans (congrArg E (congrArg₂ ix2 (Fin.ext ?_) (Fin.ext ?_)))
    · show 2 * ((x (ix2 r j)).toNat / 2) + (64 + k.val) / 64 = (x (ix2 r j)).toNat
      omega
    · show (64 + k.val) % 64 = k.val
      omega
  · rw [decide_eq_false h]
    refine (show Scalar.select (BitVec.ofBool false) _ _ = _ from rfl).trans (congrArg E (congrArg₂ ix2 (Fin.ext ?_) (Fin.ext ?_)))
    · show 2 * ((x (ix2 r j)).toNat / 2) + k.val / 64 = (x (ix2 r j)).toNat
      omega
    · show k.val % 64 = k.val
      omega

variable (x : IVec S1024x10 32) (E : FVec Ideal S100000x64 .f32) (hX : ∀ i, (x i).toNat < 100000)

include hX in
theorem sums_eq (r : Fin 1024) (k : Fin 64) : sum10 (F := Ideal) (pairs x E) x (ix2 r k) = total (taken E (rowNums x)) (ix2 r k) := by
  rw [sum10_apply, total_apply]
  exact Finset.sum_congr rfl fun j _ => (half_apply x E hX r j k).trans (taken_apply E x hX r j k).symm

/-! ## The scores and the logarithm of their softmax -/

variable (s : FVec F S1024x64 .f32) (W : FVec F S100000x64 .f32) (b : FVec F S100000 .f32)

/-- The scores: each context's sum against the weights' rows, plus the offsets. -/
def logits : FVec F S1024x100000 .f32 :=
  addf (Host.dotGeneral dot_S1024x64_S64x100000_S1024x100000_1_0_0_1_n_n none s (transpose S64x100000 [1, 0] W transposes_S100000x64_S64x100000_1_0))
    (broadcastInDim S1024x100000 ![0, 1] bcast_S1x100000_S1024x100000_0_1 (broadcastInDim S1x100000 ![1] bcast_S100000_S1x100000_1 b))

/-- Each context's greatest score. -/
def topOf (L : FVec F S1024x100000 .f32) : FVec F S1024 .f32 :=
  maximumf (broadcastInDim S1024 ![] bcast_S_S1024 (constant S_ .f32 0xFF800000#32))
    (Host.reduce FloatOps.maximumf L (constant S_ .f32 0xFF800000#32) reducesTo_S1024x100000_S1024_d1 h_S_)

/-- The scores less their context's greatest. -/
def lessTop (L : FVec F S1024x100000 .f32) : FVec F S1024x100000 .f32 :=
  subf L (broadcastInDim S1024x100000 ![0, 1] bcast_S1024x1_S1024x100000_0_1 (broadcastInDim S1024x1 ![0] bcast_S1024_S1024x1_0 (topOf L)))

def logSoftmax (L : FVec F S1024x100000 .f32) : FVec F S1024x100000 .f32 :=
  subf (lessTop L) (broadcastInDim S1024x100000 ![0, 1] bcast_S1024x1_S1024x100000_0_1 (Host.log (broadcastInDim S1024x1 ![0] bcast_S1024_S1024x1_0
    (Host.reduceAdd (Host.exp (lessTop L)) (constant S_ .f32 0x00000000#32) reducesTo_S1024x100000_S1024_d1 h_S_))))

theorem logits_apply (s : FVec Ideal S1024x64 .f32) (W : FVec Ideal S100000x64 .f32) (b : FVec Ideal S100000 .f32) (r : Fin 1024) (v : Fin 100000) :
    logits s W b (ix2 r v) = (∑ k : Fin 64, s (ix2 r k) * W (ix2 v k)) + b (ix1 v) := by
  pointwise [logits]

/-- The greatest entry of a row, from minus infinity. -/
theorem reduce_max_row {R C : ℕ} {u : Shape} (L : (⟨2, ![R, C]⟩ : Shape).Idx → EReal) (init : u.Idx → EReal) (h' : (⟨2, ![R, C]⟩ : Shape).ReducesTo [1] ⟨1, ![R]⟩)
    (h : (⟨2, ![R, C]⟩ : Shape).Reduces [1] ⟨1, ![R]⟩) (hu : 0 < u.numel) (hi : init (Shape.Idx.first hu) = ⊥) (r : Fin R) :
    Host.reduce (FloatOps.maximumf (F := Ideal) (φ := .f32)) L init h' hu (ix1 r) = Finset.univ.sup fun v : Fin C => L (ix2 r v) := by
  rw [Host.reduce_eq_fold_single _ L init h' h hu, hi]
  refine (show _ = (Finset.univ : Finset (Fin C)).sup (L ∘ h.lift (ix1 r)) from rfl).trans (Finset.sup_congr rfl fun v _ => congrArg L (funext fun a => Fin.ext ?_))
  match a with
  | ⟨0, _⟩ => rfl
  | ⟨1, _⟩ => rfl

theorem topOf_apply (L : FVec Ideal S1024x100000 .f32) (r : Fin 1024) : topOf L (ix1 r) = Finset.univ.sup fun v : Fin 100000 => L (ix2 r v) := by
  unfold topOf
  rw [maximumf_apply, reduce_max_row L _ reducesTo_S1024x100000_S1024_d1 (by decide) h_S_ ofBits_bot r]
  show max (Ideal.ofBits .f32 0xFF800000#32) _ = _
  rw [ofBits_bot, max_eq_right bot_le]

theorem lessTop_apply (L : FVec Ideal S1024x100000 .f32) (r : Fin 1024) (v : Fin 100000) : lessTop L (ix2 r v) = L (ix2 r v) - topOf L (ix1 r) := by
  pointwise [lessTop]

theorem logSoftmax_apply (L : FVec Ideal S1024x100000 .f32) (r : Fin 1024) (v : Fin 100000) :
    logSoftmax L (ix2 r v) = LogSoftmax.logSoft (fun u => L (ix2 r u)) (topOf L (ix1 r)) v := by
  unfold LogSoftmax.logSoft
  pointwise [logSoftmax, lessTop_apply]

/-- The reference's result. -/
theorem result_eq (m : (ℓ : Loc nD τ sig) → Buf (Elt F) ℓ) (c : Dev nD) : Cert.ReferenceIdeal.Value.res_out0 m c
    = logSoftmax (logits (total (taken (m ((c.tc : Thread nD τ).loc main_arg1)) (rowNums (m ((c.tc : Thread nD τ).loc main_arg0))))) (m ((c.tc : Thread nD τ).loc main_arg2))
        (m ((c.tc : Thread nD τ).loc main_arg3))) := rfl

end Cert.Proof.RefValue

end
-- ==== Proof.Arrays.lean ====
/-
  What the run leaves in the arrays between the calls, each as a function of the arguments: the weights with the biases
  as one more column, padded and masked; the rows of one context side by side; the calls' results; and the final result.
-/
module

public import proofs.«01_k».proof.Proof.Main
public import proofs.«01_k».proof.Proof.PoolBody
public import Idealize.ShloMosaic.Lib.StableHlo.Run

@[expose] public section

noncomputable section

namespace Cert.Proof.Launch

open Cert.KernelIdeal Cert.KernelIdeal.Gen
open Idealize.ShloMosaic
open Idealize.ShloMosaic.StableHlo (TRef after)
open Idealize.ShloMosaic.Pipeline (arrRef)

variable {F : FTy → Type} [FloatOps F] [Named F]

/-- The weights with the biases as one more column, rounded, and padded with zeros. -/
def padded (W : FVec F S100000x64 .f32) (b : FVec F S100000 .f32) : FVec F S102400x128 .bf16 :=
  pad S102400x128 ![0, 0] ![2400, 63] ![0, 0]
    (truncf .bf16 (concatenate S100000x65 1 [⟨S100000x64, W⟩, ⟨S100000x1, broadcastInDim S100000x1 ![0] bcast_S100000_S100000x1_0 b⟩] concatenates_S100000x64_S100000x1_S100000x65_d1) bitsLt_bf16_f32)
    (sitofp .bf16 (constantI S_ 32 0#32)) pads_S100000x65_S102400x128_024000_0630 h_S_

/-- Where the mask goes: from row 100000, in column 64. -/
def spot : IVec S2 32 :=
  concatenate S2 0 [⟨S1, broadcastInDim S1 ![] bcast_S_S1 (constantI S_ 32 100000#32)⟩, ⟨S1, broadcastInDim S1 ![] bcast_S_S1 (constantI S_ 32 64#32)⟩] concatenates_S1_S1_S2_d0

/-- The same with the mask where the padded columns' biases go. -/
def masked (W : FVec F S100000x64 .f32) (b : FVec F S100000 .f32) : FVec F S102400x128 .bf16 :=
  Host.scatter scatter_S102400x128_S2_S2400_0_1_01_0 (fun _ b => b) (padded W b) spot (k1_pay1 (F := F))

variable (m : (ℓ : Loc nD τ sig) → Buf (Elt F) ℓ) (d : Dev nD)

theorem V3_out : V3 m d o' = gs m d := Function.update_self ..

theorem Va_rows : Va m d (at' main_v3) = (shapeCast S1024x1280 (gs m d : S10240x128.Idx → Elt F .f32) shapeCasts_S10240x128_S1024x1280 : S1024x1280.Idx → Elt F .f32) := by
  have h := V3_out m d
  unfold Va
  simp only [opsA, TRef.binary, TRef.nullary, TRef.ternary, TRef.unary, TRef.toBuf, TRef.ofBuf, cast_eq]
  after_results_simp
  rw [h]
  rfl

theorem Va_padded : Va m d (at' main_v7) = (padded (F := F) (m (wLoc d)) (m (bLoc d)) : S102400x128.Idx → Elt F .bf16) := by
  have hw := V3_of_ne m d (at' main_arg2) (by decide) (by decide) (by decide)
  have hb := V3_of_ne m d (at' main_arg3) (by decide) (by decide) (by decide)
  unfold Va
  simp only [opsA, TRef.binary, TRef.nullary, TRef.ternary, TRef.unary, TRef.toBuf, TRef.ofBuf, cast_eq]
  after_results
  rw [hw, hb]
  rfl

theorem Vc_masked : Vc m d (at' main_v12) = (masked (F := F) (m (wLoc d)) (m (bLoc d)) : S102400x128.Idx → Elt F .bf16) := by
  have h7 : Vb m d (at' main_v7) = _ := (Vb_keeps m d main_v7 (by decide)).trans (Va_padded m d)
  have h8 : Vb m d (at' main_v8) = _ := Mask.after_mask (Va m) d
  unfold Vc
  simp only [opsB]
  after_results
  rw [h7, h8]
  rfl

/-- The statistics, of the masked weights. -/
theorem Ve_stats : Ve m d (at' main_v13) = (Stats.statsOf (masked (F := F) (m (wLoc d)) (m (bLoc d))) : S1x128.Idx → Elt F .f32) :=
  (Ve_keeps m d (at' main_v13) (by decide)).trans ((Stats.after_stats (Vc m) d).trans (congrArg Stats.statsOf (Vc_masked m d)))

theorem Ve_turned : Ve m d (at' main_v14)
    = (transpose S128x102400 [1, 0] (masked (F := F) (m (wLoc d)) (m (bLoc d))) transposes_S102400x128_S128x102400_1_0 : S128x102400.Idx → Elt F .bf16) := by
  have h : Vd m d (at' main_v12) = _ := (Vd_keeps m d main_v12 (by decide)).trans (Vc_masked m d)
  unfold Ve
  simp only [opsC]
  after_results_simp
  rw [h]

theorem Ve_rows : Ve m d (at' main_v3) = (shapeCast S1024x1280 (gs m d : S10240x128.Idx → Elt F .f32) shapeCasts_S10240x128_S1024x1280 : S1024x1280.Idx → Elt F .f32) :=
  (Ve_keeps m d (at' main_v3) (by decide)).trans ((Vd_keeps m d main_v3 (by decide)).trans ((Vc_keeps m d (at' main_v3) (by decide)).trans
    ((Vb_keeps m d main_v3 (by decide)).trans (Va_rows m d))))

theorem Ve_ids : Ve m d (at' main_arg0) = m (iLoc d) :=
  (Ve_keeps m d (at' main_arg0) (by decide)).trans ((Vd_keeps m d main_arg0 (by decide)).trans ((Vc_keeps m d (at' main_arg0) (by decide)).trans
    ((Vb_keeps m d main_arg0 (by decide)).trans ((Va_keeps m d (at' main_arg0) (by decide)).trans (V3_of_ne m d (at' main_arg0) (by decide) (by decide) (by decide))))))

/-- The final result: the scores of the words there are, less the logarithm. -/
theorem Vh_result : Vh m d (at' main_v20) = (subf
    (extf .f32 (extractStridedSlice S1024x100000 ![0, 0] (Vg m d (at' main_v16_0) : S1024x102400.Idx → Elt F .bf16) slices_S1024x102400_S1024x100000_0_0) bitsLt_bf16_f32)
    (broadcastInDim S1024x100000 ![0, 1] bcast_S1024x1_S1024x100000_0_1 (Vg m d (at' main_v16_1) : S1024x1.Idx → Elt F .f32)) : S1024x100000.Idx → Elt F .f32) := by
  unfold Vh
  simp only [opsD]
  after_results_simp

end Cert.Proof.Launch

end
-- ==== Proof.Masked.lean ====
/-
  The masked weights over the extended reals, at an index: the weights' rows, the bias in column 64, minus infinity there
  in the padded rows, and zero elsewhere.
-/
module

public import proofs.«01_k».proof.Proof.Arrays
public import Idealize.ShloMosaic.Lib.Pointwise
public import Idealize.ShloMosaic.Lib.IdealHost
public import Idealize.ShloMosaic.Lib.Routing.OpsOne
public import Idealize.ShloMosaic.PureOps.IdealRules

@[expose] public section

set_option maxRecDepth 16384

noncomputable section

namespace Cert.Proof.Launch

open Cert.KernelIdeal Cert.KernelIdeal.Gen
open Idealize.ShloMosaic

variable (W : FVec Ideal S100000x64 .f32) (b : FVec Ideal S100000 .f32)

theorem mask_apply (i : S2400.Idx) : k1_pay1 (F := Ideal) i = ⊥ := rfl

theorem padded_apply (v : Fin 102400) (k : Fin 128) : padded (F := Ideal) W b (ix2 v k)
    = if h : v.val < 100000 ∧ k.val < 65 then (if hk : k.val < 64 then W (ix2 ⟨v.val, h.1⟩ ⟨k.val, hk⟩) else b (ix1 ⟨v.val, h.1⟩)) else 0 := by
  pointwise [padded]
  have z : (FloatOps.sitofp .bf16 (0#32) : Ideal .bf16) = (0 : EReal) := by
    show (((0#32 : BitVec 32).toInt : ℝ) : EReal) = 0
    rw [show (0#32 : BitVec 32).toInt = 0 by decide]
    simp
  rw [z]

theorem masked_apply (v : Fin 102400) (k : Fin 128) : masked (F := Ideal) W b (ix2 v k)
    = if h : v.val < 100000 then (if hk : k.val < 64 then W (ix2 ⟨v.val, h⟩ ⟨k.val, hk⟩) else if k.val = 64 then b (ix1 ⟨v.val, h⟩) else 0)
      else if k.val = 64 then ⊥ else 0 := by
  unfold masked
  refine (Routing.scatter_column_signed scatter_S102400x128_S2_S2400_0_1_01_0 (by decide) rfl rfl rfl _ spot _ (ix2 v k)).trans ?_
  have s0 : (spot (ValueIdx.ix1 (0 : Fin 2))).toInt = 100000 := by decide
  have s1 : (spot (ValueIdx.ix1 (1 : Fin 2))).toInt = 64 := by decide
  have hv := v.isLt
  rw [s0, s1, mask_apply, padded_apply]
  show (if (64 : ℤ) = (k.val : ℤ) ∧ (100000 : ℤ) ≤ (v.val : ℤ) ∧ (v.val : ℤ) < 100000 + (2400 : ℕ) then _ else _) = _
  by_cases h : v.val < 100000
  · rw [if_neg (by omega), dif_pos h]
    by_cases hk : k.val < 65
    · rw [dif_pos ⟨h, hk⟩]
      by_cases hk' : k.val < 64
      · rw [dif_pos hk', dif_pos hk']
      · rw [dif_neg hk', dif_neg hk', if_pos (by omega)]
    · rw [dif_neg (fun q => hk q.2), dif_neg (by omega), if_neg (by omega)]
  · rw [dif_neg h, dif_neg (fun q => h q.1)]
    by_cases hk : k.val = 64
    · rw [if_pos (by omega), if_pos hk]
    · rw [if_neg (by omega), if_neg hk]

end Cert.Proof.Launch

end
-- ==== Proof.StatsValue.lean ====
/-
  The statistics over the extended reals, for a padded table whose first sixty-four columns are real: the first is real,
  and the second is the greatest entry of column 64.
-/
module

public import proofs.«01_k».proof.Proof.Stats
public import proofs.«01_k».proof.Proof.LogSoftmax
public import Idealize.ShloMosaic.Lib.Pointwise
public import Idealize.ShloMosaic.Lib.IdealHost
public import Idealize.ShloMosaic.Lib.Pipeline.ValueKit.Tiles

@[expose] public section

set_option maxRecDepth 16384

noncomputable section

namespace Cert.Proof.Stats

open Cert.KernelIdeal Cert.KernelIdeal.Gen
open Idealize.ShloMosaic
open Cert.Proof.LogSoftmax (sum_coe ofBits_bot)

/-- The greatest entry, where every kept axis has one position. -/
theorem max_total {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = Finset.univ.sup src := by
  rw [multiReduction_maximumf_eq_fold, Finset.filter_true_of_mem fun i _ => funext fun b => Fin.ext (by
    have := (h.drop i b).isLt; have := (j b).isLt; have := ht b; omega)]
  show Finset.fold max (Ideal.ofBits .f32 0xFF800000#32) src _ = _
  rw [ofBits_bot]
  rfl

/-- Lane 0 of the result holds the root of the first number, -/
theorem lane_zero (p q : EReal) : k2_pay1 (F := Ideal) p q (iota .tc S1x128 32 [1] iota_S1x128_d1_w32) (ix2 0 0) = Ideal.sqrt p := by
  pointwise [k2_pay1]
  rfl

/-- and lane 1 the second number. -/
theorem lane_one (p q : EReal) : k2_pay1 (F := Ideal) p q (iota .tc S1x128 32 [1] iota_S1x128_d1_w32) (ix2 0 1) = q := by
  pointwise [k2_pay1]
  rfl

/-! ## The first -/

/-- A real number that isn't negative. -/
def Size (x : EReal) : Prop := ∃ r : ℝ, 0 ≤ r ∧ x = (r : EReal)

theorem Size.sum {ι : Type} [Fintype ι] {f : ι → EReal} (h : ∀ i, Size (f i)) : Size (∑ i, f i) := by
  choose g h0 hg using h
  exact ⟨∑ i, g i, Finset.sum_nonneg fun i _ => h0 i, by rw [← sum_coe]; exact Finset.sum_congr rfl fun i _ => hg i⟩

theorem Size.max {a b : EReal} (ha : Size a) (hb : Size b) : Size (Scalar.maximumf (F := Ideal) (φ := .f32) a b) := by
  rw [Ideal.scalar_maximumf_def]
  rcases max_choice a b with e | e
  · rw [e]; exact ha
  · rw [e]; exact hb

theorem Size.zero : Size (Scalar.ofBits (F := Ideal) .f32 0x00000000#32) := ⟨0, le_refl _, by show Ideal.ofBits .f32 0x00000000#32 = _; simp [Ideal.ofBits, Ideal.ieee]⟩

/-- The greatest row sum of a chunk. -/
abbrev peak (v : FVec Ideal S8192x64 .f32) : EReal :=
  extractAt ![0, 0] (shapeCast S1x1 (multiReduction .maximumf [1] S1 (shapeCast S1x8192
    (multiReduction .add [1] S8192 v 0x00000000#32 reduces_S8192x64_S8192 (.inl rfl) rfl) shapeCasts_S8192_S1x8192) 0xFF800000#32 reduces_S1x8192_S1 (.inl rfl) rfl) shapeCasts_S1_S1x1)
    inpos_S1x1_p0_0

theorem peak_size (v : FVec Ideal S8192x64 .f32) (h : ∀ i, Size (v i)) : Size (peak v) := by
  have e : peak v = Finset.univ.sup (shapeCast S1x8192 (multiReduction .add [1] S8192 v 0x00000000#32 reduces_S8192x64_S8192 (.inl rfl) rfl) shapeCasts_S8192_S1x8192) :=
    max_total _ reduces_S1x8192_S1 (by decide) (.inl rfl) rfl _
  obtain ⟨i, -, hi⟩ := Finset.exists_mem_eq_sup Finset.univ ⟨(ix2 0 0 : S1x8192.Idx), Finset.mem_univ _⟩
    (shapeCast S1x8192 (multiReduction .add [1] S8192 v 0x00000000#32 reduces_S8192x64_S8192 (.inl rfl) rfl) shapeCasts_S8192_S1x8192)
  rw [e, hi]
  show Size (multiReduction .add [1] S8192 v 0x00000000#32 reduces_S8192x64_S8192 (.inl rfl) rfl _)
  exact (congrArg Size (Ideal.multiReduction_add_single v 0x00000000#32 reduces_S8192x64_S8192 (.inl rfl) rfl _)).mpr (Size.sum fun k => h _)

/-- The squares of real entries. -/
theorem square_size (x : Vec Ideal S8192x64 .bf16) (h : ∀ i, ∃ r : ℝ, x i = (r : EReal)) (i : S8192x64.Idx) : Size (k2_pay4 (F := Ideal) x i) := by
  obtain ⟨r, hr⟩ := h (Shape.reshapeEquiv shapeCasts_S8192x64_S8192x64 i)
  exact ⟨r * r, mul_self_nonneg r, (show k2_pay4 (F := Ideal) x i = x (Shape.reshapeEquiv shapeCasts_S8192x64_S8192x64 i) * x (Shape.reshapeEquiv shapeCasts_S8192x64_S8192x64 i) from rfl).trans
    (by rw [hr, EReal.coe_mul])⟩

variable (w : S102400x128.Idx → Elt Ideal .bf16)

theorem rows_apply (o : ℕ) (h) (r : Fin 8192) (k : Fin 64) (hr : o + r.val < 102400) : rows (F := Ideal) w o h (ix2 r k) = w (ix2 ⟨o + r.val, hr⟩ ⟨k.val, by omega⟩) :=
  congrArg w (funext fun a => Fin.ext (by
    match a with
    | ⟨0, _⟩ => exact Rect.idx_unit_val ..
    | ⟨1, _⟩ => exact (Rect.idx_unit_val ..).trans (Nat.zero_add _)))

theorem widen (k : Fin 64) : k.val < 128 := Nat.lt_trans k.isLt (by decide)

variable (hw : ∀ (v : Fin 102400) (k : Fin 64), ∃ r : ℝ, w (ix2 v ⟨k.val, widen k⟩) = (r : EReal))

include hw in
theorem rows_real (o : ℕ) (h) (ho : o + 8192 ≤ 102400) (i : S8192x64.Idx) : ∃ r : ℝ, rows (F := Ideal) w o h i = (r : EReal) := by
  obtain ⟨r, k, rfl⟩ : ∃ (r : Fin 8192) (k : Fin 64), i = ix2 r k := ⟨i 0, i 1, by funext a; fin_cases a <;> rfl⟩
  rw [rows_apply w o h r k (by omega)]
  exact hw _ k

include hw in
theorem top_size : Size (top12 (F := Ideal) w) := by
  have q : ∀ o h, o + 8192 ≤ 102400 → Size (peak (k2_pay4 (F := Ideal) (rows (F := Ideal) w o h))) := fun o h ho =>
    peak_size _ (square_size _ (rows_real w hw o h ho))
  have q4 : Size (top4 (F := Ideal) w) := (((Size.zero.max (q _ _ (by decide))).max (q _ _ (by decide))).max (q _ _ (by decide))).max (q _ _ (by decide))
  have q8 : Size (top8 (F := Ideal) w) := (((q4.max (q _ _ (by decide))).max (q _ _ (by decide))).max (q _ _ (by decide))).max (q _ _ (by decide))
  exact (((q8.max (q _ _ (by decide))).max (q _ _ (by decide))).max (q _ _ (by decide))).max (q _ _ (by decide))

include hw in
/-- The first statistic is real. -/
theorem first_real : ∃ q : ℝ, statsOf (F := Ideal) w (ix2 0 0) = (q : EReal) := by
  obtain ⟨r, h0, hr⟩ := top_size w hw
  refine ⟨Real.sqrt r, (lane_zero (top12 (F := Ideal) w) _).trans ?_⟩
  rw [hr, Ideal.sqrt_coe, if_neg (not_lt.2 h0)]

/-! ## The second -/

theorem biases_apply (v : Fin 102400) : biases (F := Ideal) w (ix2 v 0) = w (ix2 v 64) :=
  congrArg w (funext fun a => Fin.ext (by
    match a with
    | ⟨0, _⟩ => exact (Rect.idx_unit_val ..).trans (Nat.zero_add _)
    | ⟨1, _⟩ => exact Rect.idx_unit_val ..))

/-- A column as the reduction reads it. -/
abbrev column (x : Vec Ideal S102400x1 .bf16) : FVec Ideal S1x102400x1 .f32 :=
  shapeCast S1x102400x1 (extf .f32 (shapeCast S102400x1 x shapeCasts_S102400x1_S102400x1) bitsLt_bf16_f32) shapeCasts_S102400x1_S1x102400x1

theorem column_apply (x : Vec Ideal S102400x1 .bf16) (a : Fin 1) (v : Fin 102400) (c : Fin 1) : column x (ix3 a v c) = x (ix2 v 0) := by
  pointwise

theorem only_entry (y : FVec Ideal S1 .f32) : extractAt ![0, 0, 0] (shapeCast S1x1x1 y shapeCasts_S1_S1x1x1) inpos_S1x1x1_p0_0_0 = y (ix1 0) := by
  pointwise

theorem greatest (x : Vec Ideal S102400x1 .bf16) : k2_pay6 (F := Ideal) x = Finset.univ.sup (column x) :=
  (only_entry (multiReduction .maximumf [1, 2] S1 (column x) 0xFF800000#32 reduces_S1x102400x1_S1 (.inl rfl) rfl)).trans
    (max_total (column x) reduces_S1x102400x1_S1 (by decide) (.inl rfl) rfl (ix1 0))

theorem second_eq : statsOf (F := Ideal) w (ix2 0 1) = Finset.univ.sup (column (biases w)) :=
  (lane_one _ _).trans (greatest _)

/-- The second statistic is one of column 64's entries, -/
theorem second_mem : ∃ v : Fin 102400, statsOf (F := Ideal) w (ix2 0 1) = w (ix2 v 64) := by
  obtain ⟨i, -, hi⟩ := Finset.exists_mem_eq_sup Finset.univ ⟨(ix3 0 0 0 : S1x102400x1.Idx), Finset.mem_univ _⟩ (column (biases w))
  obtain ⟨a, v, c, rfl⟩ : ∃ (a : Fin 1) (v : Fin 102400) (c : Fin 1), i = ix3 a v c := ⟨i 0, i 1, i 2, by funext a; fin_cases a <;> rfl⟩
  exact ⟨v, (second_eq w).trans (hi.trans ((column_apply _ a v c).trans (biases_apply w v)))⟩

/-- and none is greater. -/
theorem second_le (v : Fin 102400) : w (ix2 v 64) ≤ statsOf (F := Ideal) w (ix2 0 1) := by
  rw [second_eq, ← biases_apply w v, ← column_apply (biases w) 0 v 0]
  exact Finset.le_sup (f := column (biases w)) (Finset.mem_univ _)

end Cert.Proof.Stats

end
-- ==== Proof.ScoresValue.lean ====
/-
  The scores call over the extended reals: a score is a row of the sums against a column of the weights less the row's
  bound, and the logarithm is of the sum of the exponentials of a row's scores.
-/
module

public import proofs.«01_k».proof.Proof.Scores
public import proofs.«01_k».proof.Proof.LogSoftmax
public import Idealize.ShloMosaic.Lib.Pointwise
public import Idealize.ShloMosaic.Lib.IdealHost
public import Idealize.ShloMosaic.Lib.Pipeline.ValueKit.Tiles

@[expose] public section

set_option maxRecDepth 16384

noncomputable section

namespace Cert.Proof.Scores

open Cert.KernelIdeal Cert.KernelIdeal.Gen
open Idealize.ShloMosaic
open Idealize.ShloMosaic.Pipeline (afterRegion)
open Cert.Proof.LogSoftmax (exp2_mul)

/-! ## Sums in parts -/

/-- A sum over blocks of equal length. -/
theorem sum_blocks (a b N : ℕ) (hN : N = a * b) (f : Fin N → EReal) (h : ∀ (i : Fin a) (j : Fin b), i.val * b + j.val < N) :
    ∑ v, f v = ∑ i : Fin a, ∑ j : Fin b, f ⟨i.val * b + j.val, h i j⟩ := by
  subst hN
  rw [← finProdFinEquiv.sum_comp, Fintype.sum_prod_type]
  refine Finset.sum_congr rfl fun i _ => Finset.sum_congr rfl fun j _ => congrArg f (Fin.ext ?_)
  show j.val + b * i.val = i.val * b + j.val
  rw [Nat.mul_comm, Nat.add_comm]

/-- A sum over blocks of rows, by column. -/
theorem sum_columns (a b l B N : ℕ) (hN : N = a * B) (hB : B = b * l) (f : Fin N → EReal) (h : ∀ (i : Fin a) (k : Fin b) (j : Fin l), i.val * B + (k.val * l + j.val) < N) :
    ∑ j : Fin l, ∑ i : Fin a, ∑ k : Fin b, f ⟨i.val * B + (k.val * l + j.val), h i k j⟩ = ∑ v, f v := by
  have hB' : ∀ (k : Fin b) (j : Fin l), k.val * l + j.val < B := fun k j => by
    rw [hB]
    calc k.val * l + j.val < k.val * l + l := Nat.add_lt_add_left j.isLt _
      _ = (k.val + 1) * l := (Nat.succ_mul ..).symm
      _ ≤ b * l := Nat.mul_le_mul_right _ k.isLt
  have hN' : ∀ (i : Fin a) (q : Fin B), i.val * B + q.val < N := fun i q => by
    rw [hN]
    calc i.val * B + q.val < i.val * B + B := Nat.add_lt_add_left q.isLt _
      _ = (i.val + 1) * B := (Nat.succ_mul ..).symm
      _ ≤ a * B := Nat.mul_le_mul_right _ i.isLt
  rw [sum_blocks a B N hN f hN', Finset.sum_comm]
  refine Finset.sum_congr rfl fun i _ => ?_
  rw [sum_blocks b l B hB _ hB', Finset.sum_comm]

/-- A sum whose last terms are zero. -/
theorem sum_short (a c N : ℕ) (hN : N = a + c) (f : Fin N → EReal) (hf : ∀ v, a ≤ v.val → f v = 0) (h : a ≤ N) :
    ∑ v, f v = ∑ v : Fin a, f ⟨v.val, Nat.lt_of_lt_of_le v.isLt h⟩ := by
  subst hN
  rw [Fin.sum_univ_add, Finset.sum_eq_zero (s := Finset.univ) (f := fun i => f (Fin.natAdd a i)) fun i _ => hf _ (Nat.le_add_right ..), add_zero]
  rfl

/-! ## One block -/

theorem pay4_apply (x0 : Vec Ideal S1024x128 .bf16) (x2 : Vec Ideal S128x4096 .bf16) (x1 : Vec Ideal S1024x1 .f32) (r : Fin 1024) (q : Fin 4096) :
    k4_pay4 (F := Ideal) x0 x2 x1 (ix2 r q) = (∑ j : Fin 128, x0 (ix2 r j) * x2 (ix2 j q)) - x1 (ix2 r 0) := by
  pointwise [k4_pay4]

theorem pay6_apply (x0 : Vec Ideal S1024x128 .bf16) (x2 : Vec Ideal S128x4096 .bf16) (x1 : Vec Ideal S1024x1 .f32) (i : S1024x4096.Idx) :
    k4_pay6 (F := Ideal) x0 x2 x1 i = Ideal.exp (k4_pay4 (F := Ideal) x0 x2 x1 i) :=
  exp2_mul _

/-- The slices of one block, added to the running sums. -/
theorem slices_apply (e : FVec Ideal S1024x4096 .f32) (x0 : Vec Ideal S1024x128 .bf16) (x2 : Vec Ideal S128x4096 .bf16) (x1 : Vec Ideal S1024x1 .f32)
    (he : k4_pay6 (F := Ideal) x0 x2 x1 = e) (acc : Vec Ideal S1024x128 .f32) (r : Fin 1024) (l : Fin 128) :
    k4_pay1 (F := Ideal) e (k4_pay7 x0 x2 x1) (k4_pay8 x0 x2 x1) acc (ix2 r l)
      = acc (ix2 r l) + ∑ k : Fin 32, e (ix2 r ⟨k.val * 128 + l.val, by omega⟩) := by
  pointwise [k4_pay1, k4_pay7, k4_pay8]
  simp only [he, Fin.sum_univ_castSucc, Fin.sum_univ_zero, zero_add, Fin.val_castSucc, Fin.val_last, Nat.reduceMul, Nat.zero_add, Nat.reduceAdd]

theorem pay3_apply (i : S1024x128.Idx) : k4_pay3 (F := Ideal) i = 0 := by
  show Ideal.ofBits .f32 0x00000000#32 = 0
  simp [Ideal.ofBits, Ideal.ieee]

theorem pay2_apply (acc : Vec Ideal S1024x128 .f32) (r : Fin 1024) : k4_pay2 (F := Ideal) acc (ix2 r 0) = Ideal.log (∑ l : Fin 128, acc (ix2 r l)) := by
  pointwise [k4_pay2]

/-! ## All blocks -/

variable (V : Dev nD → Valuation τ sig (Elt Ideal)) (c : Dev nD)

/-- The score of context `r` and word `v`. -/
def score (x0 : S1024x128.Idx → EReal) (x1 : S1024x1.Idx → EReal) (w : S128x102400.Idx → EReal) (r : Fin 1024) (v : Fin 102400) : EReal :=
  (∑ j : Fin 128, x0 (ix2 r j) * w (ix2 j v)) - x1 (ix2 r 0)

/-- The same of the arrays the call reads. -/
abbrev scoreAt (r : Fin 1024) (v : Fin 102400) : EReal := score (V c (Proc.devRef .tc main_v15_0)) (V c (Proc.devRef .tc main_v15_1)) (V c (Proc.devRef .tc main_v14)) r v

theorem block_apply (t : Fin cfg4.N) (r : Fin 1024) (q : Fin 4096) :
    k4_pay4 (F := Ideal) (stg0 V c t) (stg2 V c t) (stg1 V c t) (ix2 r q) = scoreAt V c r (col t q) := by
  rw [pay4_apply, stg0_eq, stg1_eq]
  unfold scoreAt score
  simp only [stg2_apply]

theorem acc_apply (r : Fin 1024) (l : Fin 128) (n : ℕ) (hn : n ≤ 25) : accAfter V c n (ix2 r l)
    = ∑ i : Fin n, ∑ k : Fin 32, Ideal.exp (scoreAt V c r ⟨i.val * 4096 + (k.val * 128 + l.val), by omega⟩) := by
  induction n with
  | zero => exact pay3_apply _
  | succ n ih =>
    have hN : n < cfg4.N := Nat.lt_of_lt_of_eq (show n < 25 by omega) N_4.symm
    rw [accAfter, dif_pos hN, Fin.sum_univ_castSucc]
    unfold next
    rw [slices_apply _ _ _ _ rfl]
    congr 1
    · by_cases h0 : n = 0
      · subst h0
        rw [if_pos ((isFirst_iff ⟨0, hN⟩).mpr rfl)]
        exact pay3_apply _
      · rw [if_neg fun h => h0 ((isFirst_iff ⟨n, hN⟩).mp h)]
        exact ih (by omega)
    · refine Finset.sum_congr rfl fun k _ => ?_
      rw [pay6_apply, block_apply]
      rfl

/-- The scores the call leaves. -/
theorem scores_apply (r : Fin 1024) (v : Fin 102400) :
    (afterRegion (dat V c) (V c) (Proc.devRef .tc main_v16_0) : S1024x102400.Idx → EReal) (ix2 r v) = scoreAt V c r v := by
  rw [after_scores]
  show k4_pay4 (F := Ideal) (stg0 V c (blockOf v)) (stg2 V c (blockOf v)) (stg1 V c (blockOf v)) (ix2 r (placeOf v)) = _
  rw [block_apply]
  refine congrArg (scoreAt V c r) (Fin.ext ?_)
  show v.val / 4096 * 4096 + v.val % 4096 = v.val
  omega

/-- The logarithm it leaves is of the sum of the exponentials of all of them. -/
theorem log_apply (r : Fin 1024) :
    (afterRegion (dat V c) (V c) (Proc.devRef .tc main_v16_1) : S1024x1.Idx → EReal) (ix2 r 0) = Ideal.log (∑ v : Fin 102400, Ideal.exp (scoreAt V c r v)) := by
  rw [after_log, pay2_apply]
  exact congrArg Ideal.log ((Finset.sum_congr rfl fun l _ => acc_apply V c r l 25 (le_refl _)).trans
    (sum_columns 25 32 128 4096 102400 (by norm_num) (by norm_num) (fun v => Ideal.exp (scoreAt V c r v)) fun i k j => by omega))

end Cert.Proof.Scores

end
-- ==== Proof.Final.lean ====
/-
  The result over the extended reals, at an index: the logarithm of the softmax of the scores of the context, at the
  reference's shift.
-/
module

public import proofs.«01_k».proof.Proof.Arrays
public import proofs.«01_k».proof.Proof.Masked
public import proofs.«01_k».proof.Proof.StatsValue
public import proofs.«01_k».proof.Proof.ScoresValue
public import proofs.«01_k».proof.Proof.Pooled
public import proofs.«01_k».proof.Proof.Value

@[expose] public section

noncomputable section

namespace Cert.Proof.Launch

open Cert.KernelIdeal Cert.KernelIdeal.Gen
open Idealize.ShloMosaic
open Cert.Proof.LogSoftmax (logSoft sum_coe)
open Cert.Proof.RefValue (total taken rowNums total_apply taken_apply sums_eq pairs logits logits_apply topOf topOf_apply logSoftmax logSoftmax_apply)
open Cert.Proof.Scores (score scoreAt sum_short)

/-- The sum of a padded row of sums against a padded row of weights. -/
theorem sum_parts (f : Fin 128 → EReal) (g : Fin 64 → EReal) (z : EReal) (hg : ∀ k : Fin 64, f ⟨k.val, by omega⟩ = g k) (hz : f 64 = z)
    (h0 : ∀ k : Fin 128, 64 < k.val → f k = 0) : ∑ k, f k = (∑ k, g k) + z := by
  rw [Fin.sum_univ_add (a := 64) (b := 64) f]
  refine congrArg₂ (· + ·) (Finset.sum_congr rfl fun k _ => hg k) ?_
  rw [Finset.sum_eq_single (0 : Fin 64)]
  · exact hz
  · intro k _ hk
    exact h0 _ (by
      have : k.val ≠ 0 := fun h => hk (Fin.ext h)
      show 64 < 64 + k.val
      omega)
  · exact fun h => absurd (Finset.mem_univ _) h

variable (m : (ℓ : Loc nD τ sig) → Buf (Elt Ideal) ℓ) (d : Dev nD)

/-- The arguments, as arrays. -/
abbrev ids : IVec S1024x10 32 := m (iLoc d)
abbrev table : FVec Ideal S100000x64 .f32 := m (tLoc d)
abbrev weights : FVec Ideal S100000x64 .f32 := m (wLoc d)
abbrev offsets : FVec Ideal S100000 .f32 := m (bLoc d)

/-- The sums of the contexts' rows. -/
abbrev sumAt (r : Fin 1024) (k : Fin 64) : EReal := total (taken (table m d) (rowNums (ids m d))) (ix2 r k)

/-- The bound the kernel subtracts. -/
def shift (r : Fin 1024) : EReal :=
  Ideal.sqrt (∑ k : Fin 64, sumAt m d r k * sumAt m d r k) * Stats.statsOf (F := Ideal) (masked (weights m d) (offsets m d)) (ix2 0 0)
    + Stats.statsOf (F := Ideal) (masked (weights m d) (offsets m d)) (ix2 0 1)

variable (hX : ∀ j, (ids m d j).toNat < 100000)

theorem rows_pairs : Pool.rowsAt (Ve m) d = pairs (ids m d) (table m d) := Ve_rows m d

include hX in
theorem aug_at (r : Fin 1024) (c : Fin 128) : (Vf m d (at' main_v15_0) : S1024x128.Idx → EReal) (ix2 r c)
    = if h : c.val < 64 then sumAt m d r ⟨c.val, h⟩ else if c.val = 64 then 1 else 0 := by
  refine (congrFun (Pool.after_aug (Ve m) d) (ix2 r c)).trans ?_
  rw [rows_pairs, show Pool.idsAt (Ve m) d = ids m d from Ve_ids m d, Pool.augOf_apply]
  by_cases h : c.val < 64
  · rw [dif_pos h, dif_pos h]
    exact sums_eq (ids m d) (table m d) hX r ⟨c.val, h⟩
  · rw [dif_neg h, dif_neg h]

include hX in
theorem bound_at (r : Fin 1024) : (Vf m d (at' main_v15_1) : S1024x1.Idx → EReal) (ix2 r 0) = shift m d r := by
  refine (congrFun (Pool.after_bound (Ve m) d) (ix2 r 0)).trans ?_
  rw [rows_pairs, show Pool.idsAt (Ve m) d = ids m d from Ve_ids m d, show Pool.stAt (Ve m) d = _ from Ve_stats m d, Pool.boundOf_apply]
  unfold shift
  simp only [sums_eq (ids m d) (table m d) hX]

theorem turned_at (v : Fin 102400) (k : Fin 128) : (Vf m d (at' main_v14) : S128x102400.Idx → EReal) (ix2 k v) = masked (F := Ideal) (weights m d) (offsets m d) (ix2 v k) := by
  refine (congrFun ((Vf_keeps m d main_v14 (by decide)).trans (Ve_turned m d)) (ix2 k v)).trans ?_
  generalize masked (F := Ideal) (weights m d) (offsets m d) = w
  pointwise

/-- The reference's score. -/
abbrev scoreOf (r : Fin 1024) (v : Fin 100000) : EReal := (∑ k : Fin 64, sumAt m d r k * weights m d (ix2 v k)) + offsets m d (ix1 v)

include hX in
/-- The kernel's score: the reference's less the bound, and minus infinity for a word there isn't. -/
theorem score_at (r : Fin 1024) (v : Fin 102400) : scoreAt (Vf m) d r v
    = (if h : v.val < 100000 then scoreOf m d r ⟨v.val, h⟩ else ⊥) - shift m d r := by
  unfold scoreAt score
  rw [show (Vf m d (Proc.devRef .tc main_v15_1) : S1024x1.Idx → EReal) (ix2 r 0) = _ from bound_at m d hX r]
  refine congrArg (· - shift m d r) ?_
  refine (Finset.sum_congr rfl fun j _ => congrArg₂ (fun a b : EReal => a * b) (aug_at m d hX r j) (turned_at m d v j)).trans ?_
  by_cases h : v.val < 100000
  · rw [dif_pos h]
    refine sum_parts _ _ _ (fun k => ?_) ?_ fun k hk => ?_
    · rw [dif_pos k.isLt, masked_apply, dif_pos h, dif_pos k.isLt]
    · rw [dif_neg (by decide), if_pos (by decide), masked_apply, dif_pos h, dif_neg (by decide), if_pos (by decide), one_mul]
    · rw [dif_neg (by omega), if_neg (by omega), zero_mul]
  · rw [dif_neg h]
    refine (sum_parts _ (fun _ => 0) ⊥ (fun k => ?_) ?_ fun k hk => ?_).trans (EReal.add_bot _)
    · have hk : k.val < 64 ∧ ¬k.val = 64 := ⟨k.isLt, by omega⟩
      rw [dif_pos hk.1, masked_apply, dif_neg h, if_neg hk.2]
      exact mul_zero _
    · rw [dif_neg (by decide), if_pos (by decide), masked_apply, dif_neg h, if_pos (by decide), one_mul]
    · rw [dif_neg (by omega), if_neg (by omega), zero_mul]

include hX in
/-- The result is the scores less the bound, less the logarithm of the sum of their exponentials. -/
theorem result_at (r : Fin 1024) (v : Fin 100000) : (Vh m d (at' main_v20) : S1024x100000.Idx → EReal) (ix2 r v)
    = logSoft (fun u => scoreOf m d r u) (shift m d r) v := by
  have hl : (Vg m d (at' main_v16_1) : S1024x1.Idx → EReal) (ix2 r 0) = Ideal.log (∑ u : Fin 100000, Ideal.exp (scoreOf m d r u - shift m d r)) := by
    refine (Scores.log_apply (Vf m) d r).trans (congrArg Ideal.log ?_)
    refine (sum_short 100000 2400 102400 (by norm_num) _ (fun u hu => ?_) (by norm_num)).trans (Finset.sum_congr rfl fun u _ => ?_)
    · rw [score_at m d hX, dif_neg (Nat.not_lt.2 hu), EReal.bot_sub]
      rfl
    · rw [score_at m d hX, dif_pos u.isLt]
  have hs : (Vg m d (at' main_v16_0) : S1024x102400.Idx → EReal) (ix2 r ⟨v.val, by omega⟩) = scoreOf m d r v - shift m d r := by
    refine (Scores.scores_apply (Vf m) d r _).trans ?_
    rw [score_at m d hX, dif_pos v.isLt]
  refine (congrFun (Vh_result m d) (ix2 r v)).trans ?_
  unfold logSoft
  rw [← hl, ← hs]
  generalize (Vg m d (at' main_v16_1) : S1024x1.Idx → EReal) = p
  generalize (Vg m d (at' main_v16_0) : S1024x102400.Idx → EReal) = q
  pointwise

variable (hE : ∀ j, ∃ x : ℝ, table m d j = (x : EReal)) (hW : ∀ j, ∃ x : ℝ, weights m d j = (x : EReal))

include hX hE in
theorem sum_real (r : Fin 1024) (k : Fin 64) : ∃ x : ℝ, sumAt m d r k = (x : EReal) := by
  choose e he using hE
  unfold sumAt
  rw [total_apply]
  simp only [taken_apply _ _ hX, he, sum_coe]
  exact ⟨_, rfl⟩

include hX hE hW in
theorem dot_real (r : Fin 1024) (v : Fin 100000) : ∃ x : ℝ, ∑ k : Fin 64, sumAt m d r k * weights m d (ix2 v k) = (x : EReal) := by
  choose s hs using sum_real m d hX hE
  choose w hw using hW
  simp only [hs, hw, ← EReal.coe_mul, sum_coe]
  exact ⟨_, rfl⟩

include hW in
theorem masked_real (v : Fin 102400) (k : Fin 64) : ∃ x : ℝ, masked (F := Ideal) (weights m d) (offsets m d) (ix2 v ⟨k.val, Stats.widen k⟩) = (x : EReal) := by
  rw [masked_apply]
  by_cases h : v.val < 100000
  · rw [dif_pos h, dif_pos k.isLt]
    exact hW _
  · rw [dif_neg h, if_neg (show ¬k.val = 64 by omega)]
    exact ⟨0, rfl⟩

include hX hE hW in
/-- The bound is a real number plus the second statistic. -/
theorem shift_real (r : Fin 1024) : ∃ q : ℝ, shift m d r = (q : EReal) + Stats.statsOf (F := Ideal) (masked (weights m d) (offsets m d)) (ix2 0 1) := by
  choose s hs using sum_real m d hX hE
  obtain ⟨q, hq⟩ := Stats.first_real (masked (F := Ideal) (weights m d) (offsets m d)) (masked_real m d hW)
  unfold shift
  simp only [hq, hs, ← EReal.coe_mul, sum_coe]
  rw [Ideal.sqrt_coe, if_neg (not_lt.2 (Finset.sum_nonneg fun k _ => mul_self_nonneg _)), ← EReal.coe_mul]
  exact ⟨_, rfl⟩

theorem column_at (v : Fin 102400) : masked (F := Ideal) (weights m d) (offsets m d) (ix2 v 64) = if h : v.val < 100000 then offsets m d (ix1 ⟨v.val, h⟩) else ⊥ := by
  rw [masked_apply]
  by_cases h : v.val < 100000
  · rw [dif_pos h, dif_pos h, dif_neg (by decide), if_pos (by decide)]
  · rw [dif_neg h, dif_neg h, if_pos (by decide)]

/-- No offset is greater than the second statistic, -/
theorem offset_le (u : Fin 100000) : offsets m d (ix1 u) ≤ Stats.statsOf (F := Ideal) (masked (weights m d) (offsets m d)) (ix2 0 1) := by
  have h := Stats.second_le (masked (F := Ideal) (weights m d) (offsets m d)) ⟨u.val, by omega⟩
  rwa [column_at, dif_pos u.isLt] at h

/-- and one equals it. -/
theorem offset_eq : ∃ u : Fin 100000, Stats.statsOf (F := Ideal) (masked (weights m d) (offsets m d)) (ix2 0 1) = offsets m d (ix1 u) := by
  obtain ⟨v, hv⟩ := Stats.second_mem (masked (F := Ideal) (weights m d) (offsets m d))
  rw [column_at] at hv
  by_cases h : v.val < 100000
  · rw [dif_pos h] at hv
    exact ⟨_, hv⟩
  · rw [dif_neg h] at hv
    have h0 := offset_le m d ⟨0, by norm_num⟩
    rw [hv, le_bot_iff] at h0
    exact ⟨_, hv.trans h0.symm⟩

include hX hE hW in
/-- The result is the reference's. -/
theorem result_same : (Vh m d (at' main_v20) : S1024x100000.Idx → EReal)
    = logSoftmax (logits (total (taken (table m d) (rowNums (ids m d)))) (weights m d) (offsets m d)) := by
  funext i
  obtain ⟨r, v, rfl⟩ : ∃ (r : Fin 1024) (v : Fin 100000), i = ix2 r v := ⟨i 0, i 1, by funext a; fin_cases a <;> rfl⟩
  rw [result_at m d hX, logSoftmax_apply, topOf_apply]
  simp only [logits_apply]
  obtain ⟨q, hq⟩ := shift_real m d hX hE hW r
  choose t ht using dot_real m d hX hE hW r
  have hf : (fun u => scoreOf m d r u) = fun u => (t u : EReal) + offsets m d (ix1 u) := funext fun u => congrArg (· + offsets m d (ix1 u)) (ht u)
  have hM := Finset.exists_mem_eq_sup (Finset.univ : Finset (Fin 100000)) ⟨⟨0, by norm_num⟩, Finset.mem_univ _⟩ fun u => (t u : EReal) + offsets m d (ix1 u)
  obtain ⟨u, -, hu⟩ := hM
  rw [hq]
  show logSoft (fun u => scoreOf m d r u) _ v = logSoft (fun u => scoreOf m d r u) (Finset.univ.sup fun u => scoreOf m d r u) v
  rw [hf]
  exact LogSoftmax.logSoft_same t _ q _ _ (offset_eq m d) (offset_le m d) ⟨u, hu⟩
    (fun u => Finset.le_sup (f := fun u => (t u : EReal) + offsets m d (ix1 u)) (Finset.mem_univ u)) v

end Cert.Proof.Launch

end
-- ==== Proof.Pre.lean ====
/-
  What the preconditions say of an index word, and of the table's and the weights' entries over the extended reals.
-/
module

public import proofs.«01_k».proof.Proof.Gen.Pre_pre
public import proofs.«01_k».proof.Proof.Gen.Pre_in_table
public import Idealize.ShloMosaic.Lib.ReduceAll
public import Idealize.ShloMosaic.Lib.WordCmp
public import Idealize.ShloMosaic.PureOps.Ideal

@[expose] public section

noncomputable section

namespace Cert.Proof.Pre

open Cert.Pre_pre Cert.Pre_pre.Gen Idealize.ShloMosaic

/-- The signed range `0 ≤ w < 100000` of a word bounds its natural. -/
theorem toNat_lt (w : BitVec 32) (h : IntOp.andi (IntOp.cmpi .sge w 0#32) (IntOp.cmpi .slt w 100000#32) = 1#1) : w.toNat < 100000 := by
  have bits : ∀ p q : Bool, IntOp.andi (BitVec.ofBool p) (BitVec.ofBool q) = 1#1 → p = true ∧ q = true := by decide
  obtain ⟨h0, h1⟩ := bits _ _ (show IntOp.andi (BitVec.ofBool (decide ((0#32).toInt ≤ w.toInt))) (BitVec.ofBool (decide (w.toInt < (100000#32).toInt))) = 1#1 from h)
  have h0 := of_decide_eq_true h0
  have h1 := of_decide_eq_true h1
  rw [show (0#32 : BitVec 32).toInt = 0 by decide, BitVec.toInt_eq_toNat_cond] at h0
  rw [show (100000#32 : BitVec 32).toInt = 100000 by decide, BitVec.toInt_eq_toNat_cond] at h1
  split at h0 <;> omega

theorem one_of_andi : ∀ a b : BitVec 1, IntOp.andi a b = 1#1 → a = 1#1 ∧ b = 1#1 := by decide

variable {F : FTy → Type} [FloatOps F] (x : IVec S1024x10 32) (e w : FVec F S100000x64 .f32) (b : FVec F S100000 .f32) (h : fn x e w b = fun _ => 1#1)

include h in
/-- The precondition of the value claim contains the frames'. -/
theorem table_of : Cert.Pre_in_table.fn x e w b = fun _ => 1#1 :=
  funext fun i => (one_of_andi _ _ (one_of_andi _ _ (congrFun h i)).1).1

theorem in_table (ht : Cert.Pre_in_table.fn x e w b = fun _ => 1#1) (j : S1024x10.Idx) : (x j).toNat < 100000 :=
  haveI : Subsingleton S_.Idx := ⟨fun a b => funext fun i => i.elim0⟩
  toNat_lt _ (Host.reduce_andi_all _ _ _ _ (fun i => i.elim0) (congrFun ht fun i => i.elim0) j)

include h in
theorem in_range (j : S1024x10.Idx) : (x j).toNat < 100000 := in_table x e w b (table_of x e w b h) j

/-- A number whose absolute value is less than plus infinity is real. -/
theorem real_of_abs (a : EReal) (h : Ideal.cmp .olt (max a (-a)) (Ideal.ofBits .f32 0x7F800000#32) = 1#1) : ∃ r : ℝ, a = (r : EReal) := by
  have bit : ∀ p : Bool, BitVec.ofBool p = 1#1 → p = true := by decide
  have top : Ideal.ofBits .f32 0x7F800000#32 = ⊤ := by simp [Ideal.ofBits, Ideal.ieee]
  have hlt : max a (-a) < ⊤ := by
    have := of_decide_eq_true (bit _ h)
    rwa [top] at this
  refine ⟨a.toReal, (EReal.coe_toReal (fun ha => ?_) fun ha => ?_).symm⟩
  · rw [ha] at hlt
    exact absurd (lt_of_le_of_lt (le_max_left _ _) hlt) (lt_irrefl _)
  · rw [ha, EReal.neg_bot] at hlt
    exact absurd (lt_of_le_of_lt (le_max_right _ _) hlt) (lt_irrefl _)

variable (e' w' : FVec Ideal S100000x64 .f32) (b' : FVec Ideal S100000 .f32) (h' : fn x e' w' b' = fun _ => 1#1)

include h' in
/-- The table's entries are real, -/
theorem table_real (j : S100000x64.Idx) : ∃ r : ℝ, e' j = (r : EReal) :=
  haveI : Subsingleton S_.Idx := ⟨fun a b => funext fun i => i.elim0⟩
  real_of_abs _ (Host.reduce_andi_all _ _ _ _ (fun i => i.elim0) (one_of_andi _ _ (one_of_andi _ _ (congrFun h' fun i => i.elim0)).1).2 j)

include h' in
/-- and so are the weights. -/
theorem weights_real (j : S100000x64.Idx) : ∃ r : ℝ, w' j = (r : EReal) :=
  haveI : Subsingleton S_.Idx := ⟨fun a b => funext fun i => i.elim0⟩
  real_of_abs _ (Host.reduce_andi_all _ _ _ _ (fun i => i.elim0) (one_of_andi _ _ (congrFun h' fun i => i.elim0)).2 j)

end Cert.Proof.Pre

end
-- ==== Proof.Same.lean ====
/-
  Away from the extended reals a named constant is what its pattern denotes. With that reading the kernel's idealised
  text has the same bodies as the kernel's: what is run of the one is run of the other.
-/
module

public import proofs.«01_k».proof.Proof.Gen.Kernel
public import proofs.«01_k».proof.Proof.Gen.KernelIdeal

@[expose] public section

open Idealize.ShloMosaic

namespace Cert.Proof

variable {F : FTy → Type} [FloatOps F]

/-- A named constant read as its pattern. -/
@[reducible] def patterns : Named F where
  named := fun _ _ {φ} b => FloatOps.ofBits φ b

set_option maxHeartbeats 4000000 in
/-- The two tables of bodies agree, label by label on each kind of processor. -/
theorem bodies_same : (Cert.Kernel.defs₀ (F := F)) = letI := patterns (F := F); Cert.KernelIdeal.defs₀ (F := F) := by
  funext p l a
  match p, l, a with
  | .scVector _ _, 0, _ => rfl
  | .scVector _ _, 1, _ => rfl
  | .scVector _ _, 2, _ => rfl
  | .scVector _ _, 3, _ => rfl
  | .scVector _ _, 4, _ => rfl
  | .tc, 0, _ => rfl
  | .tc, 1, (_, _) => rfl
  | .tc, 2, (_, _) => rfl
  | .tc, 3, (_, _) => rfl
  | .tc, 4, (_, _) => rfl
  | .scScalar _, 0, _ => rfl
  | .scScalar _, 1, _ => rfl
  | .scScalar _, 2, _ => rfl
  | .scScalar _, 3, _ => rfl
  | .scScalar _, 4, _ => rfl

/-- So do the tables with the calls' own labels added. -/
theorem defs_same : (Cert.Kernel.defs (F := F)) = letI := patterns (F := F); Cert.KernelIdeal.defs (F := F) :=
  congrArg (fun d => Cert.KernelIdeal.sc.defs (Pipeline.defs Cert.KernelIdeal.pcfgs d)) bodies_same

end Cert.Proof
-- ==== Proof.lean ====
/-
  The claims about the whole program, from the kernel's run (Proof/Main.lean), the result over the extended reals
  (Proof/Final.lean), and the reference's value (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Gen.Pre_in_table
public import proofs.«01_k».proof.Proof.Main
public import proofs.«01_k».proof.Proof.Value
public import proofs.«01_k».proof.Proof.Final
public import proofs.«01_k».proof.Proof.Pre
public import proofs.«01_k».proof.Proof.Same

@[expose] public section

noncomputable section

namespace Cert.Proof

open Idealize.ShloMosaic Idealize.SL.Sem
open Cert.Proof.Launch (run_main)

/-- The idealization's frame, off the run. -/
theorem frame_ideal : Cert.quiescent_KernelIdeal := fun m ρ h =>
  (θ_run Cert.KernelIdeal.defs _ _).mono (fun _ r => ⟨fun c => ⟨(r.1 c).1, (r.1 c).2.1, (r.1 c).2.2.1, (r.1 c).2.2.2.1⟩, r.2⟩)
    (run_main (F := Ideal) m ρ fun d j => Pre.in_table _ _ _ _ (h d) j)

/-- The kernel's frame, off the same run: with each named constant read as its pattern, its bodies are the same. -/
theorem frame_kernel : Cert.quiescent_Kernel := fun m ρ h => by
  letI := patterns (F := Bits)
  rw [defs_same]
  exact (θ_run Cert.KernelIdeal.defs Cert.KernelIdeal.threads _).mono
    (fun _ (r : Launch.QC (F := Bits) m _) => ⟨fun c => ⟨(r.1 c).1, (r.1 c).2.1, (r.1 c).2.2.1, (r.1 c).2.2.2.1⟩, r.2⟩)
    (run_main (F := Bits) m ρ fun d j => Pre.in_table _ _ _ _ (h d) j)

/-- The reference's frame: it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what their names say. -/
theorem preserves : Cert.preserves_Kernel_KernelIdeal :=
  ⟨IdealRules.named_const.statement Cert.KernelIdeal.κ "mask" .bf16 0xCE6E#16 ⊥ rfl,
    IdealRules.named_const.statement Cert.KernelIdeal.κ "log2e" .f32 0x3FB8AA3B#32 (((Real.log 2)⁻¹ : ℝ) : EReal) rfl⟩

/-- Over the extended reals, kernel and reference end with the same logarithms. -/
theorem algebraic : Cert.algebraic_KernelIdeal_ReferenceIdeal_pre_pre := by
  intro m ρ m' ρ' hpre hagree
  have hX : ∀ d j, (m (Launch.iLoc d) j : BitVec 32).toNat < 100000 := fun d j => Pre.in_range _ _ _ _ (hpre d) j
  refine ⟨fun c => Launch.Vh m c (Launch.at' Cert.KernelIdeal.main_v20),
    (θ_run Cert.KernelIdeal.defs _ _).mono (fun _ h c => ⟨(h.1 c).2.2.2.2, (h.1 c).1, (h.1 c).2.1, (h.1 c).2.2.1, (h.1 c).2.2.2.1⟩) (run_main (F := Ideal) m ρ hX),
    (θ_run Cert.ReferenceIdeal.defs _ _).mono (fun _ h c => ⟨(h c).1.trans ?_, (h c).2⟩) (Cert.ReferenceIdeal.Value.run (F := Ideal) m' ρ')⟩
  refine (RefValue.result_eq m' c).trans ?_
  rw [(hagree c).1, (hagree c).2.1, (hagree c).2.2.1, (hagree c).2.2.2]
  exact (Launch.result_same m c (hX c) (fun j => Pre.table_real _ _ _ _ (hpre c) j) (fun j => Pre.weights_real _ _ _ _ (hpre c) j)).symm

theorem claim : Cert.Claim :=
  ⟨Cert.Kernel.Gen.facts, Cert.KernelIdeal.Gen.facts, Cert.ReferenceIdeal.Gen.facts, Cert.Pre_in_table.Gen.facts, Cert.Pre_pre.Gen.facts,
    frame_kernel, frame_ideal, fun m ρ h => frame_ideal m ρ fun d => Pre.table_of _ _ _ _ (h d), frame_ref, fun m ρ _ => frame_ref m ρ trivial, preserves, algebraic⟩

end Cert.Proof

end
